-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)) →
    ∃ (v0 : (c : Dev Cert.ScoresIdeal.nD) → Buf (Elt Ideal) ((c.tc : Thread Cert.ScoresIdeal.nD Cert.ScoresIdeal.τ).loc Cert.ScoresIdeal.main_v0)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v0) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v20) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3))

def Claim : Prop :=
  ∃ (hKernelIdeal : Cert.KernelIdeal.Facts) (hReferenceIdeal : Cert.ReferenceIdeal.Facts) (hScores : Cert.Scores.Facts) (hScoresIdeal : Cert.ScoresIdeal.Facts) (hScoresReferenceIdeal : Cert.ScoresReferenceIdeal.Facts),
    quiescent_KernelIdeal (hKernelIdeal := hKernelIdeal)
    ∧ quiescent_ReferenceIdeal (hReferenceIdeal := hReferenceIdeal)
    ∧ quiescent_Scores (hScores := hScores)
    ∧ quiescent_ScoresIdeal (hScoresIdeal := hScoresIdeal)
    ∧ quiescent_ScoresReferenceIdeal (hScoresReferenceIdeal := hScoresReferenceIdeal)
    ∧ algebraic_KernelIdeal_ReferenceIdeal (hKernelIdeal := hKernelIdeal) (hReferenceIdeal := hReferenceIdeal)
    ∧ preserves_Scores_ScoresIdeal
    ∧ algebraic_ScoresIdeal_ScoresReferenceIdeal (hScoresIdeal := hScoresIdeal) (hScoresReferenceIdeal := hScoresReferenceIdeal)
-- ==== KernelIdeal.lean ====
abbrev S87296x91 : Shape := ⟨2, ![87296, 91]⟩
abbrev S87296x4 : Shape := ⟨2, ![87296, 4]⟩
abbrev S87296x1 : Shape := ⟨2, ![87296, 1]⟩
abbrev S91x87296 : Shape := ⟨2, ![91, 87296]⟩
abbrev S1x87296 : Shape := ⟨2, ![1, 87296]⟩
abbrev S4x87296 : Shape := ⟨2, ![4, 87296]⟩
abbrev S10x87296 : Shape := ⟨2, ![10, 87296]⟩
abbrev S91x7936 : Shape := ⟨2, ![91, 7936]⟩
abbrev S1x7936 : Shape := ⟨2, ![1, 7936]⟩
abbrev S4x7936 : Shape := ⟨2, ![4, 7936]⟩
abbrev S10x7936 : Shape := ⟨2, ![10, 7936]⟩
abbrev S7936 : Shape := ⟨1, ![7936]⟩
abbrev S10x341x256 : Shape := ⟨3, ![10, 341, 256]⟩
abbrev S100x1x128 : Shape := ⟨3, ![100, 1, 128]⟩
abbrev S341x256 : Shape := ⟨2, ![341, 256]⟩
abbrev S1x341x256 : Shape := ⟨3, ![1, 341, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x1x256 : Shape := ⟨3, ![1, 1, 256]⟩
abbrev S1x128 : Shape := ⟨2, ![1, 128]⟩
abbrev S1x1x128 : Shape := ⟨3, ![1, 1, 128]⟩
abbrev S100x128 : Shape := ⟨2, ![100, 128]⟩
abbrev S100x4 : Shape := ⟨2, ![100, 4]⟩
abbrev S100x1 : Shape := ⟨2, ![100, 1]⟩
abbrev S100 : Shape := ⟨1, ![100]⟩

abbrev nBuf : Space → Nat
  | .hbm => 18
  | .vmem => 18
  | .smem => 0
  | _ => 0

abbrev bufTy : (tb : Table) → Fin (tcTables nBuf tb) → BufTy
  | .hbm, ⟨0, _⟩ => ⟨S87296x91, .f32⟩
  | .hbm, ⟨1, _⟩ => ⟨S87296x4, .f32⟩
  | .hbm, ⟨2, _⟩ => ⟨S87296x1, .f32⟩
  | .hbm, ⟨3, _⟩ => ⟨S87296x4, .f32⟩
  | .hbm, ⟨4, _⟩ => ⟨S91x87296, .f32⟩
  | .hbm, ⟨5, _⟩ => ⟨S1x87296, .f32⟩
  | .hbm, ⟨6, _⟩ => ⟨S4x87296, .f32⟩
  | .hbm, ⟨7, _⟩ => ⟨S4x87296, .f32⟩
  | .hbm, ⟨8, _⟩ => ⟨S10x87296, .f32⟩
  | .hbm, ⟨9, _⟩ => ⟨S10x341x256, .f32⟩
  | .hbm, ⟨10, _⟩ => ⟨S100x1x128, .f32⟩
  | .hbm, ⟨11, _⟩ => ⟨S100x128, .f32⟩
  | .hbm, ⟨12, _⟩ => ⟨S100x4, .f32⟩
  | .hbm, ⟨13, _⟩ => ⟨S100x1, .f32⟩
  | .hbm, ⟨14, _⟩ => ⟨S100, .f32⟩
  | .hbm, ⟨15, _⟩ => ⟨S100x1, .f32⟩
  | .hbm, ⟨16, _⟩ => ⟨S100, .f32⟩
  | .hbm, ⟨17, _⟩ => ⟨S100, .i32⟩
  | .local _ .vmem, ⟨0, _⟩ => ⟨S91x7936, .f32⟩
  | .local _ .vmem, ⟨1, _⟩ => ⟨S91x7936, .f32⟩
  | .local _ .vmem, ⟨2, _⟩ => ⟨S1x7936, .f32⟩
  | .local _ .vmem, ⟨3, _⟩ => ⟨S1x7936, .f32⟩
  | .local _ .vmem, ⟨4, _⟩ => ⟨S4x7936, .f32⟩
  | .local _ .vmem, ⟨5, _⟩ => ⟨S4x7936, .f32⟩
  | .local _ .vmem, ⟨6, _⟩ => ⟨S4x7936, .f32⟩
  | .local _ .vmem, ⟨7, _⟩ => ⟨S4x7936, .f32⟩
  | .local _ .vmem, ⟨8, _⟩ => ⟨S10x7936, .f32⟩
  | .local _ .vmem, ⟨9, _⟩ => ⟨S10x7936, .f32⟩
  | .local _ .vmem, ⟨10, _⟩ => ⟨S10x341x256, .f32⟩
  | .local _ .vmem, ⟨11, _⟩ => ⟨S100x1x128, .f32⟩
  | .local _ .vmem, ⟨12, _⟩ => ⟨S341x256, .f32⟩
  | .local _ .vmem, ⟨13, _⟩ => ⟨S341x256, .f32⟩
  | .local _ .vmem, ⟨14, _⟩ => ⟨S341x256, .f32⟩
  | .local _ .vmem, ⟨15, _⟩ => ⟨S341x256, .f32⟩
  | .local _ .vmem, ⟨16, _⟩ => ⟨S341x256, .f32⟩
  | .local _ .vmem, ⟨17, _⟩ => ⟨S341x256, .f32⟩
  | _, _ => ⟨S87296x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc1_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S91x7936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7936 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x7936 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x7936 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x7936 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

@[reducible] def k1_t1_loop : Scf.Loop 32 :=
  let c0_i32 : BitVec 32 := 0#32
  let c100_i32 : BitVec 32 := 100#32
  let v68 : BitVec 32 := Scalar.addi c0_i32 c100_i32
  let c1_i32 : BitVec 32 := 1#32
  ⟨c0_i32, v68, c1_i32⟩
def k1_off1 (v82 : BitVec 32) : Fin 2 → Nat :=
  let c8_i32 : BitVec 32 := 8#32
  let v83 : BitVec 32 := Scalar.shrui v82 c8_i32
  let v87 : Index := Scalar.indexCast v83
  let c0_39 : Index := 0#32
  ![v87.toNat, 0]

def k1_off2 (v82 : BitVec 32) : Fin 3 → Nat :=
  let c8_49 : Index := 8#32
  let c8_i32 : BitVec 32 := 8#32
  let v83 : BitVec 32 := Scalar.shrui v82 c8_i32
  let v117 : Index := Scalar.indexCast v83
  let c0_50 : Index := 0#32
  ![8, v117.toNat, 0]
def k1_off3 (v82 : BitVec 32) : Fin 3 → Nat :=
  let c9 : Index := 9#32
  let c8_i32 : BitVec 32 := 8#32
  let v83 : BitVec 32 := Scalar.shrui v82 c8_i32
  let v124 : Index := Scalar.indexCast v83
  let c0_52 : Index := 0#32
  ![9, v124.toNat, 0]

def k1_chk1 (v82 : BitVec 32) : Prop :=
  (∀ a, (k1_off1 v82) a + S1x256.size a ≤ S341x256.size a) ∧
  (∀ a, (k1_off2 v82) a + S1x1x256.size a ≤ S10x341x256.size a) ∧
  (∀ a, (k1_off3 v82) a + S1x1x256.size a ≤ S10x341x256.size a)
theorem k1_off1_inb : ∀ (v82 : BitVec 32) (k1_hw1 : k1_chk1 v82), ∀ a, (k1_off1 v82) a + S1x256.size a ≤ S341x256.size a := fun v82 k1_hw1 => k1_hw1.1
theorem k1_off2_inb : ∀ (v82 : BitVec 32) (k1_hw1 : k1_chk1 v82), ∀ a, (k1_off2 v82) a + S1x1x256.size a ≤ S10x341x256.size a := fun v82 k1_hw1 => k1_hw1.2.1
theorem k1_off3_inb : ∀ (v82 : BitVec 32) (k1_hw1 : k1_chk1 v82), ∀ a, (k1_off3 v82) a + S1x1x256.size a ≤ S10x341x256.size a := fun v82 k1_hw1 => k1_hw1.2.2

def k1_off4 (k1_t1 : Fin k1_t1_loop.trips) : Fin 3 → Nat :=
  let c0_i32 : BitVec 32 := 0#32
  let c1_i32 : BitVec 32 := 1#32
  let arg8 : BitVec 32 := Scf.iv c0_i32 c1_i32 k1_t1
  let v204 : Index := Scalar.indexCast arg8
  let c0_77 : Index := 0#32
  let c0_78 : Index := 0#32
  ![v204.toNat, 0, 0]
abbrev stage1_0 : Fin 1 → Memref sig .tc .vmem S10x341x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S100x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S87296x91 : Shape := ⟨2, ![87296, 91]⟩
abbrev S87296x4 : Shape := ⟨2, ![87296, 4]⟩
abbrev S87296x1 : Shape := ⟨2, ![87296, 1]⟩
abbrev S87296 : Shape := ⟨1, ![87296]⟩
abbrev S_ : Shape := ⟨0, ![]⟩
abbrev S100 : Shape := ⟨1, ![100]⟩
abbrev S1 : Shape := ⟨1, ![1]⟩
abbrev S1x4 : Shape := ⟨2, ![1, 4]⟩
abbrev S4 : Shape := ⟨1, ![4]⟩
abbrev S100x1 : Shape := ⟨2, ![100, 1]⟩
abbrev S100x4 : Shape := ⟨2, ![100, 4]⟩

abbrev nBuf : Space → Nat
  | .hbm => 218
  | .vmem => 0
  | .smem => 0
  | _ => 0

abbrev hbmTy0_0 (i : Nat) : BufTy := match i % 128 with
  | 0 => ⟨S87296x91, .f32⟩
  | 1 => ⟨S87296x4, .f32⟩
  | 2 => ⟨S87296x1, .f32⟩
  | 3 => ⟨S87296x4, .f32⟩
  | 4 => ⟨S87296x1, .f32⟩
  | 5 => ⟨S87296, .f32⟩
  | 6 => ⟨S87296x1, .f32⟩
  | 7 => ⟨S87296, .f32⟩
  | 8 => ⟨S87296, .f32⟩
  | 9 => ⟨S_, .f32⟩
  | 10 => ⟨S87296, .f32⟩
  | 11 => ⟨S87296, .f32⟩
  | 12 => ⟨S87296x1, .f32⟩
  | 13 => ⟨S87296, .f32⟩
  | 14 => ⟨S87296x1, .f32⟩
  | 15 => ⟨S87296, .f32⟩
  | 16 => ⟨S87296, .f32⟩
  | 17 => ⟨S_, .f32⟩
  | 18 => ⟨S87296, .f32⟩
  | 19 => ⟨S87296, .f32⟩
  | 20 => ⟨S87296x1, .f32⟩
  | 21 => ⟨S87296, .f32⟩
  | 22 => ⟨S87296x1, .f32⟩
  | 23 => ⟨S87296, .f32⟩
  | 24 => ⟨S87296, .f32⟩
  | 25 => ⟨S87296x1, .f32⟩
  | 26 => ⟨S87296, .f32⟩
  | 27 => ⟨S87296x1, .f32⟩
  | 28 => ⟨S87296, .f32⟩
  | 29 => ⟨S87296, .f32⟩
  | 30 => ⟨S87296x1, .f32⟩
  | 31 => ⟨S87296, .f32⟩
  | 32 => ⟨S87296, .f32⟩
  | 33 => ⟨S87296x1, .f32⟩
  | 34 => ⟨S87296, .f32⟩
  | 35 => ⟨S87296, .f32⟩
  | 36 => ⟨S87296x1, .f32⟩
  | 37 => ⟨S87296, .f32⟩
  | 38 => ⟨S87296, .f32⟩
  | 39 => ⟨S87296x1, .f32⟩
  | 40 => ⟨S87296, .f32⟩
  | 41 => ⟨S87296, .f32⟩
  | 42 => ⟨S87296, .f32⟩
  | 43 => ⟨S87296, .f32⟩
  | 44 => ⟨S87296, .f32⟩
  | 45 => ⟨S87296, .f32⟩
  | 46 => ⟨S87296x1, .f32⟩
  | 47 => ⟨S87296x1, .f32⟩
  | 48 => ⟨S87296x1, .f32⟩
  | 49 => ⟨S87296x1, .f32⟩
  | 50 => ⟨S87296x4, .f32⟩
  | 51 => ⟨S87296x91, .f32⟩
  | 52 => ⟨S87296x91, .f32⟩
  | 53 => ⟨S_, .f32⟩
  | 54 => ⟨S87296x91, .f32⟩
  | 55 => ⟨S87296x91, .f32⟩
  | 56 => ⟨S_, .f32⟩
  | 57 => ⟨S87296x91, .f32⟩
  | 58 => ⟨S87296x91, .f32⟩
  | 59 => ⟨S87296, .f32⟩
  | 60 => ⟨S87296, .f32⟩
  | 61 => ⟨S87296, .f32⟩
  | 62 => ⟨S_, .f32⟩
  | 63 => ⟨S87296, .f32⟩
  | 64 => ⟨S87296, .f32⟩
  | 65 => ⟨S_, .f32⟩
  | 66 => ⟨S87296, .f32⟩
  | 67 => ⟨S87296, .f32⟩
  | 68 => ⟨S87296x1, .f32⟩
  | 69 => ⟨S87296x91, .f32⟩
  | 70 => ⟨S87296x91, .f32⟩
  | 71 => ⟨S87296x91, .f32⟩
  | 72 => ⟨S_, .f32⟩
  | 73 => ⟨S87296, .f32⟩
  | 74 => ⟨S87296x91, .i32⟩
  | 75 => ⟨S_, .f32⟩
  | 76 => ⟨S_, .i32⟩
  | 77 => ⟨S87296, .f32⟩
  | 78 => ⟨S87296, .i32⟩
  | 79 => ⟨S87296x1, .f32⟩
  | 80 => ⟨S87296, .f32⟩
  | 81 => ⟨S87296x1, .f32⟩
  | 82 => ⟨S87296, .f32⟩
  | 83 => ⟨S87296, .f32⟩
  | 84 => ⟨S_, .f32⟩
  | 85 => ⟨S87296, .f32⟩
  | 86 => ⟨S87296, .f32⟩
  | 87 => ⟨S87296x1, .f32⟩
  | 88 => ⟨S87296, .f32⟩
  | 89 => ⟨S87296x1, .f32⟩
  | 90 => ⟨S87296, .f32⟩
  | 91 => ⟨S87296, .f32⟩
  | 92 => ⟨S_, .f32⟩
  | 93 => ⟨S87296, .f32⟩
  | 94 => ⟨S87296, .f32⟩
  | 95 => ⟨S87296, .f32⟩
  | 96 => ⟨S_, .i32⟩
  | 97 => ⟨S100, .i32⟩
  | 98 => ⟨S_, .i32⟩
  | 99 => ⟨S_, .i32⟩
  | 100 => ⟨S87296x4, .f32⟩
  | 101 => ⟨S87296, .f32⟩
  | 102 => ⟨S_, .i32⟩
  | 103 => ⟨S_, .i32⟩
  | 104 => ⟨S87296, .f32⟩
  | 105 => ⟨S100, .i32⟩
  | 106 => ⟨S_, .i32⟩
  | 107 => ⟨S_, .i1⟩
  | 108 => ⟨S_, .i32⟩
  | 109 => ⟨S_, .i32⟩
  | 110 => ⟨S87296, .i32⟩
  | 111 => ⟨S_, .f32⟩
  | 112 => ⟨S_, .i32⟩
  | 113 => ⟨S_, .f32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S1, .i32⟩
  | 122 => ⟨S100, .i32⟩
  | 123 => ⟨S_, .i32⟩
  | 124 => ⟨S_, .i1⟩
  | 125 => ⟨S_, .i32⟩
  | 126 => ⟨S_, .i32⟩
  | 127 => ⟨S_, .i32⟩
  | _ => ⟨S87296x91, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x4, .f32⟩
  | 9 => ⟨S4, .f32⟩
  | 10 => ⟨S1, .f32⟩
  | 11 => ⟨S_, .f32⟩
  | 12 => ⟨S87296x1, .f32⟩
  | 13 => ⟨S87296, .f32⟩
  | 14 => ⟨S87296, .f32⟩
  | 15 => ⟨S87296, .f32⟩
  | 16 => ⟨S1, .f32⟩
  | 17 => ⟨S_, .f32⟩
  | 18 => ⟨S87296x1, .f32⟩
  | 19 => ⟨S87296, .f32⟩
  | 20 => ⟨S87296, .f32⟩
  | 21 => ⟨S87296, .f32⟩
  | 22 => ⟨S1, .f32⟩
  | 23 => ⟨S_, .f32⟩
  | 24 => ⟨S87296x1, .f32⟩
  | 25 => ⟨S87296, .f32⟩
  | 26 => ⟨S87296, .f32⟩
  | 27 => ⟨S87296, .f32⟩
  | 28 => ⟨S1, .f32⟩
  | 29 => ⟨S_, .f32⟩
  | 30 => ⟨S87296x1, .f32⟩
  | 31 => ⟨S87296, .f32⟩
  | 32 => ⟨S87296, .f32⟩
  | 33 => ⟨S87296, .f32⟩
  | 34 => ⟨S87296, .f32⟩
  | 35 => ⟨S_, .f32⟩
  | 36 => ⟨S87296, .f32⟩
  | 37 => ⟨S87296, .f32⟩
  | 38 => ⟨S87296, .f32⟩
  | 39 => ⟨S_, .f32⟩
  | 40 => ⟨S87296, .f32⟩
  | 41 => ⟨S87296, .f32⟩
  | 42 => ⟨S87296, .f32⟩
  | 43 => ⟨S_, .i32⟩
  | 44 => ⟨S_, .i1⟩
  | 45 => ⟨S_, .i32⟩
  | 46 => ⟨S_, .i32⟩
  | 47 => ⟨S_, .i32⟩
  | 48 => ⟨S1, .f32⟩
  | 49 => ⟨S_, .f32⟩
  | 50 => ⟨S87296, .f32⟩
  | 51 => ⟨S87296, .f32⟩
  | 52 => ⟨S87296, .f32⟩
  | 53 => ⟨S87296, .f32⟩
  | 54 => ⟨S_, .f32⟩
  | 55 => ⟨S87296, .f32⟩
  | 56 => ⟨S87296, .i1⟩
  | 57 => ⟨S_, .f32⟩
  | 58 => ⟨S_, .f32⟩
  | 59 => ⟨S87296, .f32⟩
  | 60 => ⟨S87296, .f32⟩
  | 61 => ⟨S_, .i32⟩
  | 62 => ⟨S_, .i32⟩
  | 63 => ⟨S_, .i32⟩
  | 64 => ⟨S100, .i32⟩
  | 65 => ⟨S100, .i1⟩
  | 66 => ⟨S_, .i32⟩
  | 67 => ⟨S100, .i32⟩
  | 68 => ⟨S100, .i32⟩
  | 69 => ⟨S100, .i32⟩
  | 70 => ⟨S100x1, .i32⟩
  | 71 => ⟨S100x4, .f32⟩
  | 72 => ⟨S_, .i32⟩
  | 73 => ⟨S100, .i32⟩
  | 74 => ⟨S100, .i1⟩
  | 75 => ⟨S_, .i32⟩
  | 76 => ⟨S100, .i32⟩
  | 77 => ⟨S100, .i32⟩
  | 78 => ⟨S100, .i32⟩
  | 79 => ⟨S100x1, .i32⟩
  | 80 => ⟨S100, .i32⟩
  | 81 => ⟨S_, .i32⟩
  | 82 => ⟨S100, .i32⟩
  | 83 => ⟨S100, .i1⟩
  | 84 => ⟨S_, .i32⟩
  | 85 => ⟨S100, .i32⟩
  | 86 => ⟨S100, .i32⟩
  | 87 => ⟨S100, .i32⟩
  | 88 => ⟨S100x1, .i32⟩
  | 89 => ⟨S100, .f32⟩
  | _ => ⟨S87296x91, .f32⟩

abbrev hbmTy (i : Nat) : BufTy := match i / 128 with
  | 0 => hbmTy0_0 i
  | 1 => hbmTy0_1 i
  | _ => ⟨S87296x91, .f32⟩

abbrev bufTy : (tb : Table) → Fin (tcTables nBuf tb) → BufTy
  | .hbm, ⟨i, _⟩ => hbmTy i
  | _, _ => ⟨S87296x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_1 : Ref sig .tc := ⟨.hbm, 53, rfl⟩
abbrev main_v47 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_call0_v0 : Ref sig .tc := ⟨.hbm, 74, rfl⟩
abbrev main_call0_cst : Ref sig .tc := ⟨.hbm, 75, rfl⟩
abbrev main_call0_c : Ref sig .tc := ⟨.hbm, 76, rfl⟩
abbrev main_call0_v1_0 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c : Ref sig .tc := ⟨.hbm, 96, rfl⟩
abbrev main_v79 : Ref sig .tc := ⟨.hbm, 97, rfl⟩
abbrev main_c_8 : Ref sig .tc := ⟨.hbm, 98, rfl⟩
abbrev main_c_9 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev main_v80_3 : Ref sig .tc := ⟨.hbm, 103, rfl⟩
abbrev main_v80_4 : Ref sig .tc := ⟨.hbm, 104, rfl⟩
abbrev main_v80_5 : Ref sig .tc := ⟨.hbm, 105, rfl⟩
abbrev main_while0c_c_21 : Ref sig .tc := ⟨.hbm, 106, rfl⟩
abbrev main_while0c_v102 : Ref sig .tc := ⟨.hbm, 107, rfl⟩
abbrev main_while0b_c_21 : Ref sig .tc := ⟨.hbm, 108, rfl⟩
abbrev main_while0b_v102 : Ref sig .tc := ⟨.hbm, 109, rfl⟩
abbrev main_while0b_call1_v0 : Ref sig .tc := ⟨.hbm, 110, rfl⟩
abbrev main_while0b_call1_cst : Ref sig .tc := ⟨.hbm, 111, rfl⟩
abbrev main_while0b_call1_c : Ref sig .tc := ⟨.hbm, 112, rfl⟩
abbrev main_while0b_call1_v1_0 : Ref sig .tc := ⟨.hbm, 113, rfl⟩
abbrev main_while0b_v103 : Ref sig .tc := ⟨.hbm, 114, rfl⟩
abbrev main_while0b_c_22 : Ref sig .tc := ⟨.hbm, 115, rfl⟩
abbrev main_while0b_v104 : Ref sig .tc := ⟨.hbm, 116, rfl⟩
abbrev main_while0b_c_23 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_c_24 : Ref sig .tc := ⟨.hbm, 123, rfl⟩
abbrev main_while0b_v110 : Ref sig .tc := ⟨.hbm, 124, rfl⟩
abbrev main_while0b_c_25 : Ref sig .tc := ⟨.hbm, 125, rfl⟩
abbrev main_while0b_v111 : Ref sig .tc := ⟨.hbm, 126, rfl⟩
abbrev main_while0b_v112 : Ref sig .tc := ⟨.hbm, 127, rfl⟩
abbrev main_while0b_c_26 : Ref sig .tc := ⟨.hbm, 128, rfl⟩
abbrev main_while0b_c_27 : Ref sig .tc := ⟨.hbm, 129, rfl⟩
abbrev main_while0b_v113 : Ref sig .tc := ⟨.hbm, 130, rfl⟩
abbrev main_while0b_c_28 : Ref sig .tc := ⟨.hbm, 131, rfl⟩
abbrev main_while0b_c_29 : Ref sig .tc := ⟨.hbm, 132, rfl⟩
abbrev main_while0b_v114 : Ref sig .tc := ⟨.hbm, 133, rfl⟩
abbrev main_while0b_c_30 : Ref sig .tc := ⟨.hbm, 134, rfl⟩
abbrev main_while0b_v115 : Ref sig .tc := ⟨.hbm, 135, rfl⟩
abbrev main_while0b_v116 : Ref sig .tc := ⟨.hbm, 136, rfl⟩
abbrev main_while0b_v117 : Ref sig .tc := ⟨.hbm, 137, rfl⟩
abbrev main_while0b_v118 : Ref sig .tc := ⟨.hbm, 138, rfl⟩
abbrev main_while0b_v119 : Ref sig .tc := ⟨.hbm, 139, rfl⟩
abbrev main_while0b_v120 : Ref sig .tc := ⟨.hbm, 140, rfl⟩
abbrev main_while0b_v121 : Ref sig .tc := ⟨.hbm, 141, rfl⟩
abbrev main_while0b_v122 : Ref sig .tc := ⟨.hbm, 142, rfl⟩
abbrev main_while0b_v123 : Ref sig .tc := ⟨.hbm, 143, rfl⟩
abbrev main_while0b_v124 : Ref sig .tc := ⟨.hbm, 144, rfl⟩
abbrev main_while0b_v125 : Ref sig .tc := ⟨.hbm, 145, rfl⟩
abbrev main_while0b_v126 : Ref sig .tc := ⟨.hbm, 146, rfl⟩
abbrev main_while0b_v127 : Ref sig .tc := ⟨.hbm, 147, rfl⟩
abbrev main_while0b_v128 : Ref sig .tc := ⟨.hbm, 148, rfl⟩
abbrev main_while0b_v129 : Ref sig .tc := ⟨.hbm, 149, rfl⟩
abbrev main_while0b_v130 : Ref sig .tc := ⟨.hbm, 150, rfl⟩
abbrev main_while0b_v131 : Ref sig .tc := ⟨.hbm, 151, rfl⟩
abbrev main_while0b_v132 : Ref sig .tc := ⟨.hbm, 152, rfl⟩
abbrev main_while0b_v133 : Ref sig .tc := ⟨.hbm, 153, rfl⟩
abbrev main_while0b_v134 : Ref sig .tc := ⟨.hbm, 154, rfl⟩
abbrev main_while0b_v135 : Ref sig .tc := ⟨.hbm, 155, rfl⟩
abbrev main_while0b_v136 : Ref sig .tc := ⟨.hbm, 156, rfl⟩
abbrev main_while0b_v137 : Ref sig .tc := ⟨.hbm, 157, rfl⟩
abbrev main_while0b_v138 : Ref sig .tc := ⟨.hbm, 158, rfl⟩
abbrev main_while0b_v139 : Ref sig .tc := ⟨.hbm, 159, rfl⟩
abbrev main_while0b_v140 : Ref sig .tc := ⟨.hbm, 160, rfl⟩
abbrev main_while0b_v141 : Ref sig .tc := ⟨.hbm, 161, rfl⟩
abbrev main_while0b_v142 : Ref sig .tc := ⟨.hbm, 162, rfl⟩
abbrev main_while0b_cst_31 : Ref sig .tc := ⟨.hbm, 163, rfl⟩
abbrev main_while0b_v143 : Ref sig .tc := ⟨.hbm, 164, rfl⟩
abbrev main_while0b_v144 : Ref sig .tc := ⟨.hbm, 165, rfl⟩
abbrev main_while0b_v145 : Ref sig .tc := ⟨.hbm, 166, rfl⟩
abbrev main_while0b_cst_32 : Ref sig .tc := ⟨.hbm, 167, rfl⟩
abbrev main_while0b_v146 : Ref sig .tc := ⟨.hbm, 168, rfl⟩
abbrev main_while0b_v147 : Ref sig .tc := ⟨.hbm, 169, rfl⟩
abbrev main_while0b_v148 : Ref sig .tc := ⟨.hbm, 170, rfl⟩
abbrev main_while0b_c_33 : Ref sig .tc := ⟨.hbm, 171, rfl⟩
abbrev main_while0b_v149 : Ref sig .tc := ⟨.hbm, 172, rfl⟩
abbrev main_while0b_c_34 : Ref sig .tc := ⟨.hbm, 173, rfl⟩
abbrev main_while0b_v150 : Ref sig .tc := ⟨.hbm, 174, rfl⟩
abbrev main_while0b_v151 : Ref sig .tc := ⟨.hbm, 175, rfl⟩
abbrev main_while0b_v152 : Ref sig .tc := ⟨.hbm, 176, rfl⟩
abbrev main_while0b_v153 : Ref sig .tc := ⟨.hbm, 177, rfl⟩
abbrev main_while0b_v154 : Ref sig .tc := ⟨.hbm, 178, rfl⟩
abbrev main_while0b_v155 : Ref sig .tc := ⟨.hbm, 179, rfl⟩
abbrev main_while0b_v156 : Ref sig .tc := ⟨.hbm, 180, rfl⟩
abbrev main_while0b_v157 : Ref sig .tc := ⟨.hbm, 181, rfl⟩
abbrev main_while0b_cst_35 : Ref sig .tc := ⟨.hbm, 182, rfl⟩
abbrev main_while0b_v158 : Ref sig .tc := ⟨.hbm, 183, rfl⟩
abbrev main_while0b_v159 : Ref sig .tc := ⟨.hbm, 184, rfl⟩
abbrev main_while0b_cst_36 : Ref sig .tc := ⟨.hbm, 185, rfl⟩
abbrev main_while0b_call2_v0 : Ref sig .tc := ⟨.hbm, 186, rfl⟩
abbrev main_while0b_call2_v1 : Ref sig .tc := ⟨.hbm, 187, rfl⟩
abbrev main_while0b_v160 : Ref sig .tc := ⟨.hbm, 188, rfl⟩
abbrev main_while0b_c_37 : Ref sig .tc := ⟨.hbm, 189, rfl⟩
abbrev main_while0b_v161 : Ref sig .tc := ⟨.hbm, 190, rfl⟩
abbrev main_c_10 : Ref sig .tc := ⟨.hbm, 191, rfl⟩
abbrev main_v81 : Ref sig .tc := ⟨.hbm, 192, rfl⟩
abbrev main_v82 : Ref sig .tc := ⟨.hbm, 193, rfl⟩
abbrev main_c_11 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_c_12 : Ref sig .tc := ⟨.hbm, 200, rfl⟩
abbrev main_v88 : Ref sig .tc := ⟨.hbm, 201, rfl⟩
abbrev main_v89 : Ref sig .tc := ⟨.hbm, 202, rfl⟩
abbrev main_c_13 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_c_14 : Ref sig .tc := ⟨.hbm, 209, rfl⟩
abbrev main_v95 : Ref sig .tc := ⟨.hbm, 210, rfl⟩
abbrev main_v96 : Ref sig .tc := ⟨.hbm, 211, rfl⟩
abbrev main_c_15 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩

abbrev nD : Nat := 1
abbrev τ : Topo := Topo.v7x

variable {F : FTy → Type} [FloatOps F]

abbrev main_while0_count : Scf.Loop 32 := ⟨0#32, 100#32, 1#32⟩
-- ==== Scores.lean ====
abbrev S91x87296 : Shape := ⟨2, ![91, 87296]⟩
abbrev S1x87296 : Shape := ⟨2, ![1, 87296]⟩
abbrev S4x87296 : Shape := ⟨2, ![4, 87296]⟩
abbrev S10x87296 : Shape := ⟨2, ![10, 87296]⟩
abbrev S91x7936 : Shape := ⟨2, ![91, 7936]⟩
abbrev S1x7936 : Shape := ⟨2, ![1, 7936]⟩
abbrev S4x7936 : Shape := ⟨2, ![4, 7936]⟩
abbrev S10x7936 : Shape := ⟨2, ![10, 7936]⟩
abbrev S7936 : Shape := ⟨1, ![7936]⟩

abbrev nBuf : Space → Nat
  | .hbm => 5
  | .vmem => 10
  | .smem => 0
  | _ => 0

abbrev bufTy : (tb : Table) → Fin (tcTables nBuf tb) → BufTy
  | .hbm, ⟨0, _⟩ => ⟨S91x87296, .f32⟩
  | .hbm, ⟨1, _⟩ => ⟨S1x87296, .f32⟩
  | .hbm, ⟨2, _⟩ => ⟨S4x87296, .f32⟩
  | .hbm, ⟨3, _⟩ => ⟨S4x87296, .f32⟩
  | .hbm, ⟨4, _⟩ => ⟨S10x87296, .f32⟩
  | .local _ .vmem, ⟨0, _⟩ => ⟨S91x7936, .f32⟩
  | .local _ .vmem, ⟨1, _⟩ => ⟨S91x7936, .f32⟩
  | .local _ .vmem, ⟨2, _⟩ => ⟨S1x7936, .f32⟩
  | .local _ .vmem, ⟨3, _⟩ => ⟨S1x7936, .f32⟩
  | .local _ .vmem, ⟨4, _⟩ => ⟨S4x7936, .f32⟩
  | .local _ .vmem, ⟨5, _⟩ => ⟨S4x7936, .f32⟩
  | .local _ .vmem, ⟨6, _⟩ => ⟨S4x7936, .f32⟩
  | .local _ .vmem, ⟨7, _⟩ => ⟨S4x7936, .f32⟩
  | .local _ .vmem, ⟨8, _⟩ => ⟨S10x7936, .f32⟩
  | .local _ .vmem, ⟨9, _⟩ => ⟨S10x7936, .f32⟩
  | _, _ => ⟨S91x87296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S91x7936 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7936 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x7936 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x7936 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10x7936 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScoresReferenceIdeal.lean ====
abbrev S91x87296 : Shape := ⟨2, ![91, 87296]⟩
abbrev S1x87296 : Shape := ⟨2, ![1, 87296]⟩
abbrev S4x87296 : Shape := ⟨2, ![4, 87296]⟩
abbrev S_ : Shape := ⟨0, ![]⟩
abbrev S87296 : Shape := ⟨1, ![87296]⟩
abbrev S10x87296 : Shape := ⟨2, ![10, 87296]⟩

abbrev nBuf : Space → Nat
  | .hbm => 34
  | .vmem => 0
  | .smem => 0
  | _ => 0

abbrev bufTy : (tb : Table) → Fin (tcTables nBuf tb) → BufTy
  | .hbm, ⟨0, _⟩ => ⟨S91x87296, .f32⟩
  | .hbm, ⟨1, _⟩ => ⟨S1x87296, .f32⟩
  | .hbm, ⟨2, _⟩ => ⟨S4x87296, .f32⟩
  | .hbm, ⟨3, _⟩ => ⟨S4x87296, .f32⟩
  | .hbm, ⟨4, _⟩ => ⟨S91x87296, .f32⟩
  | .hbm, ⟨5, _⟩ => ⟨S91x87296, .f32⟩
  | .hbm, ⟨6, _⟩ => ⟨S_, .f32⟩
  | .hbm, ⟨7, _⟩ => ⟨S91x87296, .f32⟩
  | .hbm, ⟨8, _⟩ => ⟨S91x87296, .f32⟩
  | .hbm, ⟨9, _⟩ => ⟨S_, .f32⟩
  | .hbm, ⟨10, _⟩ => ⟨S91x87296, .f32⟩
  | .hbm, ⟨11, _⟩ => ⟨S91x87296, .f32⟩
  | .hbm, ⟨12, _⟩ => ⟨S1x87296, .f32⟩
  | .hbm, ⟨13, _⟩ => ⟨S1x87296, .f32⟩
  | .hbm, ⟨14, _⟩ => ⟨S_, .f32⟩
  | .hbm, ⟨15, _⟩ => ⟨S1x87296, .f32⟩
  | .hbm, ⟨16, _⟩ => ⟨S1x87296, .f32⟩
  | .hbm, ⟨17, _⟩ => ⟨S_, .f32⟩
  | .hbm, ⟨18, _⟩ => ⟨S1x87296, .f32⟩
  | .hbm, ⟨19, _⟩ => ⟨S1x87296, .f32⟩
  | .hbm, ⟨20, _⟩ => ⟨S91x87296, .f32⟩
  | .hbm, ⟨21, _⟩ => ⟨S91x87296, .f32⟩
  | .hbm, ⟨22, _⟩ => ⟨S91x87296, .f32⟩
  | .hbm, ⟨23, _⟩ => ⟨S91x87296, .i32⟩
  | .hbm, ⟨24, _⟩ => ⟨S_, .f32⟩
  | .hbm, ⟨25, _⟩ => ⟨S_, .i32⟩
  | .hbm, ⟨26, _⟩ => ⟨S87296, .f32⟩
  | .hbm, ⟨27, _⟩ => ⟨S87296, .i32⟩
  | .hbm, ⟨28, _⟩ => ⟨S_, .f32⟩
  | .hbm, ⟨29, _⟩ => ⟨S87296, .f32⟩
  | .hbm, ⟨30, _⟩ => ⟨S1x87296, .f32⟩
  | .hbm, ⟨31, _⟩ => ⟨S87296, .f32⟩
  | .hbm, ⟨32, _⟩ => ⟨S1x87296, .f32⟩
  | .hbm, ⟨33, _⟩ => ⟨S10x87296, .f32⟩
  | _, _ => ⟨S91x87296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Core.lean ====
/-
  The mathematics both programs compute, over the extended reals: the FIRST MAXIMUM of a finite array of scores, one
  round of greedy suppression, and the sequence of rounds. Beside it the two reductions the kernel takes a first maximum
  by (a maximum, then the least position word among the positions that attain it), read as what they pick out.
-/
module

public import Idealize.ShloMosaic.PureOps
public import Idealize.ShloMosaic.PureOps.Ideal.Laws
public import Idealize.ShloMosaic.PureOps.Reduce
public import Idealize.ShloMosaic.Lib.ValueIdx
public import Idealize.ShloMosaic.Lib.ValueLayout

@[expose] public section

noncomputable section

namespace Cert.Proof.Core

open Idealize.ShloMosaic Idealize.ShloMosaic.ValueIdx

/-! ## The first maximum -/

/-- `n` is the first position at which `s` attains its maximum. -/
def IsBest {N : ℕ} (s : Fin N → EReal) (n : Fin N) : Prop := (∀ m, s m ≤ s n) ∧ ∀ m, m < n → s m < s n

theorem IsBest.unique {N : ℕ} {s : Fin N → EReal} {a b : Fin N} (ha : IsBest s a) (hb : IsBest s b) : a = b := by
  rcases lt_trichotomy a b with h | h | h
  · exact absurd (ha.1 b) (not_le.2 (hb.2 a h))
  · exact h
  · exact absurd (hb.1 a) (not_le.2 (ha.2 b h))

theorem exists_best {N : ℕ} (hN : 0 < N) (s : Fin N → EReal) : ∃ n, IsBest s n := by
  classical
  haveI : Nonempty (Fin N) := ⟨⟨0, hN⟩⟩
  obtain ⟨m, hm⟩ := Finite.exists_max s
  have hne : (Finset.univ.filter fun n => s n = s m).Nonempty := ⟨m, by simp⟩
  refine ⟨(Finset.univ.filter fun n => s n = s m).min' hne, ?_, ?_⟩
  · intro k
    rw [(Finset.mem_filter.1 (Finset.min'_mem _ hne)).2]; exact hm k
  · intro k hk
    rw [(Finset.mem_filter.1 (Finset.min'_mem _ hne)).2]
    refine lt_of_le_of_ne (hm k) fun e => ?_
    exact absurd (Finset.min'_le _ k (by simp [e])) (not_le.2 hk)

/-- The first maximum. -/
def best {N : ℕ} (hN : 0 < N) (s : Fin N → EReal) : Fin N := (exists_best hN s).choose

theorem best_spec {N : ℕ} (hN : 0 < N) (s : Fin N → EReal) : IsBest s (best hN s) := (exists_best hN s).choose_spec

theorem IsBest.eq_best {N : ℕ} {s : Fin N → EReal} {a : Fin N} (hN : 0 < N) (h : IsBest s a) : a = best hN s :=
  h.unique (best_spec hN s)

/-! ## Greedy suppression -/

/-- The number of candidate boxes. -/
abbrev N : ℕ := 87296
theorem hN : 0 < N := by decide

/-- The boxes' edges and areas. -/
structure Boxes where
  x1 : Fin N → EReal
  y1 : Fin N → EReal
  x2 : Fin N → EReal
  y2 : Fin N → EReal
  ar : Fin N → EReal

/-- The area the boxes `b` and `n` share. -/
def inter (B : Boxes) (b n : Fin N) : EReal :=
  max (min (B.x2 n) (B.x2 b) - max (B.x1 n) (B.x1 b)) 0 * max (min (B.y2 n) (B.y2 b) - max (B.y1 n) (B.y1 b)) 0

/-- Whether their intersection over union passes the threshold. -/
def Over (B : Boxes) (b n : Fin N) : Prop :=
  Ideal.ofBits .f32 0x3F19999A#32 < Ideal.div (inter B b n) (B.ar b + B.ar n - inter B b n)

open Classical in
/-- The scores after the box `b` has been taken. -/
def suppress (B : Boxes) (b : Fin N) (s : Fin N → EReal) : Fin N → EReal := fun n => if Over B b n then ⊥ else s n

/-- The scores before round `k`. -/
def scores (B : Boxes) (s : Fin N → EReal) : ℕ → Fin N → EReal
  | 0 => s
  | k + 1 => suppress B (best hN (scores B s k)) (scores B s k)

/-- The box taken in round `k`. -/
def pick (B : Boxes) (s : Fin N → EReal) (k : ℕ) : Fin N := best hN (scores B s k)

theorem scores_succ (B : Boxes) (s : Fin N → EReal) (k : ℕ) :
    scores B s (k + 1) = suppress B (pick B s k) (scores B s k) := rfl

/-! ## Words -/

theorem ofBits_negInf : Ideal.ofBits .f32 0xFF800000#32 = ⊥ := by simp [Ideal.ofBits, Ideal.ieee]

theorem cmp_oeq_one (x y : EReal) : Ideal.cmp .oeq x y = 1#1 ↔ x = y := by
  by_cases h : x = y <;> simp [Ideal.cmp, h]

theorem cmp_ogt_one (x y : EReal) : Ideal.cmp .ogt x y = 1#1 ↔ y < x := by
  by_cases h : y < x <;> simp [Ideal.cmp, h]

theorem scalar_select_iff {α : Type} {c : BitVec 1} {P : Prop} [Decidable P] (h : c = 1#1 ↔ P) (a b : α) :
    Scalar.select c a b = if P then a else b := by
  by_cases hP : P
  · rw [if_pos hP, h.2 hP]; rfl
  · rw [if_neg hP, eq_zero_of_ne_one (fun e => hP (h.1 e))]; rfl

theorem cmpi_eq_one {w : ℕ} (x y : BitVec w) : IntOp.cmpi .eq x y = 1#1 ↔ x = y := by
  by_cases h : x = y
  · simp [IntOp.cmpi, h]
  · have : (x == y) = false := by simpa using h
    simp [IntOp.cmpi, h, this]

theorem toInt_ofNat32 {n : ℕ} (h : n < 2 ^ 31) : (BitVec.ofNat 32 n).toInt = n := by
  rw [BitVec.toInt_eq_toNat_of_lt (by rw [BitVec.toNat_ofNat, Nat.mod_eq_of_lt (by omega)]; omega)]
  rw [BitVec.toNat_ofNat, Nat.mod_eq_of_lt (by omega)]

/-! ## Reductions over a finite index -/

theorem fold_max_le {n : ℕ} (f : Fin n → EReal) (k : Fin n) :
    f k ≤ (Finset.univ : Finset (Fin n)).fold max ⊥ f := by
  rw [Finset.le_fold_max]; exact Or.inr ⟨k, Finset.mem_univ k, le_rfl⟩

theorem fold_max_attained {n : ℕ} (hn : 0 < n) (f : Fin n → EReal) :
    ∃ k, f k = (Finset.univ : Finset (Fin n)).fold max ⊥ f := by
  haveI : Nonempty (Fin n) := ⟨⟨0, hn⟩⟩
  obtain ⟨m, hm⟩ := Finite.exists_max f
  refine ⟨m, le_antisymm (fold_max_le f m) ?_⟩
  rw [Finset.fold_max_le]; exact ⟨bot_le, fun x _ => hm x⟩

theorem fold_minsi_spec {ι : Type} (S : Finset ι) (acc : BitVec 32) (w : ι → BitVec 32) :
    (S.fold IKind.minsi.op acc w).toInt ≤ acc.toInt
    ∧ (∀ k ∈ S, (S.fold IKind.minsi.op acc w).toInt ≤ (w k).toInt)
    ∧ (S.fold IKind.minsi.op acc w = acc ∨ ∃ k ∈ S, S.fold IKind.minsi.op acc w = w k) := by
  classical
  induction S using Finset.induction_on with
  | empty => simp
  | insert a S ha ih =>
    rw [Finset.fold_insert ha]
    generalize S.fold IKind.minsi.op acc w = m at ih
    obtain ⟨h0, h1, h2⟩ := ih
    show (IntOp.minsi (w a) m).toInt ≤ _ ∧ _
    by_cases hlt : (w a).slt m
    · have hi : (w a).toInt < m.toInt := by simpa [BitVec.slt] using hlt
      have e : IntOp.minsi (w a) m = w a := by simp [IntOp.minsi, hlt]
      have e' : IKind.minsi.op (w a) m = w a := e
      rw [e, e']
      refine ⟨by omega, fun k hk => ?_, Or.inr ⟨a, Finset.mem_insert_self _ _, rfl⟩⟩
      rcases Finset.mem_insert.1 hk with rfl | hk
      · exact le_rfl
      · have := h1 k hk; omega
    · have hi : m.toInt ≤ (w a).toInt := by simpa [BitVec.slt] using hlt
      have e : IntOp.minsi (w a) m = m := by simp [IntOp.minsi, hlt]
      have e' : IKind.minsi.op (w a) m = m := e
      rw [e, e']
      refine ⟨h0, fun k hk => ?_, ?_⟩
      · rcases Finset.mem_insert.1 hk with rfl | hk
        · exact hi
        · exact h1 k hk
      · rcases h2 with h2 | ⟨k, hk, h2⟩
        · exact Or.inl h2
        · exact Or.inr ⟨k, Finset.mem_insert_of_mem hk, h2⟩

/-- The least position word among the positions attaining the maximum: it is the word of one of them, and no other of
    them has a lesser word. `big` stands in at the positions that do not attain it. -/
theorem fold_minsi_attaining {n : ℕ} (f : Fin n → EReal) (M : EReal) (hM : ∃ k, f k = M) (w v : Fin n → BitVec 32) (big : BitVec 32)
    (hw : ∀ k, (w k).toInt < big.toInt) (hbig : big.toInt ≤ 2147483647)
    (hv : ∀ k, v k = Scalar.select (Ideal.cmp .oeq (f k) M) (w k) big) :
    ∃ k, f k = M ∧ (Finset.univ : Finset (Fin n)).fold IKind.minsi.op 2147483647#32 v = w k
      ∧ ∀ k', f k' = M → (w k).toInt ≤ (w k').toInt := by
  classical
  obtain ⟨h0, h1, h2⟩ := fold_minsi_spec (Finset.univ : Finset (Fin n)) 2147483647#32 v
  generalize (Finset.univ : Finset (Fin n)).fold IKind.minsi.op 2147483647#32 v = m at h0 h1 h2
  have hv' : ∀ k, v k = if f k = M then w k else big := fun k => by
    rw [hv k, scalar_select_iff (cmp_oeq_one _ _)]
  obtain ⟨k0, hk0⟩ := hM
  have hk0' := h1 k0 (Finset.mem_univ _)
  rw [hv' k0, if_pos hk0] at hk0'
  have hlt := hw k0
  rcases h2 with h2 | ⟨k, -, h2⟩
  · have : m.toInt = 2147483647 := by rw [h2]; decide
    omega
  · rw [hv' k] at h2
    by_cases hk : f k = M
    · rw [if_pos hk] at h2
      refine ⟨k, hk, h2, fun k' hk' => ?_⟩
      have := h1 k' (Finset.mem_univ _)
      rw [hv' k', if_pos hk', h2] at this; exact this
    · rw [if_neg hk] at h2; rw [h2] at hk0'; omega

/-- The same as a first maximum, the words being the positions' numbers. -/
theorem fold_minsi_best {n : ℕ} (f : Fin n → EReal) (M : EReal) (hM : ∃ k, f k = M) (hle : ∀ k, f k ≤ M) (v : Fin n → BitVec 32)
    (hn : n < 2 ^ 31) (hv : ∀ k, v k = Scalar.select (Ideal.cmp .oeq (f k) M) (BitVec.ofNat 32 k.val) (BitVec.ofNat 32 n)) :
    ∃ k, f k = M ∧ IsBest f k ∧ (Finset.univ : Finset (Fin n)).fold IKind.minsi.op 2147483647#32 v = BitVec.ofNat 32 k.val := by
  obtain ⟨k, hk, hm, hmin⟩ := fold_minsi_attaining f M hM (fun k => BitVec.ofNat 32 k.val) v (BitVec.ofNat 32 n)
    (fun k => by rw [toInt_ofNat32 hn, toInt_ofNat32 (by omega)]; have := k.isLt; omega)
    (by rw [toInt_ofNat32 hn]; omega) hv
  refine ⟨k, hk, ⟨fun m => hk ▸ hle m, fun m hmk => ?_⟩, hm⟩
  refine lt_of_le_of_ne (hk ▸ hle m) fun e => ?_
  have := hmin m (e.trans hk)
  rw [toInt_ofNat32 (by omega), toInt_ofNat32 (by omega)] at this
  have h3 : m.val < k.val := hmk
  omega

/-- The maximum of a row in which every position but one is masked out is the value at that one. -/
theorem fold_max_masked {n : ℕ} (f : Fin n → EReal) (c : Fin n) (v : Fin n → EReal)
    (hv : ∀ k, v k = if k = c then f k else ⊥) : (Finset.univ : Finset (Fin n)).fold max ⊥ v = f c := by
  refine le_antisymm ?_ ?_
  · rw [Finset.fold_max_le]
    refine ⟨bot_le, fun k _ => ?_⟩
    rw [hv k]; split
    · next h => rw [h]
    · exact bot_le
  · have := fold_max_le v c
    rwa [hv c, if_pos rfl] at this

end Cert.Proof.Core

end
-- ==== Proof.Pay.lean ====
/-
  The kernel's pure values at the extended reals, read against the mathematics of Core: what the column maxima and the
  rows they are first attained at are, the position word the kernel picks, the picked box's entries, the suppressed
  scores, and the row of results.
-/
module

public import proofs.«01_k».proof.Proof.Core
public import proofs.«01_k».proof.Proof.Gen.KernelIdeal.Skeleton

@[expose] public section

set_option synthInstance.maxSize 4096

noncomputable section

namespace Cert.Proof.Pay

open Idealize.ShloMosaic Idealize.ShloMosaic.ValueIdx Cert.Proof.Core
open Cert.KernelIdeal Cert.KernelIdeal.Gen

/-! ## Reductions of a matrix down its columns, and of one row -/

theorem lift_col {a b : ℕ} (h : (⟨2, ![a, b]⟩ : Shape).Reduces [0] ⟨1, ![b]⟩) (c : Fin b) (k : Fin a) :
    h.lift (ix1 c) k = ix2 k c := by
  funext d; match d with | ⟨0, _⟩ => rfl | ⟨1, _⟩ => rfl

theorem lift_row {a b : ℕ} (h : (⟨2, ![a, b]⟩ : Shape).Reduces [1] ⟨1, ![a]⟩) (r : Fin a) (k : Fin b) :
    h.lift (ix1 r) k = ix2 r k := by
  funext d; match d with | ⟨0, _⟩ => rfl | ⟨1, _⟩ => rfl

theorem colMax {a b : ℕ} (src : FVec Ideal ⟨2, ![a, b]⟩ .f32) (h : (⟨2, ![a, b]⟩ : Shape).Reduces [0] ⟨1, ![b]⟩)
    (hφ : FKind.Formats .f32) (hacc : 0xFF800000#32 = FKind.maximumf.neutral .f32 hφ) (c : Fin b) :
    multiReduction .maximumf [0] ⟨1, ![b]⟩ src 0xFF800000#32 h hφ hacc (ix1 c)
      = (Finset.univ : Finset (Fin a)).fold max ⊥ fun k => src (ix2 k c) := by
  rw [Ideal.multiReduction_maximumf_single]
  show Finset.fold max (Ideal.ofBits .f32 0xFF800000#32) _ _ = _
  rw [ofBits_negInf]
  refine congrArg (fun f => Finset.fold max ⊥ f Finset.univ) (funext fun k => ?_)
  exact congrArg src (lift_col h c k)

theorem rowMax {b : ℕ} (src : FVec Ideal ⟨2, ![1, b]⟩ .f32) (h : (⟨2, ![1, b]⟩ : Shape).Reduces [1] ⟨1, ![1]⟩)
    (hφ : FKind.Formats .f32) (hacc : 0xFF800000#32 = FKind.maximumf.neutral .f32 hφ) (r : Fin 1) :
    multiReduction .maximumf [1] ⟨1, ![1]⟩ src 0xFF800000#32 h hφ hacc (ix1 r)
      = (Finset.univ : Finset (Fin b)).fold max ⊥ fun k => src (ix2 r k) := by
  rw [Ideal.multiReduction_maximumf_single]
  show Finset.fold max (Ideal.ofBits .f32 0xFF800000#32) _ _ = _
  rw [ofBits_negInf]
  refine congrArg (fun f => Finset.fold max ⊥ f Finset.univ) (funext fun k => ?_)
  exact congrArg src (lift_row h r k)

theorem colMin {a b : ℕ} (src : IVec ⟨2, ![a, b]⟩ 32) (h : (⟨2, ![a, b]⟩ : Shape).Reduces [0] ⟨1, ![b]⟩)
    (hacc : 2147483647#32 = IKind.minsi.neutral) (c : Fin b) :
    multiReductionI .minsi [0] ⟨1, ![b]⟩ src 2147483647#32 h hacc (ix1 c)
      = (Finset.univ : Finset (Fin a)).fold IKind.minsi.op 2147483647#32 fun k => src (ix2 k c) := by
  classical
  rw [multiReductionI_eq_fold, h.fold_filter_drop_single]
  refine congrArg (fun f => Finset.fold IKind.minsi.op 2147483647#32 f Finset.univ) (funext fun k => ?_)
  exact congrArg src (lift_col h c k)

theorem rowMin {b : ℕ} (src : IVec ⟨2, ![1, b]⟩ 32) (h : (⟨2, ![1, b]⟩ : Shape).Reduces [1] ⟨1, ![1]⟩)
    (hacc : 2147483647#32 = IKind.minsi.neutral) (r : Fin 1) :
    multiReductionI .minsi [1] ⟨1, ![1]⟩ src 2147483647#32 h hacc (ix1 r)
      = (Finset.univ : Finset (Fin b)).fold IKind.minsi.op 2147483647#32 fun k => src (ix2 r k) := by
  classical
  rw [multiReductionI_eq_fold, h.fold_filter_drop_single]
  refine congrArg (fun f => Finset.fold IKind.minsi.op 2147483647#32 f Finset.univ) (funext fun k => ?_)
  exact congrArg src (lift_row h r k)

/-- One element broadcast over a matrix. -/
theorem broadcastTo_11_apply {α : Type} {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 0 0) :=
  broadcastTo_apply v h j (ix2 0 0) fun ax => by match ax with | ⟨0, _⟩ => rfl | ⟨1, _⟩ => rfl

theorem shapeCast_self {α : Type} {s : Shape} (x : s.Idx → α) (h : s.ShapeCasts s) : shapeCast s x h = x := by
  funext j; exact shapeCast_apply x h j j rfl

/-- A column's first maximum as the kernel takes it: the maximum, then the least row number among the rows attaining it. -/
theorem firstRow {a b : ℕ} (ha : 0 < a) (ha' : a < 2 ^ 31) (src : FVec Ideal ⟨2, ![a, b]⟩ .f32)
    (h : (⟨2, ![a, b]⟩ : Shape).Reduces [0] ⟨1, ![b]⟩) (hφ : FKind.Formats .f32)
    (hacc : 0xFF800000#32 = FKind.maximumf.neutral .f32 hφ) (hacc' : 2147483647#32 = IKind.minsi.neutral)
    (mx : FVec Ideal ⟨1, ![b]⟩ .f32) (hmx : mx = multiReduction .maximumf [0] ⟨1, ![b]⟩ src 0xFF800000#32 h hφ hacc)
    (hc : (⟨1, ![b]⟩ : Shape).ShapeCasts ⟨2, ![1, b]⟩) (hb : (⟨2, ![1, b]⟩ : Shape).Broadcasts ⟨2, ![a, b]⟩)
    (hi : (⟨2, ![a, b]⟩ : Shape).Iotas .tc 32 [0]) (c : Fin b) :
    ∃ r : Fin a, IsBest (fun k => (src (ix2 k c) : EReal)) r ∧ mx (ix1 c) = src (ix2 r c)
      ∧ multiReductionI .minsi [0] ⟨1, ![b]⟩
          (select (cmpf .oeq src (broadcastTo ⟨2, ![a, b]⟩ (shapeCast ⟨2, ![1, b]⟩ mx hc) hb))
            (iota .tc ⟨2, ![a, b]⟩ 32 [0] hi) (broadcast ⟨2, ![a, b]⟩ (BitVec.ofNat 32 a))) 2147483647#32 h hacc' (ix1 c)
        = BitVec.ofNat 32 r.val := by
  have hM : mx (ix1 c) = (Finset.univ : Finset (Fin a)).fold max ⊥ fun k => (src (ix2 k c) : EReal) := by rw [hmx, colMax]
  rw [colMin]
  obtain ⟨r, hr, hb', hw⟩ := fold_minsi_best (fun k => (src (ix2 k c) : EReal)) (mx (ix1 c))
    (by rw [hM]; exact fold_max_attained ha _) (fun k => by rw [hM]; exact fold_max_le (fun k => (src (ix2 k c) : EReal)) k)
    (fun k => select (cmpf .oeq src (broadcastTo ⟨2, ![a, b]⟩ (shapeCast ⟨2, ![1, b]⟩ mx hc) hb))
            (iota .tc ⟨2, ![a, b]⟩ 32 [0] hi) (broadcast ⟨2, ![a, b]⟩ (BitVec.ofNat 32 a)) (ix2 k c)) ha' (fun k => by
      have e : broadcastTo ⟨2, ![a, b]⟩ (shapeCast ⟨2, ![1, b]⟩ mx hc) hb (ix2 k c) = mx (ix1 c) := by
        rw [broadcastTo_1b_ab_apply, shapeCast_a_1a_apply]
      show Scalar.select (Ideal.cmp .oeq (src (ix2 k c)) (broadcastTo ⟨2, ![a, b]⟩ (shapeCast ⟨2, ![1, b]⟩ mx hc) hb (ix2 k c)))
        (BitVec.ofNat 32 (0 * a + k.val)) _ = _
      rw [e, Nat.zero_mul, Nat.zero_add]; rfl)
  exact ⟨r, hb', hr.symm, hw⟩

/-! ## The scores as a matrix of 341 rows and 256 columns -/

/-- The position of row `r`, column `c`. -/
abbrev flat (r : Fin 341) (c : Fin 256) : Fin N := ⟨256 * r.val + c.val, by have := r.isLt; have := c.isLt; show _ < 87296; omega⟩
/-- A position's row. -/
abbrev rowOf (n : Fin N) : Fin 341 := ⟨n.val / 256, by have : n.val < 87296 := n.isLt; omega⟩
/-- A position's column. -/
abbrev colOf (n : Fin N) : Fin 256 := ⟨n.val % 256, by omega⟩

theorem flat_row_col (n : Fin N) : flat (rowOf n) (colOf n) = n := Fin.ext (by show 256 * (n.val / 256) + n.val % 256 = n.val; omega)

/-- An array of positions laid out as the kernel's matrix. -/
def mat (s : Fin N → EReal) : FVec Ideal S341x256 .f32 := fun i => s (flat (i 0) (i 1))

theorem mat_ix2 (s : Fin N → EReal) (r : Fin 341) (c : Fin 256) : mat s (ix2 r c) = s (flat r c) := rfl

theorem mat_ext {s t : Fin N → EReal} (h : mat s = mat t) : s = t := by
  funext n; have := congrFun h (ix2 (rowOf n) (colOf n)); rwa [mat_ix2, mat_ix2, flat_row_col] at this

/-- What the loop carries: each column's maximum, and the first row it is attained at. -/
def Cols (s : Fin N → EReal) (cm : FVec Ideal S1x256 .f32) (cr : IVec S1x256 32) : Prop :=
  ∀ c : Fin 256, ∃ r : Fin 341, IsBest (fun k => s (flat k c)) r ∧ cm (ix2 0 c) = s (flat r c) ∧ cr (ix2 0 c) = BitVec.ofNat 32 r.val

theorem cols_start (s : Fin N → EReal) (v54 : Vec Ideal S1x341x256 .f32) (h : k1_pay37 v54 = mat s) :
    Cols s (k1_pay39 v54) (k1_pay40 v54) := by
  intro c
  obtain ⟨r, h1, h2, h3⟩ := firstRow (a := 341) (b := 256) (by decide) (by decide) (mat s) Facts₀.reduces_S341x256_S256 (.inl rfl) rfl rfl _ rfl
    Facts₀.shapeCasts_S256_S1x256 Facts₀.broadcasts_S1x256_S341x256 Facts₀.iota_S341x256_d0_w32 c
  refine ⟨r, h1, ?_, ?_⟩
  · unfold k1_pay39; dsimp only; rw [h]; exact (shapeCast_a_1a_apply _ _ _ _).trans h2
  · unfold k1_pay40 k1_pay39; dsimp only; rw [h]; exact (shapeCast_a_1a_apply _ _ _ _).trans h3

theorem cols_next (s : Fin N → EReal) (v116 : FVec Ideal S1x1 .f32) (v131 v150 v151 : FVec Ideal S341x256 .f32) (cst : Ideal .f32)
    (h : k1_pay12 cst v116 v131 v150 v151 = mat s) :
    Cols s (k1_pay14 cst v116 v131 v150 v151)
      (k1_pay15 (iota .tc S341x256 32 [0] Facts₀.iota_S341x256_d0_w32) cst v116 v131 v150 v151) := by
  intro c
  obtain ⟨r, h1, h2, h3⟩ := firstRow (a := 341) (b := 256) (by decide) (by decide) (mat s) Facts₀.reduces_S341x256_S256 (.inl rfl) rfl rfl _ rfl
    Facts₀.shapeCasts_S256_S1x256 Facts₀.broadcasts_S1x256_S341x256 Facts₀.iota_S341x256_d0_w32 c
  refine ⟨r, h1, ?_, ?_⟩
  · unfold k1_pay14; dsimp only; rw [h]; exact (shapeCast_a_1a_apply _ _ _ _).trans h2
  · unfold k1_pay15 k1_pay14; dsimp only; rw [h]; exact (shapeCast_a_1a_apply _ _ _ _).trans h3

/-! ## The picked position -/

theorem word_rc (r : Fin 341) (c : Fin 256) :
    IntOp.addi (IntOp.muli (BitVec.ofNat 32 r.val) 256#32) (BitVec.ofNat 32 c.val) = BitVec.ofNat 32 (256 * r.val + c.val) := by
  have := r.isLt; have := c.isLt
  apply BitVec.eq_of_toNat_eq
  simp only [IntOp.addi, IntOp.muli, BitVec.toNat_add, BitVec.toNat_mul, BitVec.toNat_ofNat]
  omega

/-- The kernel's pick: the position word of the first maximum over the whole matrix. -/
theorem pick_eq (s : Fin N → EReal) (cm : FVec Ideal S1x256 .f32) (cr : IVec S1x256 32) (h : Cols s cm cr) :
    k1_pay2 cm cr = fun _ => BitVec.ofNat 32 (best hN s).val := by
  choose R hR using h
  have hM : ∀ j, multiReduction .maximumf [1] S1 cm 0xFF800000#32 Facts₀.reduces_S1x256_S1 (.inl rfl) rfl (ix1 j)
      = (Finset.univ : Finset (Fin 256)).fold max ⊥ fun c => s (flat (R c) c) := fun j => by
    refine (rowMax _ _ _ _ _).trans ?_
    refine congrArg (fun f => Finset.fold max ⊥ f Finset.univ) (funext fun k => ?_)
    rw [Fin.fin_one_eq_zero j]; exact (hR k).2.1
  obtain ⟨c, hc, hw, hmin⟩ := fold_minsi_attaining (fun c => s (flat (R c) c)) _ (fold_max_attained (by decide) _)
    (fun c => BitVec.ofNat 32 (flat (R c) c).val)
    (fun c => Scalar.select (Ideal.cmp .oeq (s (flat (R c) c)) ((Finset.univ : Finset (Fin 256)).fold max ⊥ fun c => s (flat (R c) c)))
      (BitVec.ofNat 32 (flat (R c) c).val) 87296#32)
    87296#32 (fun k => by
      have h1 : (87296#32).toInt = 87296 := by decide
      have h2 : (flat (R k) k).val < 87296 := (flat (R k) k).isLt
      rw [toInt_ofNat32 (by omega), h1]; omega) (by decide) (fun k => rfl)
  have hbest : IsBest s (flat (R c) c) := by
    have hle : ∀ m, s m ≤ s (flat (R (colOf m)) (colOf m)) := fun m => by
      have h7 : s (flat (rowOf m) (colOf m)) ≤ s (flat (R (colOf m)) (colOf m)) := (hR (colOf m)).1.1 (rowOf m)
      rwa [flat_row_col] at h7
    have hle' : ∀ m, s m ≤ s (flat (R c) c) := fun m => by
      rw [hc]; exact (hle m).trans (fold_max_le (fun c => s (flat (R c) c)) (colOf m))
    refine ⟨hle', fun m hm => lt_of_le_of_ne (hle' m) fun e => ?_⟩
    -- then `m`'s column attains the maximum at a row no later than `m`'s
    have e1 : s (flat (R (colOf m)) (colOf m)) = s (flat (R c) c) :=
      le_antisymm (hle' _) (e ▸ hle m)
    have h2 := hmin (colOf m) (e1.trans hc)
    have l1 : (flat (R c) c).val < 87296 := (flat (R c) c).isLt
    have l2 : (flat (R (colOf m)) (colOf m)).val < 87296 := (flat (R (colOf m)) (colOf m)).isLt
    rw [toInt_ofNat32 (by omega), toInt_ofNat32 (by omega)] at h2
    have h3 : ¬ rowOf m < R (colOf m) := fun hlt => by
      have h7 : s (flat (rowOf m) (colOf m)) < s (flat (R (colOf m)) (colOf m)) := (hR (colOf m)).1.2 (rowOf m) hlt
      rw [flat_row_col, e1, e] at h7; exact lt_irrefl _ h7
    have h4 : (R (colOf m)).val ≤ m.val / 256 := by
      have : ¬ (m.val / 256 < (R (colOf m)).val) := h3
      omega
    have h5 : (256 * (R c).val + c.val : ℤ) ≤ 256 * (R (colOf m)).val + m.val % 256 := by exact_mod_cast h2
    have h6 : m.val < 256 * (R c).val + c.val := hm
    omega
  funext i
  rw [← hbest.eq_best hN, ← hw]
  have ei : i = ix2 0 0 := by
    rw [eq_ix2 i, Fin.fin_one_eq_zero (i 0), Fin.fin_one_eq_zero (i 1)]; rfl
  rw [ei]
  unfold k1_pay2
  dsimp only
  refine (shapeCast_a_1a_apply _ _ _ _).trans ((rowMin _ _ _ _).trans ?_)
  refine congrArg (fun f => Finset.fold IKind.minsi.op 2147483647#32 f Finset.univ) (funext fun k => ?_)
  have e : broadcastTo S1x256 (shapeCast S1x1 (multiReduction .maximumf [1] S1 cm 0xFF800000#32 Facts₀.reduces_S1x256_S1 (.inl rfl) rfl)
      Facts₀.shapeCasts_S1_S1x1) Facts₀.broadcasts_S1x1_S1x256 (ix2 0 k)
      = (Finset.univ : Finset (Fin 256)).fold max ⊥ fun c => s (flat (R c) c) := by
    exact (broadcastTo_11_apply _ _ _).trans ((shapeCast_a_1a_apply _ _ _ _).trans (hM _))
  show Scalar.select (Ideal.cmp .oeq (cm (ix2 0 k)) _) (IntOp.addi (IntOp.muli (cr (ix2 0 k)) 256#32) (BitVec.ofNat 32 (0 * 256 + k.val))) _ = _
  rw [e, (hR k).2.1, (hR k).2.2, Nat.zero_mul, Nat.zero_add, word_rc]
  rfl

/-- The picked word. -/
abbrev word (n : Fin N) : BitVec 32 := BitVec.ofNat 32 n.val

theorem word_toNat (n : Fin N) : (word n).toNat = n.val := by
  have : n.val < 87296 := n.isLt; rw [BitVec.toNat_ofNat, Nat.mod_eq_of_lt (by omega)]

theorem off1_word (n : Fin N) : k1_off1 (word n) = ![(rowOf n).val, 0] := by
  have h : (word n >>> 8).toNat = n.val / 256 := by
    rw [BitVec.toNat_ushiftRight, word_toNat, Nat.shiftRight_eq_div_pow]
  show ![(Scalar.indexCast (Scalar.shrui (word n) 8#32)).toNat, 0] = _
  have e : (Scalar.indexCast (Scalar.shrui (word n) 8#32)).toNat = n.val / 256 := h
  rw [e]

theorem off2_word (n : Fin N) : k1_off2 (word n) = ![8, (rowOf n).val, 0] := by
  have := congrFun (off1_word n) 0
  show ![8, k1_off1 (word n) 0, 0] = _
  rw [this]; rfl

theorem off3_word (n : Fin N) : k1_off3 (word n) = ![9, (rowOf n).val, 0] := by
  have := congrFun (off1_word n) 0
  show ![9, k1_off1 (word n) 0, 0] = _
  rw [this]; rfl

theorem chk1_word (n : Fin N) : k1_chk1 (word n) := by
  have hr := (rowOf n).isLt
  refine ⟨?_, ?_, ?_⟩
  · rw [off1_word]; intro a
    match a with
    | ⟨0, _⟩ => show (rowOf n).val + 1 ≤ 341; omega
    | ⟨1, _⟩ => show 0 + 256 ≤ 256; omega
  · rw [off2_word]; intro a
    match a with
    | ⟨0, _⟩ => show 8 + 1 ≤ 10; omega
    | ⟨1, _⟩ => show (rowOf n).val + 1 ≤ 341; omega
    | ⟨2, _⟩ => show 0 + 256 ≤ 256; omega
  · rw [off3_word]; intro a
    match a with
    | ⟨0, _⟩ => show 9 + 1 ≤ 10; omega
    | ⟨1, _⟩ => show (rowOf n).val + 1 ≤ 341; omega
    | ⟨2, _⟩ => show 0 + 256 ≤ 256; omega

/-! ## The picked box's entries -/

theorem mask_one (n : Fin N) (c : Fin 256) :
    IntOp.cmpi .eq (BitVec.ofNat 32 (0 * 256 + c.val)) (Scalar.andi (word n) 255#32) = 1#1 ↔ c = colOf n := by
  have h : (Scalar.andi (word n) 255#32) = BitVec.ofNat 32 (n.val % 256) := by
    apply BitVec.eq_of_toNat_eq
    show (word n &&& 255#32).toNat = _
    rw [BitVec.toNat_and, word_toNat, BitVec.toNat_ofNat, BitVec.toNat_ofNat]
    show n.val &&& (2 ^ 8 - 1) = _
    rw [Nat.and_two_pow_sub_one_eq_mod]; omega
  rw [h, Nat.zero_mul, Nat.zero_add]
  have hc := c.isLt
  constructor
  · intro e
    have e1 : BitVec.ofNat 32 c.val = BitVec.ofNat 32 (n.val % 256) := (cmpi_eq_one _ _).1 e
    have := congrArg BitVec.toNat e1
    rw [BitVec.toNat_ofNat, BitVec.toNat_ofNat] at this
    apply Fin.ext; show c.val = n.val % 256; omega
  · intro e; rw [e]; exact (cmpi_eq_one _ _).2 rfl

/-- A row masked down to the picked column, and its maximum: the row's entry there. -/
theorem masked_max (n : Fin N) (mask : IVec S1x256 1) (row : FVec Ideal S1x256 .f32)
    (hm : ∀ c, mask (ix2 0 c) = 1#1 ↔ c = colOf n) (i : S1x1.Idx) :
    shapeCast S1x1 (multiReduction .maximumf [1] S1 (select mask row (broadcast S1x256 (Scalar.ofBits (F := Ideal) .f32 0xFF800000#32)))
      0xFF800000#32 Facts₀.reduces_S1x256_S1 (.inl rfl) rfl) Facts₀.shapeCasts_S1_S1x1 i = row (ix2 0 (colOf n)) := by
  rw [eq_ix2 i, Fin.fin_one_eq_zero (i 1)]
  refine (shapeCast_a_1a_apply _ _ _ _).trans ((rowMax _ _ _ _ _).trans ?_)
  refine fold_max_masked (fun c => (row (ix2 0 c) : EReal)) (colOf n) _ fun k => ?_
  show Scalar.select (mask (ix2 0 k)) (row (ix2 0 k)) (Ideal.ofBits .f32 0xFF800000#32) = _
  rw [scalar_select_iff (hm k), ofBits_negInf]

theorem mask_spec (s : Fin N → EReal) (cm : FVec Ideal S1x256 .f32) (cr : IVec S1x256 32) (h : Cols s cm cr) (c : Fin 256) :
    k1_pay3 cm cr (ix2 0 c) = 1#1 ↔ c = colOf (best hN s) := by
  unfold k1_pay3
  rw [pick_eq s cm cr h]
  exact mask_one (best hN s) c

section Picks
variable (s : Fin N → EReal) (cm : FVec Ideal S1x256 .f32) (cr : IVec S1x256 32) (h : Cols s cm cr)
  (x : Fin N → EReal) (row : Vec Ideal S1x256 .f32) (hrow : ∀ c, row (ix2 0 c) = x (flat (rowOf (best hN s)) c))
include h hrow

theorem pay4_eq : k1_pay4 (Scalar.ofBits (F := Ideal) .f32 0xFF800000#32) cm cr row = fun _ => x (best hN s) := by
  funext i; refine (masked_max _ _ row (mask_spec s cm cr h) i).trans ?_; rw [hrow, flat_row_col]
theorem pay5_eq : k1_pay5 (Scalar.ofBits (F := Ideal) .f32 0xFF800000#32) cm cr row = fun _ => x (best hN s) :=
  pay4_eq s cm cr h x row hrow
theorem pay6_eq : k1_pay6 (Scalar.ofBits (F := Ideal) .f32 0xFF800000#32) cm cr row = fun _ => x (best hN s) :=
  pay4_eq s cm cr h x row hrow
theorem pay7_eq : k1_pay7 (Scalar.ofBits (F := Ideal) .f32 0xFF800000#32) cm cr row = fun _ => x (best hN s) :=
  pay4_eq s cm cr h x row hrow
theorem pay8_eq : k1_pay8 (Scalar.ofBits (F := Ideal) .f32 0xFF800000#32) (k1_pay3 cm cr) row = fun _ => x (best hN s) :=
  pay4_eq s cm cr h x row hrow
end Picks

theorem pay9_eq (s : Fin N → EReal) (cm : FVec Ideal S1x256 .f32) (cr : IVec S1x256 32) (h : Cols s cm cr)
    (x : Fin N → EReal) (row : Vec Ideal S1x1x256 .f32) (hrow : ∀ c, row (ix3 0 0 c) = x (flat (rowOf (best hN s)) c)) :
    k1_pay9 (Scalar.ofBits (F := Ideal) .f32 0xFF800000#32) (k1_pay3 cm cr) row = fun _ => x (best hN s) := by
  funext i; refine (masked_max _ _ (shapeCast S1x256 row Facts₀.shapeCasts_S1x1x256_S1x256) (mask_spec s cm cr h) i).trans ?_
  rw [shapeCast_1ab_ab_apply, hrow, flat_row_col]

theorem pay10_eq (s : Fin N → EReal) (cm : FVec Ideal S1x256 .f32) (cr : IVec S1x256 32) (h : Cols s cm cr)
    (x : Fin N → EReal) (row : Vec Ideal S1x1x256 .f32) (hrow : ∀ c, row (ix3 0 0 c) = x (flat (rowOf (best hN s)) c)) :
    k1_pay10 (Scalar.ofBits (F := Ideal) .f32 0xFF800000#32) (k1_pay3 cm cr) row = fun _ => x (best hN s) :=
  pay9_eq s cm cr h x row hrow

/-! ## Suppression -/

theorem pay12_eq (B : Boxes) (b : Fin N) (s : Fin N → EReal) :
    k1_pay12 (Scalar.ofBits (F := Ideal) .f32 0xFF800000#32) (fun _ => B.ar b) (mat s)
      (k1_pay11 (fun _ => B.x1 b) (fun _ => B.y1 b) (fun _ => B.x2 b) (fun _ => B.y2 b) (mat B.x2) (mat B.x1) (mat B.y2) (mat B.y1)) (mat B.ar)
    = mat (suppress B b s) := by
  funext i
  have hinter : k1_pay11 (F := Ideal) (fun _ => B.x1 b) (fun _ => B.y1 b) (fun _ => B.x2 b) (fun _ => B.y2 b) (mat B.x2) (mat B.x1) (mat B.y2) (mat B.y1) i
      = inter B b (flat (i 0) (i 1)) := by
    unfold k1_pay11 inter
    show (max _ (Ideal.ofBits .f32 0x00000000#32) * max _ (Ideal.ofBits .f32 0x00000000#32) : EReal) = _
    rw [Ideal.ofBits_zero_f32]
    simp only [subf_apply, minimumf_apply, maximumf_apply, broadcastTo_11_apply]
    rfl
  show Scalar.select (Ideal.cmp .ogt (Ideal.div (k1_pay11 (F := Ideal) _ _ _ _ _ _ _ _ i) ((B.ar b + B.ar (flat (i 0) (i 1))) - k1_pay11 (F := Ideal) _ _ _ _ _ _ _ _ i))
    (Ideal.ofBits .f32 0x3F19999A#32)) (Ideal.ofBits .f32 0xFF800000#32) (s (flat (i 0) (i 1))) = _
  classical
  rw [hinter, ofBits_negInf, scalar_select_iff (cmp_ogt_one _ _)]
  show _ = suppress B b s (flat (i 0) (i 1))
  unfold suppress Over
  congr

theorem pay13_eq (cst : Ideal .f32) (v116 : FVec Ideal S1x1 .f32) (v131 v150 v151 : FVec Ideal S341x256 .f32) :
    k1_pay13 cst v116 v131 v150 v151 = k1_pay12 cst v116 v131 v150 v151 := shapeCast_self _ _

/-! ## The row of results -/

/-- The row written for a pick: six entries, then zeros. -/
def outRow (x1 y1 x2 y2 sc lb : EReal) (l : ℕ) : EReal :=
  if l = 0 then x1 else if l = 1 then y1 else if l = 2 then x2 else if l = 3 then y2 else if l = 4 then sc else if l = 5 then lb else 0

theorem lane_one (l : Fin 128) (n : ℕ) (hn : n < 128) :
    IntOp.cmpi .eq (BitVec.ofNat 32 (0 * 128 + l.val)) (BitVec.ofNat 32 n) = 1#1 ↔ l.val = n := by
  rw [Nat.zero_mul, Nat.zero_add]
  have hl := l.isLt
  constructor
  · intro e
    have e1 : BitVec.ofNat 32 l.val = BitVec.ofNat 32 n := (cmpi_eq_one _ _).1 e
    have := congrArg BitVec.toNat e1
    rw [BitVec.toNat_ofNat, BitVec.toNat_ofNat] at this
    omega
  · intro e; rw [e]; exact (cmpi_eq_one _ _).2 rfl

theorem pay1_eq (x1 y1 x2 y2 sc lb : EReal) (j : S1x1x128.Idx) :
    k1_pay1 (F := Ideal) (fun _ => x1) k1_pay16 k1_pay17 (k1_pay18 (F := Ideal) (fun _ => x2) (fun _ => y2) (fun _ => sc) (fun _ => lb))
      (k1_pay19 (F := Ideal) (fun _ => y1)) j = outRow x1 y1 x2 y2 sc lb (j 2).val := by
  obtain ⟨a, b, l, rfl⟩ : ∃ a b l, j = ix3 a b l := ⟨_, _, _, eq_ix3 j⟩
  unfold k1_pay1
  dsimp only
  have ha : a = 0 := Fin.fin_one_eq_zero a
  have hb : b = 0 := Fin.fin_one_eq_zero b
  subst ha hb
  rw [shapeCast_ab_1ab_apply]
  show Scalar.select (IntOp.cmpi .eq (BitVec.ofNat 32 (0 * 128 + l.val)) (BitVec.ofNat 32 0)) x1
    (Scalar.select (IntOp.cmpi .eq (BitVec.ofNat 32 (0 * 128 + l.val)) (BitVec.ofNat 32 1)) y1
    (Scalar.select (IntOp.cmpi .eq (BitVec.ofNat 32 (0 * 128 + l.val)) (BitVec.ofNat 32 2)) x2
    (Scalar.select (IntOp.cmpi .eq (BitVec.ofNat 32 (0 * 128 + l.val)) (BitVec.ofNat 32 3)) y2
    (Scalar.select (IntOp.cmpi .eq (BitVec.ofNat 32 (0 * 128 + l.val)) (BitVec.ofNat 32 4)) sc
    (Scalar.select (IntOp.cmpi .eq (BitVec.ofNat 32 (0 * 128 + l.val)) (BitVec.ofNat 32 5)) lb (Ideal.ofBits .f32 0x00000000#32)))))) = _
  rw [scalar_select_iff (lane_one l 0 (by decide)), scalar_select_iff (lane_one l 1 (by decide)), scalar_select_iff (lane_one l 2 (by decide)),
    scalar_select_iff (lane_one l 3 (by decide)), scalar_select_iff (lane_one l 4 (by decide)), scalar_select_iff (lane_one l 5 (by decide)),
    Ideal.ofBits_zero_f32]
  rfl

end Cert.Proof.Pay

end
-- ==== Proof.Nms.lean ====
module

public import proofs.«01_k».proof.Proof.Pay
public import proofs.«01_k».proof.Proof.Gen.KernelIdeal.Launch
public import proofs.«01_k».proof.Proof.Gen.KernelIdeal.Points
public import proofs.«01_k».proof.Proof.Gen.KernelIdeal.Loops
public import Idealize.ShloMosaic.Lib.Tactic
public import Idealize.ShloMosaic.Lib.VecWindow

@[expose] public section

noncomputable section

namespace Cert.Proof.Nms

open Cert.KernelIdeal Cert.KernelIdeal.Gen Cert.Proof.Core Cert.Proof.Pay
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev UU : Type := UR sig nD τ
local notation "𝕄" => MT nD τ sig Unit (Elt Ideal) ℕ UU ℕ
abbrev 𝒱₀ : Variants := Variants.none

abbrev mP : Memref sig .tc .vmem S10x341x256 .f32 := Memref.whole cc1_stg0_0
abbrev mO : Memref sig .tc .vmem S100x1x128 .f32 := Memref.whole cc1_stg1_0
abbrev m2 : Memref sig .tc .vmem S341x256 .f32 := Memref.whole cc1_scratch0
abbrev m3 : Memref sig .tc .vmem S341x256 .f32 := Memref.whole cc1_scratch1
abbrev m4 : Memref sig .tc .vmem S341x256 .f32 := Memref.whole cc1_scratch2
abbrev m5 : Memref sig .tc .vmem S341x256 .f32 := Memref.whole cc1_scratch3
abbrev m6 : Memref sig .tc .vmem S341x256 .f32 := Memref.whole cc1_scratch4
abbrev m7 : Memref sig .tc .vmem S341x256 .f32 := Memref.whole cc1_scratch5

abbrev vO : View sig .tc .vmem S100x1x128 .f32 := View.whole cc1_stg1_0
abbrev v7 : View sig .tc .vmem S341x256 .f32 := View.whole cc1_scratch5

/-- Memref `M`'s buffer on core `c`: its contents type, and it held whole at `f`. -/
abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦{fullShare} f

abbrev negInf : Ideal .f32 := Scalar.ofBits (F := Ideal) .f32 0xFF800000#32
abbrev rowIota : IVec S341x256 32 := iota .tc S341x256 32 [0] Facts₀.iota_S341x256_d0_w32

/-- A plane of the packed array, by position. -/
abbrev plane (P : FVec Ideal S10x341x256 .f32) (p : Fin 10) (n : Fin N) : EReal := P (ix3 p (rowOf n) (colOf n))

theorem rowOf_flat (r : Fin 341) (c : Fin 256) : rowOf (flat r c) = r := Fin.ext (by
  have := c.isLt; show (256 * r.val + c.val) / 256 = r.val; omega)
theorem colOf_flat (r : Fin 341) (c : Fin 256) : colOf (flat r c) = c := Fin.ext (by
  have := c.isLt; show (256 * r.val + c.val) % 256 = c.val; omega)

theorem idx_row {off : Fin 2 → ℕ} (r : Fin 341) (ho : off = ![r.val, 0]) (h) (l : Fin 256) :
    (Rect.unit (s := S341x256) off ![1, 256] h).toLoadRect.idx (ix2 (0 : Fin 1) l : S1x256.Idx) = ix2 r l := by
  subst ho
  refine funext fun a => Fin.ext ?_
  match a with
  | ⟨0, _⟩ => show r.val + 1 * 0 = r.val; omega
  | ⟨1, _⟩ => show 0 + 1 * l.val = l.val; omega

theorem idx_plane_row {off : Fin 3 → ℕ} (p : Fin 10) (r : Fin 341) (ho : off = ![p.val, r.val, 0]) (h) (l : Fin 256) :
    (Rect.unit (s := S10x341x256) off ![1, 1, 256] h).toLoadRect.idx (ix3 (0 : Fin 1) (0 : Fin 1) l : S1x1x256.Idx) = ix3 p r l := by
  subst ho
  refine funext fun a => Fin.ext ?_
  match a with
  | ⟨0, _⟩ => show p.val + 1 * 0 = p.val; omega
  | ⟨1, _⟩ => show r.val + 1 * 0 = r.val; omega
  | ⟨2, _⟩ => show 0 + 1 * l.val = l.val; omega

theorem idx_plane {off : Fin 3 → ℕ} (p : Fin 10) (ho : off = ![p.val, 0, 0]) (h) (r : Fin 341) (l : Fin 256) :
    (Rect.unit (s := S10x341x256) off ![1, 341, 256] h).toLoadRect.idx (ix3 (0 : Fin 1) r l : S1x341x256.Idx) = ix3 p r l := by
  subst ho
  refine funext fun a => Fin.ext ?_
  match a with
  | ⟨0, _⟩ => show p.val + 1 * 0 = p.val; omega
  | ⟨1, _⟩ => show 0 + 1 * r.val = r.val; omega
  | ⟨2, _⟩ => show 0 + 1 * l.val = l.val; omega

section Reads
variable (x : Fin N → EReal) (w : BitVec 32) (n : Fin N) (hw : w = word n)
include hw

theorem row_of (f : FVec Ideal S1x256 .f32) (h) (hf : f = fun i => mat x ((Rect.unit (s := S341x256) (k1_off1 w) ![1, 256] h).toLoadRect.idx i)) (l : Fin 256) :
    f (ix2 (0 : Fin 1) l) = x (flat (rowOf n) l) := by
  subst hw hf; exact congrArg (mat x) (idx_row (rowOf n) (off1_word n) h l)

theorem plane_row8 (P : FVec Ideal S10x341x256 .f32) (f : FVec Ideal S1x1x256 .f32) (h)
    (hf : f = fun i => P ((Rect.unit (s := S10x341x256) (k1_off2 w) ![1, 1, 256] h).toLoadRect.idx i)) (l : Fin 256) :
    f (ix3 (0 : Fin 1) (0 : Fin 1) l) = plane P 8 (flat (rowOf n) l) := by
  subst hw hf
  refine (congrArg P (idx_plane_row 8 (rowOf n) (off2_word n) h l)).trans ?_
  unfold plane; rw [rowOf_flat, colOf_flat]

theorem plane_row9 (P : FVec Ideal S10x341x256 .f32) (f : FVec Ideal S1x1x256 .f32) (h)
    (hf : f = fun i => P ((Rect.unit (s := S10x341x256) (k1_off3 w) ![1, 1, 256] h).toLoadRect.idx i)) (l : Fin 256) :
    f (ix3 (0 : Fin 1) (0 : Fin 1) l) = plane P 9 (flat (rowOf n) l) := by
  subst hw hf
  refine (congrArg P (idx_plane_row 9 (rowOf n) (off3_word n) h l)).trans ?_
  unfold plane; rw [rowOf_flat, colOf_flat]
end Reads

theorem plane_of (P : FVec Ideal S10x341x256 .f32) (p : Fin 10) {off : Fin 3 → ℕ} (ho : off = ![p.val, 0, 0]) (h) (j : S341x256.Idx) :
    shapeCast S341x256 (fun i => P ((Rect.unit (s := S10x341x256) off ![1, 341, 256] h).toLoadRect.idx i) : FVec Ideal S1x341x256 .f32)
      Facts₀.shapeCasts_S1x341x256_S341x256 j = mat (plane P p) j := by
  obtain ⟨r, l, rfl⟩ : ∃ r l, j = ix2 r l := ⟨_, _, eq_ix2 j⟩
  rw [shapeCast_1ab_ab_apply, idx_plane p ho, mat_ix2]
  unfold plane; rw [rowOf_flat, colOf_flat]

/-- A load of a whole matrix reads it. -/
theorem idx_full (x : FVec Ideal S341x256 .f32) (h) : (fun i => x ((Rect.unit (s := S341x256) ![0, 0] ![341, 256] h).toLoadRect.idx i)) = x := by
  funext i
  refine congrArg x (funext fun a => Fin.ext ?_)
  match a with
  | ⟨0, _⟩ => exact (Nat.zero_add _).trans (Nat.one_mul _)
  | ⟨1, _⟩ => exact (Nat.zero_add _).trans (Nat.one_mul _)

/-- A matrix stored whole is what the store leaves. -/
theorem read_v7 (f : v7.ty.Contents (Elt Ideal)) : v7.read (Elt Ideal) f = f := rfl

theorem writes_full (f : v7.ty.Contents (Elt Ideal)) (x : FVec Ideal S341x256 .f32) (h : ∀ a, ![0, 0] a + ![341, 256] a ≤ S341x256.size a) :
    v7.writes (Elt Ideal) f [⟨Rect.unit (s := S341x256) ![0, 0] ![341, 256] h, x⟩] = x :=
  (read_v7 _).symm.trans (View.read_writes_full v7 f (off := ![0, 0]) h x [])

/-- The decoded boxes of a packed array. -/
def boxesOf (P : FVec Ideal S10x341x256 .f32) : Boxes :=
  let half : EReal := Ideal.ofBits .f32 0x3F000000#32
  let x1 n := half * (plane P 0 n + plane P 2 n) - plane P 4 n * (plane P 2 n - plane P 0 n)
  let y1 n := half * (plane P 1 n + plane P 3 n) - plane P 5 n * (plane P 3 n - plane P 1 n)
  let x2 n := half * (plane P 0 n + plane P 2 n) + plane P 6 n * (plane P 2 n - plane P 0 n)
  let y2 n := half * (plane P 1 n + plane P 3 n) + plane P 7 n * (plane P 3 n - plane P 1 n)
  ⟨x1, y1, x2, y2, fun n => max (x2 n - x1 n) 0 * max (y2 n - y1 n) 0⟩

/-- The row of results of position `n`. -/
def outAt (P : FVec Ideal S10x341x256 .f32) (n : Fin N) (l : ℕ) : EReal :=
  outRow ((boxesOf P).x1 n) ((boxesOf P).y1 n) ((boxesOf P).x2 n) ((boxesOf P).y2 n) (plane P 8 n) (plane P 9 n) l

/-- The scores before trip `k`. -/
abbrev scoresAt (P : FVec Ideal S10x341x256 .f32) (k : ℕ) : Fin N → EReal := scores (boxesOf P) (plane P 8) k

/-- The position taken at trip `k`. -/
abbrev pickAt (P : FVec Ideal S10x341x256 .f32) (k : ℕ) : Fin N := pick (boxesOf P) (plane P 8) k

/-- The rows of results the first `k` trips wrote. -/
def Rows (P : FVec Ideal S10x341x256 .f32) (k : ℕ) (O : FVec Ideal S100x1x128 .f32) : Prop :=
  ∀ j : Fin 100, j.val < k → ∀ l : Fin 128, O (ix3 j 0 l) = outAt P (pickAt P j.val) l.val

theorem rows_step_view (P : FVec Ideal S10x341x256 .f32) (k : ℕ) (v : View sig .tc .vmem S100x1x128 .f32) (O : v.ty.Contents (Elt Ideal))
    (hO : Rows P k (v.read (Elt Ideal) O)) {off : Fin 3 → ℕ} (ho : off = ![k, 0, 0]) (h)
    (w : FVec Ideal S1x1x128 .f32) (hw : ∀ j, w j = outAt P (pickAt P k) (j 2).val) :
    Rows P (k + 1) (v.read (Elt Ideal) (v.writes (Elt Ideal) O [⟨Rect.unit (s := S100x1x128) off ![1, 1, 128] h, w⟩])) := by
  intro j hj l
  by_cases hk : j.val = k
  · rw [View.read_writes_cons_unit_of_mem v O h w [] (ix3 j 0 l) (ix3 0 0 l : S1x1x128.Idx) ho fun a => by
      match a with
      | ⟨0, _⟩ => show j.val = k + 0; omega
      | ⟨1, _⟩ => rfl
      | ⟨2, _⟩ => show l.val = 0 + l.val; omega]
    rw [hw, hk]
  · rw [View.read_writes_cons_unit_of_not_mem v O h w [] (ix3 j 0 l) ho (0 : Fin 3) (by
      left; show j.val < k; omega)]
    exact hO j (by omega) l

theorem read_vO (f : vO.ty.Contents (Elt Ideal)) : vO.read (Elt Ideal) f = f := rfl

theorem rows_step (P : FVec Ideal S10x341x256 .f32) (k : ℕ) (O : vO.ty.Contents (Elt Ideal))
    (hO : Rows P k O) (off : Fin 3 → ℕ) (ho : off = ![k, 0, 0]) (h : ∀ a, off a + ![1, 1, 128] a ≤ S100x1x128.size a)
    (w : FVec Ideal S1x1x128 .f32) (hw : ∀ j, w j = outAt P (pickAt P k) (j 2).val) :
    Rows P (k + 1) (vO.writes (Elt Ideal) O [⟨Rect.unit (s := S100x1x128) off ![1, 1, 128] h, w⟩]) := by
  have h1 := rows_step_view P k vO O (by rw [read_vO]; exact hO) ho h w hw
  rw [read_vO] at h1
  exact h1

/-- What the loop holds before trip `k`, carrying `acc`. -/
def inv (c : Dev nD) (P : FVec Ideal S10x341x256 .f32) (k : ℕ) (acc : FVec Ideal S1x256 .f32 × IVec S1x256 32) : sProp 𝕄 :=
  iprop(∃ O : Bf c mO, pt c mP P ∗ pt c mO O ∗ pt c m2 (mat (boxesOf P).x1) ∗ pt c m3 (mat (boxesOf P).y1) ∗ pt c m4 (mat (boxesOf P).x2)
    ∗ pt c m5 (mat (boxesOf P).y2) ∗ pt c m6 (mat (boxesOf P).ar) ∗ pt c m7 (mat (scoresAt P k)) ∗ ⌜Cols (scoresAt P k) acc.1 acc.2 ∧ Rows P k O⌝)

/-- The scores one trip leaves. -/
theorem trip_scores (P : FVec Ideal S10x341x256 .f32) (k : ℕ) (cm : FVec Ideal S1x256 .f32) (cr : IVec S1x256 32) (hc : Cols (scoresAt P k) cm cr)
    (r2 r3 r4 r5 r6 : FVec Ideal S1x256 .f32) (X1 Y1 X2 Y2 A S : FVec Ideal S341x256 .f32)
    (h2 : ∀ l, r2 (ix2 0 l) = (boxesOf P).x1 (flat (rowOf (pickAt P k)) l)) (h3 : ∀ l, r3 (ix2 0 l) = (boxesOf P).y1 (flat (rowOf (pickAt P k)) l))
    (h4 : ∀ l, r4 (ix2 0 l) = (boxesOf P).x2 (flat (rowOf (pickAt P k)) l)) (h5 : ∀ l, r5 (ix2 0 l) = (boxesOf P).y2 (flat (rowOf (pickAt P k)) l))
    (h6 : ∀ l, r6 (ix2 0 l) = (boxesOf P).ar (flat (rowOf (pickAt P k)) l))
    (hX1 : X1 = mat (boxesOf P).x1) (hY1 : Y1 = mat (boxesOf P).y1) (hX2 : X2 = mat (boxesOf P).x2) (hY2 : Y2 = mat (boxesOf P).y2)
    (hA : A = mat (boxesOf P).ar) (hS : S = mat (scoresAt P k)) :
    k1_pay12 negInf (k1_pay8 negInf (k1_pay3 cm cr) r6) S
        (k1_pay11 (k1_pay4 negInf cm cr r2) (k1_pay5 negInf cm cr r3) (k1_pay6 negInf cm cr r4) (k1_pay7 negInf cm cr r5) X2 X1 Y2 Y1) A
      = mat (scoresAt P (k + 1)) := by
  subst hX1 hY1 hX2 hY2 hA hS
  rw [pay4_eq _ cm cr hc _ r2 h2, pay5_eq _ cm cr hc _ r3 h3, pay6_eq _ cm cr hc _ r4 h4, pay7_eq _ cm cr hc _ r5 h5, pay8_eq _ cm cr hc _ r6 h6]
  refine (pay12_eq (boxesOf P) _ _).trans ?_
  rw [scoresAt, scoresAt, scores_succ]; rfl

/-- The row of results one trip writes. -/
theorem trip_out (P : FVec Ideal S10x341x256 .f32) (k : ℕ) (cm : FVec Ideal S1x256 .f32) (cr : IVec S1x256 32) (hc : Cols (scoresAt P k) cm cr)
    (r2 r3 r4 r5 : FVec Ideal S1x256 .f32) (r8 r9 : FVec Ideal S1x1x256 .f32)
    (h2 : ∀ l, r2 (ix2 0 l) = (boxesOf P).x1 (flat (rowOf (pickAt P k)) l)) (h3 : ∀ l, r3 (ix2 0 l) = (boxesOf P).y1 (flat (rowOf (pickAt P k)) l))
    (h4 : ∀ l, r4 (ix2 0 l) = (boxesOf P).x2 (flat (rowOf (pickAt P k)) l)) (h5 : ∀ l, r5 (ix2 0 l) = (boxesOf P).y2 (flat (rowOf (pickAt P k)) l))
    (h8 : ∀ l, r8 (ix3 0 0 l) = plane P 8 (flat (rowOf (pickAt P k)) l)) (h9 : ∀ l, r9 (ix3 0 0 l) = plane P 9 (flat (rowOf (pickAt P k)) l)) (j) :
    k1_pay1 (k1_pay4 negInf cm cr r2) k1_pay16 k1_pay17
        (k1_pay18 (k1_pay6 negInf cm cr r4) (k1_pay7 negInf cm cr r5) (k1_pay9 negInf (k1_pay3 cm cr) r8) (k1_pay10 negInf (k1_pay3 cm cr) r9))
        (k1_pay19 (k1_pay5 negInf cm cr r3)) j = outAt P (pickAt P k) (j 2).val := by
  rw [pay4_eq _ cm cr hc _ r2 h2, pay5_eq _ cm cr hc _ r3 h3, pay6_eq _ cm cr hc _ r4 h4, pay7_eq _ cm cr hc _ r5 h5,
    pay9_eq _ cm cr hc _ r8 h8, pay10_eq _ cm cr hc _ r9 h9]
  exact pay1_eq _ _ _ _ _ _ j

theorem pt_conv (c : Dev nD) {sp : Space} {S : Shape} {e : EltTy} (M : Memref sig .tc sp S e) {f g : Bf c M} : iprop(pt c M f ∗ ⌜f = g⌝) ⊢ pt c M g := by
  iintro ⟨H, %h⟩; rw [← h]; iexact H

set_option maxHeartbeats 2000000 in
/-- One trip of the loop. -/
theorem trip (c : Dev nD) (P : FVec Ideal S10x341x256 .f32) (k : Fin k1_t1_loop.trips) (acc : FVec Ideal S1x256 .f32 × IVec S1x256 32) :
   inv c P k.val acc ⊢ wp frame (wpE (defs₀ (F := Ideal)) Variants.none c none) Set.univ
     (k1_t1_body (F := Ideal) mP (Memref.isWhole_whole _) mO (Memref.isWhole_whole _) m2 (Memref.isWhole_whole _) m3 (Memref.isWhole_whole _) m4 (Memref.isWhole_whole _) m5 (Memref.isWhole_whole _) m6 (Memref.isWhole_whole _) m7 (Memref.isWhole_whole _) rowIota negInf k acc) (inv c P (k.val + 1)) := by
  obtain ⟨cm, cr⟩ := acc
  unfold inv
  iintro ⟨%O, H0, H1, H2, H3, H4, H5, H6, H7, %hpure⟩
  obtain ⟨hc, hO⟩ := hpure
  have hv : extractAt ![0, 0] (k1_pay2 cm cr) Facts₀.inpos_S1x1_p0_0 = word (best hN (scoresAt P k.val)) := by
    rw [pick_eq _ cm cr hc]; rfl
  have hchk : k1_chk1 (extractAt ![0, 0] (k1_pay2 cm cr) Facts₀.inpos_S1x1_p0_0) := by
    rw [hv]; exact chk1_word _
  unfold k1_t1_body
  dsimp only
  simp only [k1_part1_eq_skeleton, k1_part2_eq_skeleton, k1_part3_eq_skeleton]
  unfold k1_part1_skel k1_part2_skel k1_part3_skel
  sl_exec
  sl_step
  delta trip.sl.v82 trip.sl.v118 trip.sl.v125
  dsimp only
  have hrow : ∀ (x : Fin N → EReal) (f : FVec Ideal S1x256 .f32) h, f = (fun i => mat x ((Rect.unit (s := S341x256) (k1_off1 _) ![1, 256] h).toLoadRect.idx i)) →
      ∀ l, f (ix2 (0 : Fin 1) l) = x (flat (rowOf (pickAt P k.val)) l) := fun x f h hf l => row_of x _ _ hv f h hf l
  iexists _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (pt_conv c m7)
    isplitl [H7]; · iexact H7
    ipureintro
    refine (writes_full _ _ inb_S341x256_S341x256_0_0).trans ((pay13_eq _ _ _ _ _).trans (trip_scores P k.val cm cr hc _ _ _ _ _ _ _ _ _ _ _ ?_ ?_ ?_ ?_ ?_ ?_ ?_ ?_ ?_ ?_ ?_))
    · exact hrow _ _ hchk.1 rfl
    · exact hrow _ _ hchk.1 rfl
    · exact hrow _ _ hchk.1 rfl
    · exact hrow _ _ hchk.1 rfl
    · exact hrow _ _ hchk.1 rfl
    all_goals exact idx_full _ inb_S341x256_S341x256_0_0
  ipureintro
  refine ⟨cols_next _ _ _ _ _ _ (trip_scores P k.val cm cr hc _ _ _ _ _ _ _ _ _ _ _ ?_ ?_ ?_ ?_ ?_ ?_ ?_ ?_ ?_ ?_ ?_),
    rows_step P k.val O hO _ (k1_off4_eq k) _ _ (trip_out P k.val cm cr hc _ _ _ _ _ _ ?_ ?_ ?_ ?_ ?_ ?_)⟩
  · exact hrow _ _ hchk.1 rfl
  · exact hrow _ _ hchk.1 rfl
  · exact hrow _ _ hchk.1 rfl
  · exact hrow _ _ hchk.1 rfl
  · exact hrow _ _ hchk.1 rfl
  · exact idx_full _ inb_S341x256_S341x256_0_0
  · exact idx_full _ inb_S341x256_S341x256_0_0
  · exact idx_full _ inb_S341x256_S341x256_0_0
  · exact idx_full _ inb_S341x256_S341x256_0_0
  · exact idx_full _ inb_S341x256_S341x256_0_0
  · exact idx_full _ inb_S341x256_S341x256_0_0
  · exact hrow _ _ hchk.1 rfl
  · exact hrow _ _ hchk.1 rfl
  · exact hrow _ _ hchk.1 rfl
  · exact hrow _ _ hchk.1 rfl
  · exact plane_row8 _ _ hv P _ hchk.2.1 rfl
  · exact plane_row9 _ _ hv P _ hchk.2.2 rfl

end Cert.Proof.Nms
end
-- ==== Proof.Prep.lean ====
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Nms
public import Idealize.ShloMosaic.Lib.Pipeline.RegionArraysS
public import Idealize.ShloMosaic.Lib.Pipeline.FrameBody

@[expose] public section

noncomputable section

namespace Cert.Proof.Prep

open Cert.KernelIdeal Cert.KernelIdeal.Gen Cert.Proof.Nms
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ UU ℕ

abbrev rcA : Rect S91x7936 := Rect.unit (s := S91x7936) ![0, 0] S91x7936.size inb_S91x7936_S91x7936_0_0
abbrev rcB : Rect S1x7936 := Rect.unit (s := S1x7936) ![0, 0] S1x7936.size inb_S1x7936_S1x7936_0_0
abbrev rcC : Rect S4x7936 := Rect.unit (s := S4x7936) ![0, 0] S4x7936.size inb_S4x7936_S4x7936_0_0
abbrev rcO : Rect S10x7936 := Rect.unit (s := S10x7936) ![0, 0] S10x7936.size inb_S10x7936_S10x7936_0_0

/-- A load of a whole buffer gives what it holds. -/
theorem ld_whole {a b : ℕ} (h : ∀ x, (![0, 0] : Fin 2 → ℕ) x + (Shape.mk 2 ![a, b]).size x ≤ (Shape.mk 2 ![a, b]).size x)
    (X : (Shape.mk 2 ![a, b]).Idx → EReal) :
    (fun y => X ((Rect.unit (s := Shape.mk 2 ![a, b]) ![0, 0] (Shape.mk 2 ![a, b]).size h).emb y)) = X := by
  funext y
  refine congrArg X (funext fun q => Fin.ext ?_)
  rw [Rect.emb_apply]
  fin_cases q <;> simp [Rect.unit]

/-- The block of the packed array the body leaves. -/
def outBlk (x1 : Vec Ideal S91x7936 .f32) (x2 : Vec Ideal S1x7936 .f32) (x3 x4 : Vec Ideal S4x7936 .f32) : Vec Ideal S10x7936 .f32 :=
  View.canon [⟨rcO, k0_pay1 (View.ld x1 rcA) (View.ld x2 rcB) (View.ld x3 rcC) (View.ld x4 rcC)⟩]

theorem cover_out (p0 : Vec Ideal S10x7936 .f32) (y : S10x7936.Idx) :
    ∃ pc ∈ ([⟨rcO, p0⟩] : List (View.Piece (Elt Ideal) S10x7936 .f32)), y ∈ pc.1.set :=
  View.cover_of_tiled [⟨rcO, p0⟩] S10x7936.size (by rfl) y

theorem kernel (c : Dev nD) (E : Set ℕ) (i : grid0.Coords)
    (a1 : Memref sig .tc .vmem S91x7936 .f32) (h1 : a1.IsWhole) (a2 : Memref sig .tc .vmem S1x7936 .f32) (h2 : a2.IsWhole)
    (a3 : Memref sig .tc .vmem S4x7936 .f32) (h3 : a3.IsWhole) (a4 : Memref sig .tc .vmem S4x7936 .f32) (h4 : a4.IsWhole)
    (a5 : Memref sig .tc .vmem S10x7936 .f32) (h5 : a5.IsWhole)
    (x1 : Vec Ideal S91x7936 .f32) (x2 : Vec Ideal S1x7936 .f32) (x3 x4 : Vec Ideal S4x7936 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare (outBlk x1 x2 x3 x4)) -∗ K ⟨⟩))
      ⊢ wp frame (wpE (defs₀ (F := Ideal)) 𝒱₀ c none) E (cc0_fcos_prep i a1 h1 a2 h2 a3 h3 a4 h4 a5 h5) K := by
  simp only [cc0_fcos_prep_eq_skeleton]; unfold cc0_fcos_prep_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-- The scoped buffers the call does not stage. -/
abbrev Φc (c : Dev nD) : sProp 𝕄 := Pipeline.scopedRest (Ix := Unit) (Name := ℕ) (U := UU) (Lvl := ℕ) (Val := Elt Ideal) spec0 c

section Region
variable (W : Dev nD → Valuation τ sig (Elt Ideal))

/-- Window `w`'s block of its array at point `t`. -/
abbrev blkAt (c : Dev nD) (w : Fin cfg0.W) (t : Fin cfg0.N) := ((cfg0.win w).blk t).view.read (Elt Ideal) (W c (Proc.devRef .tc (Pipeline.arrRef spec0 w)))

/-- What the call's arrays and staging buffers hold, from buffers at `W`. -/
def dat (c : Dev nD) : Dat τ (Elt Ideal) Unit ℕ UU ℕ cfg0 c where
  A w := W c (Proc.devRef .tc (Pipeline.arrRef spec0 w))
  after w t := match w with
    | ⟨0, _⟩ => blkAt W c 0 t
    | ⟨1, _⟩ => blkAt W c 1 t
    | ⟨2, _⟩ => blkAt W c 2 t
    | ⟨3, _⟩ => blkAt W c 3 t
    | ⟨4, _⟩ => outBlk (blkAt W c 0 t) (blkAt W c 1 t) (blkAt W c 2 t) (blkAt W c 3 t)
  Φ _ := Φc c
  q _ := fullShare
  owed _ := 0

theorem after_0 (c : Dev nD) (t : Fin cfg0.N) : (dat W c).after 0 t = blkAt W c 0 t := by dsimp only [dat]
theorem after_1 (c : Dev nD) (t : Fin cfg0.N) : (dat W c).after 1 t = blkAt W c 1 t := by dsimp only [dat]
theorem after_2 (c : Dev nD) (t : Fin cfg0.N) : (dat W c).after 2 t = blkAt W c 2 t := by dsimp only [dat]
theorem after_3 (c : Dev nD) (t : Fin cfg0.N) : (dat W c).after 3 t = blkAt W c 3 t := by dsimp only [dat]
theorem after_4 (c : Dev nD) (t : Fin cfg0.N) :
    (dat W c).after 4 t = outBlk (blkAt W c 0 t) (blkAt W c 1 t) (blkAt W c 2 t) (blkAt W c 3 t) := by dsimp only [dat]

theorem before_0 (c : Dev nD) (t : Fin cfg0.N) (d) : (dat W c).before 0 t d = blkAt W c 0 t := by
  unfold Dat.before; rw [if_pos (fetch0_0 t)]; rfl
theorem before_1 (c : Dev nD) (t : Fin cfg0.N) (d) : (dat W c).before 1 t d = blkAt W c 1 t := by
  unfold Dat.before; rw [if_pos (fetch0_1 t)]; rfl
theorem before_2 (c : Dev nD) (t : Fin cfg0.N) (d) : (dat W c).before 2 t d = blkAt W c 2 t := by
  unfold Dat.before; rw [if_pos (fetch0_2 t)]; rfl
theorem before_3 (c : Dev nD) (t : Fin cfg0.N) (d) : (dat W c).before 3 t d = blkAt W c 3 t := by
  unfold Dat.before; rw [if_pos (fetch0_3 t)]; rfl

/-- What the body is called with at point `t`. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- What it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t))

theorem body (c : Dev nD) (t : Fin cfg0.N) :
    bodyPre W c t ⊢ wp frame (wpE (defs₀ (F := Ideal)) 𝒱₀ c none) Set.univ (bodyAt0 t) (fun _ => bodyPost W c t) := by
  unfold bodyPre bodyPost bodyAt0
  simp only [before_0, before_1, before_2, before_3]
  rw [show (dat W c).Φ t.succ = (dat W c).Φ t.castSucc from rfl,
    show (dat W c).owesAt () t.succ = (dat W c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (kernel c Set.univ _ _ _ _ _ _ _ _ _ _ _ (blkAt W c 0 t) (blkAt W c 1 t) (blkAt W c 2 t) (blkAt W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dat W c) (defs₀ (F := Ideal)) 𝒱₀ () Set.univ := fun t => by
  rw [bigSep_W0, bigSep_W0, defs₀_row]
  exact triple_restated (body W c t) rfl .rfl fun _ => .rfl

end Region

end Cert.Proof.Prep

end
-- ==== Proof.NmsRun.lean ====
module

public import proofs.«01_k».proof.Proof.Nms

@[expose] public section

noncomputable section

namespace Cert.Proof.Nms

open Cert.KernelIdeal Cert.KernelIdeal.Gen Cert.Proof.Core Cert.Proof.Pay
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ UU ℕ

set_option warn.classDefReducibility false in
/-- The loop by its invariant. -/
@[sl_loop] def loopInv (c : Dev nD) (P : FVec Ideal S10x341x256 .f32) (init : FVec Ideal S1x256 .f32 × IVec S1x256 32) :
    LoopInvTy_k1_t1 (F := Ideal) Unit ℕ UU ℕ 𝒱₀ c none Set.univ mP (Memref.isWhole_whole _) mO (Memref.isWhole_whole _) m2 (Memref.isWhole_whole _)
      m3 (Memref.isWhole_whole _) m4 (Memref.isWhole_whole _) m5 (Memref.isWhole_whole _) m6 (Memref.isWhole_whole _) m7 (Memref.isWhole_whole _) rowIota negInf init where
  inv k acc := inv c P k acc
  step k acc := trip c P k acc

section Fill
variable (x : FVec Ideal S341x256 .f32) (h : ∀ a, ![0, 0] a + ![341, 256] a ≤ S341x256.size a)

abbrev u2 : View sig .tc .vmem S341x256 .f32 := View.whole cc1_scratch0
abbrev u3 : View sig .tc .vmem S341x256 .f32 := View.whole cc1_scratch1
abbrev u4 : View sig .tc .vmem S341x256 .f32 := View.whole cc1_scratch2
abbrev u5 : View sig .tc .vmem S341x256 .f32 := View.whole cc1_scratch3
abbrev u6 : View sig .tc .vmem S341x256 .f32 := View.whole cc1_scratch4

theorem read_u2 (f : u2.ty.Contents (Elt Ideal)) : u2.read (Elt Ideal) f = f := rfl
theorem read_u3 (f : u3.ty.Contents (Elt Ideal)) : u3.read (Elt Ideal) f = f := rfl
theorem read_u4 (f : u4.ty.Contents (Elt Ideal)) : u4.read (Elt Ideal) f = f := rfl
theorem read_u5 (f : u5.ty.Contents (Elt Ideal)) : u5.read (Elt Ideal) f = f := rfl
theorem read_u6 (f : u6.ty.Contents (Elt Ideal)) : u6.read (Elt Ideal) f = f := rfl

theorem fill2 (f : u2.ty.Contents (Elt Ideal)) : u2.writes (Elt Ideal) f [⟨Rect.unit (s := S341x256) ![0, 0] ![341, 256] h, x⟩] = x :=
  (read_u2 _).symm.trans (View.read_writes_full u2 f (off := ![0, 0]) h x [])
theorem fill3 (f : u3.ty.Contents (Elt Ideal)) : u3.writes (Elt Ideal) f [⟨Rect.unit (s := S341x256) ![0, 0] ![341, 256] h, x⟩] = x :=
  (read_u3 _).symm.trans (View.read_writes_full u3 f (off := ![0, 0]) h x [])
theorem fill4 (f : u4.ty.Contents (Elt Ideal)) : u4.writes (Elt Ideal) f [⟨Rect.unit (s := S341x256) ![0, 0] ![341, 256] h, x⟩] = x :=
  (read_u4 _).symm.trans (View.read_writes_full u4 f (off := ![0, 0]) h x [])
theorem fill5 (f : u5.ty.Contents (Elt Ideal)) : u5.writes (Elt Ideal) f [⟨Rect.unit (s := S341x256) ![0, 0] ![341, 256] h, x⟩] = x :=
  (read_u5 _).symm.trans (View.read_writes_full u5 f (off := ![0, 0]) h x [])
theorem fill6 (f : u6.ty.Contents (Elt Ideal)) : u6.writes (Elt Ideal) f [⟨Rect.unit (s := S341x256) ![0, 0] ![341, 256] h, x⟩] = x :=
  (read_u6 _).symm.trans (View.read_writes_full u6 f (off := ![0, 0]) h x [])
end Fill

section Setup
variable (a b d : Fin N → EReal) (va vb vd : Vec Ideal S1x341x256 .f32)
  (ha : ∀ j, shapeCast S341x256 va Facts₀.shapeCasts_S1x341x256_S341x256 j = mat a j)
  (hb : ∀ j, shapeCast S341x256 vb Facts₀.shapeCasts_S1x341x256_S341x256 j = mat b j)
  (hd : ∀ j, shapeCast S341x256 vd Facts₀.shapeCasts_S1x341x256_S341x256 j = mat d j)
include ha hb hd

/-- The low edge of a decoded box along one axis. -/
theorem pay28_eq : k1_pay28 va vb vd = mat fun n => Ideal.ofBits .f32 0x3F000000#32 * (a n + b n) - d n * (b n - a n) := by
  funext j
  refine Eq.trans (b := Ideal.ofBits .f32 0x3F000000#32 * (shapeCast S341x256 va Facts₀.shapeCasts_S1x341x256_S341x256 j + shapeCast S341x256 vb Facts₀.shapeCasts_S1x341x256_S341x256 j) - shapeCast S341x256 vd Facts₀.shapeCasts_S1x341x256_S341x256 j * (shapeCast S341x256 vb Facts₀.shapeCasts_S1x341x256_S341x256 j - shapeCast S341x256 va Facts₀.shapeCasts_S1x341x256_S341x256 j)) rfl ?_
  rw [ha, hb, hd]; rfl

/-- The high edge of a decoded box along one axis. -/
theorem pay30_eq : k1_pay30 va vb vd = mat fun n => Ideal.ofBits .f32 0x3F000000#32 * (a n + b n) + d n * (b n - a n) := by
  funext j
  refine Eq.trans (b := Ideal.ofBits .f32 0x3F000000#32 * (shapeCast S341x256 va Facts₀.shapeCasts_S1x341x256_S341x256 j + shapeCast S341x256 vb Facts₀.shapeCasts_S1x341x256_S341x256 j) + shapeCast S341x256 vd Facts₀.shapeCasts_S1x341x256_S341x256 j * (shapeCast S341x256 vb Facts₀.shapeCasts_S1x341x256_S341x256 j - shapeCast S341x256 va Facts₀.shapeCasts_S1x341x256_S341x256 j)) rfl ?_
  rw [ha, hb, hd]; rfl

theorem pay29_eq : k1_pay29 va vb vd = mat fun n => Ideal.ofBits .f32 0x3F000000#32 * (a n + b n) - d n * (b n - a n) :=
  pay28_eq a b d va vb vd ha hb hd
theorem pay31_eq : k1_pay31 va vb vd = mat fun n => Ideal.ofBits .f32 0x3F000000#32 * (a n + b n) + d n * (b n - a n) :=
  pay30_eq a b d va vb vd ha hb hd
end Setup

/-- The decoded boxes' areas. -/
theorem pay36_eq (x1 y1 x2 y2 : Fin N → EReal) (a b c d : FVec Ideal S341x256 .f32) (ha : a = mat x1) (hb : b = mat y1) (hc : c = mat x2) (hd : d = mat y2) :
    k1_pay36 (F := Ideal) a b c d = mat fun n => max (x2 n - x1 n) 0 * max (y2 n - y1 n) 0 := by
  subst ha hb hc hd
  refine (Idealize.ShloMosaic.shapeCast_self _ _).trans (funext fun j => ?_)
  show max (x2 _ - x1 _) (Ideal.ofBits .f32 0x00000000#32) * max (y2 _ - y1 _) (Ideal.ofBits .f32 0x00000000#32) = _
  rw [show Ideal.ofBits .f32 0x00000000#32 = 0 from Ideal.ofBits_zero_f32]; rfl

theorem trips_eq : Scf.trips k1_t1_loop.lb k1_t1_loop.ub k1_t1_loop.st = 100 := by decide +kernel

theorem rows_zero (P : FVec Ideal S10x341x256 .f32) (O : FVec Ideal S100x1x128 .f32) : Rows P 0 O :=
  fun j hj => absurd hj (Nat.not_lt_zero _)

theorem scores_zero (P : FVec Ideal S10x341x256 .f32) : scoresAt P 0 = plane P 8 := rfl

theorem run (c : Dev nD) (P : FVec Ideal S10x341x256 .f32) (f1 : Bf c mO) (f2 : Bf c m2) (f3 : Bf c m3) (f4 : Bf c m4) (f5 : Bf c m5) (f6 : Bf c m6) (f7 : Bf c m7)
    (Q : PUnit → sProp 𝕄) :
    iprop(pt c mP P ∗ pt c mO f1 ∗ pt c m2 f2 ∗ pt c m3 f3 ∗ pt c m4 f4 ∗ pt c m5 f5 ∗ pt c m6 f6 ∗ pt c m7 f7
      ∗ ((∃ acc, inv c P 100 acc) -∗ Q ⟨⟩))
    ⊢ wp frame (wpE (defs₀ (F := Ideal)) Variants.none c none) Set.univ
      (cc1_fcos_nms (F := Ideal) mP (Memref.isWhole_whole _) mO (Memref.isWhole_whole _) m2 (Memref.isWhole_whole _) m3 (Memref.isWhole_whole _)
        m4 (Memref.isWhole_whole _) m5 (Memref.isWhole_whole _) m6 (Memref.isWhole_whole _) m7 (Memref.isWhole_whole _)) Q := by
  rw [cc1_fcos_nms_eq_skeleton]
  unfold cc1_fcos_nms_skel
  simp only [k1_part4_eq_skeleton, k1_part5_eq_skeleton]
  unfold k1_part4_skel k1_part5_skel
  iintro ⟨H0, H1, H2, H3, H4, H5, H6, H7, HQ⟩
  sl_exec
  delta run.sl.v59
  dsimp only
  iapply (exec_loop Idealize.ShloMosaic.frame (wpE (defs₀ (F := Ideal)) Variants.none c none) Set.univ _ _ _ _ _ _ (loopInv c P _)) $$ [H0 H1 H2 H3 H4 H5 H6 H7]
  · delta run.sl.H2_1 run.sl.H3_1 run.sl.H4_1 run.sl.H5_1 run.sl.H6_1 run.sl.H7_1
    dsimp only
    unfold loopInv inv
    dsimp only
    iexists f1
    isplitl [H0]; · iexact H0
    isplitl [H1]; · iexact H1
    isplitl [H2]
    · iapply (pt_conv c m2)
      isplitl [H2]
      · iexact H2
      · ipureintro
        refine (fill2 _ inb_S341x256_S341x256_0_0 _).trans ?_
        exact (Idealize.ShloMosaic.shapeCast_self _ _).trans (pay28_eq _ _ _ _ _ _ (plane_of P 0 rfl _) (plane_of P 2 rfl _) (plane_of P 4 rfl _))
    isplitl [H3]
    · iapply (pt_conv c m3)
      isplitl [H3]
      · iexact H3
      · ipureintro
        refine (fill3 _ inb_S341x256_S341x256_0_0 _).trans ?_
        exact (Idealize.ShloMosaic.shapeCast_self _ _).trans (pay29_eq _ _ _ _ _ _ (plane_of P 1 rfl _) (plane_of P 3 rfl _) (plane_of P 5 rfl _))
    isplitl [H4]
    · iapply (pt_conv c m4)
      isplitl [H4]
      · iexact H4
      · ipureintro
        refine (fill4 _ inb_S341x256_S341x256_0_0 _).trans ?_
        exact (Idealize.ShloMosaic.shapeCast_self _ _).trans (pay30_eq _ _ _ _ _ _ (plane_of P 0 rfl _) (plane_of P 2 rfl _) (plane_of P 6 rfl _))
    isplitl [H5]
    · iapply (pt_conv c m5)
      isplitl [H5]
      · iexact H5
      · ipureintro
        refine (fill5 _ inb_S341x256_S341x256_0_0 _).trans ?_
        exact (Idealize.ShloMosaic.shapeCast_self _ _).trans (pay31_eq _ _ _ _ _ _ (plane_of P 1 rfl _) (plane_of P 3 rfl _) (plane_of P 7 rfl _))
    isplitl [H6]
    · iapply (pt_conv c m6)
      isplitl [H6]
      · iexact H6
      · ipureintro
        refine (fill6 _ inb_S341x256_S341x256_0_0 _).trans ?_
        exact pay36_eq _ _ _ _ _ _ _ _ (pay28_eq _ _ _ _ _ _ (plane_of P 0 rfl _) (plane_of P 2 rfl _) (plane_of P 4 rfl _)) (pay29_eq _ _ _ _ _ _ (plane_of P 1 rfl _) (plane_of P 3 rfl _) (plane_of P 5 rfl _)) (pay30_eq _ _ _ _ _ _ (plane_of P 0 rfl _) (plane_of P 2 rfl _) (plane_of P 6 rfl _)) (pay31_eq _ _ _ _ _ _ (plane_of P 1 rfl _) (plane_of P 3 rfl _) (plane_of P 7 rfl _))
    isplitl [H7]
    · iapply (pt_conv c m7)
      isplitl [H7]
      · iexact H7
      · ipureintro
        refine (writes_full _ _ inb_S341x256_S341x256_0_0).trans ?_
        exact (Idealize.ShloMosaic.shapeCast_self _ _).trans (funext (plane_of P 8 rfl _))
    ipureintro
    exact ⟨cols_start _ _ (funext (plane_of P 8 rfl _)), rows_zero P f1⟩
  · iintro %acc H
    unfold loopInv
    dsimp only
    rw [trips_eq]
    rw [wp_pure]
    imodintro
    iapply HQ
    iexists acc
    iexact H

end Cert.Proof.Nms
end
-- ==== Proof.NmsRegion.lean ====
module

public import proofs.«01_k».proof.Proof.NmsRun
public import Idealize.ShloMosaic.Lib.Pipeline.RegionArraysS

@[expose] public section

noncomputable section

namespace Cert.Proof.Nms

open Cert.KernelIdeal Cert.KernelIdeal.Gen Cert.Proof.Core Cert.Proof.Pay
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ UU ℕ

/-- All one hundred rows of results. -/
def outFull (P : FVec Ideal S10x341x256 .f32) : FVec Ideal S100x1x128 .f32 := fun j => outAt P (pickAt P (j 0).val) (j 2).val

theorem rows_full (P : FVec Ideal S10x341x256 .f32) (O : FVec Ideal S100x1x128 .f32) (h : Rows P 100 O) : O = outFull P := by
  funext j
  obtain ⟨a, b, l, rfl⟩ : ∃ a b l, j = ix3 a b l := ⟨_, _, _, eq_ix3 j⟩
  obtain rfl : b = 0 := Subsingleton.elim _ _
  exact h a a.isLt l

/-- The scoped buffers the call does not stage. -/
abbrev Φc (c : Dev nD) : sProp 𝕄 := Pipeline.scopedRest (Ix := Unit) (Name := ℕ) (U := UU) (Lvl := ℕ) (Val := Elt Ideal) spec1 c

section Region
variable (W : Dev nD → Valuation τ sig (Elt Ideal))

/-- The packed array as the call stages it. -/
abbrev stg (c : Dev nD) : FVec Ideal S10x341x256 .f32 := ((cfg1.win 0).blk t1_0).view.read (Elt Ideal) (W c (Proc.devRef .tc main_v5))

/-- What the call's arrays and staging buffers hold, from buffers at `W`. -/
def dat (c : Dev nD) : Dat τ (Elt Ideal) Unit ℕ UU ℕ cfg1 c where
  A w := W c (Proc.devRef .tc (Pipeline.arrRef spec1 w))
  after w _ := match w with
    | ⟨0, _⟩ => stg W c
    | ⟨1, _⟩ => outFull (stg W c)
  Φ _ := Φc c
  q _ := fullShare
  owed _ := 0

theorem before_in (c : Dev nD) (d : (cfg1.win 0).block.Idx → Elt Ideal (cfg1.win 0).elt) : (dat W c).before 0 t1_0 d = stg W c := by
  unfold Dat.before; rw [if_pos (by decide)]; rfl

theorem body_obligation (c : Dev nD) : BodyObligation (dat W c) (defs₀ (F := Ideal)) 𝒱₀ () Set.univ := fun t => by
  obtain rfl := fin_N1 t
  rw [bigSep_W1, bigSep_W1]
  simp only [owns_whole_eq]
  rw [show (dat W c).Φ t1_0.castSucc = Φc c from rfl, show (dat W c).Φ t1_0.succ = Φc c from rfl,
    show (dat W c).owesAt () t1_0.succ = (dat W c).owesAt () t1_0.castSucc from rfl]
  rw [show Φc c = _ from scopedRest1_eq c]
  iintro ⟨⟨R0, R1, R2, R3, R4, R5, R6, R7, R8, R9, ⟨%f2, H2⟩, ⟨%f3, H3⟩, ⟨%f4, H4⟩, ⟨%f5, H5⟩, ⟨%f6, H6⟩, %f7, H7⟩, Howes, ⟨%d0, %f0, %hf0, H0⟩, ⟨%d1, %f1, -, H1⟩⟩
  rw [before_in] at hf0
  subst hf0
  iapply (run c (stg W c) f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%acc, H⟩
  unfold inv
  icases H with ⟨%O, H0, H1, H2, H3, H4, H5, H6, H7, %hO⟩
  obtain rfl := rows_full _ _ hO.2
  isplitl [R0 R1 R2 R3 R4 R5 R6 R7 R8 R9 H2 H3 H4 H5 H6 H7]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [H2]; · iexists _; iexact H2
    isplitl [H3]; · iexists _; iexact H3
    isplitl [H4]; · iexists _; iexact H4
    isplitl [H5]; · iexists _; iexact H5
    isplitl [H6]; · iexists _; iexact H6
    iexists _; iexact H7
  isplitl [Howes]; · iexact Howes
  isplitl [H0]; · iexists _; isplitr; swap; (· iexact H0); ipureintro; dsimp only [dat]
  iexists _; isplitr; swap; (· iexact H1); ipureintro; dsimp only [dat]

end Region

end Cert.Proof.Nms

end
-- ==== Proof.KernelRun.lean ====
module

public import proofs.«01_k».proof.Proof.Prep
public import proofs.«01_k».proof.Proof.NmsRegion
public import proofs.«01_k».proof.Proof.Gen.KernelIdeal.Regions

@[expose] public section

noncomputable section

namespace Cert.Proof.KRun

open Cert.KernelIdeal Cert.KernelIdeal.Gen Cert.Proof.Nms
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg ucRefs LevelCut)

local notation "𝕄" => MT nD τ sig Unit (Elt Ideal) ℕ UU ℕ

section
variable (m : (ℓ : Loc nD τ sig) → Buf (Elt Ideal) ℓ)

/-! ## The buffers between the items of the main function -/

def W1 (c : Dev nD) : Valuation τ sig (Elt Ideal) := StableHlo.after hostOps0 (V0 m c)
def W2 (c : Dev nD) : Valuation τ sig (Elt Ideal) := Pipeline.afterRegion (Prep.dat (W1 m) c) (W1 m c)
def W3 (c : Dev nD) : Valuation τ sig (Elt Ideal) := StableHlo.after hostOps1 (W2 m c)
def W4 (c : Dev nD) : Valuation τ sig (Elt Ideal) := Pipeline.afterRegion (Nms.dat (W3 m) c) (W3 m c)
def W5 (c : Dev nD) : Valuation τ sig (Elt Ideal) := StableHlo.after hostOps2 (W4 m c)

/-- Both calls' data. -/
def pdats (p : Fin 2) (c : Dev nD) : Dat τ (Elt Ideal) Unit ℕ UU ℕ (cfgs p) c :=
  match p with
  | ⟨0, _⟩ => Prep.dat (W1 m) c
  | ⟨1, _⟩ => Nms.dat (W3 m) c

abbrev L : GSem nD τ sig → Finset Unit := fun g => if g.1.2 = .tc then {()} else ∅
abbrev lv : GSem nD τ sig → Unit → ℕ := fun _ _ => 0

abbrev E (c : Dev nD) : sProp 𝕄 := iprop(∃ W, owes (c : Thread nD τ) (0 : CellTallies nD τ sig Unit) W)

theorem cut (p : Fin 2) : LevelCut (nD := nD) (τ := τ) (Val := Elt Ideal) (pcfgs (F := Ideal)) adm () L lv p (fun _ => 0) (fun _ => 0) where
  hι c w s := by simp [L]
  hιb c w s := le_refl _
  hD c g i h := absurd h (by simp)

set_option backward.isDefEq.respectTransparency.types false in
def reg0 : RegionSeg (pcfgs (F := Ideal)) adm (pdats m) () defs₀ 𝒱₀ L lv 0 :=
  RegionSeg.ofHeldIn (pcfgs (F := Ideal)) adm (pdats m) () defs₀ 𝒱₀ L lv 0 (fun _ => 0) (ucRefs τ sig) (fun _ => iprop(emp)) (fun _ => iprop(emp))
    launch0.toP rfl (fun c => (Prep.body_obligation (W1 m) c).loose) (fun _ _ => rfl) (fun _ => rfl)
    (fun c => (Prep.dat (W1 m) c).share_full fun _ => rfl)
    (fun c => by rw [show (pdats m 0 c).Φ 0 = Prep.Φc c from rfl]; iintro ⟨H, -⟩; iexact H)
    (fun c => by rw [show (pdats m 0 c).Φ (Fin.last _) = Prep.Φc c from rfl]; iintro H; isplitl [H]; (· iexact H); iempintro)
    (fun _ => 0) (cut 0) (fun _ => iprop(emp)) (W1 m) (fun _ _ => rfl)

set_option backward.isDefEq.respectTransparency.types false in
def reg1 : RegionSeg (pcfgs (F := Ideal)) adm (pdats m) () defs₀ 𝒱₀ L lv 1 :=
  RegionSeg.ofHeldIn (pcfgs (F := Ideal)) adm (pdats m) () defs₀ 𝒱₀ L lv 1 (fun _ => 0) (ucRefs τ sig) (fun _ => iprop(emp)) (fun _ => iprop(emp))
    launch1.toP rfl (fun c => (Nms.body_obligation (W3 m) c).loose) (fun _ _ => rfl) (fun _ => rfl)
    (fun c => (Nms.dat (W3 m) c).share_full fun _ => rfl)
    (fun c => by rw [show (pdats m 1 c).Φ 0 = Nms.Φc c from rfl]; iintro ⟨H, -⟩; iexact H)
    (fun c => by rw [show (pdats m 1 c).Φ (Fin.last _) = Nms.Φc c from rfl]; iintro H; isplitl [H]; (· iexact H); iempintro)
    (fun _ => 0) (cut 1) (fun _ => iprop(emp)) (W3 m) (fun _ _ => rfl)

def host0 : HostSeg (Ix := Unit) (Name := ℕ) (U := UU) (Lvl := ℕ) (pcfgs (F := Ideal)) defs₀ 𝒱₀ L lv :=
  HostSeg.ofOps _ _ _ _ _ (ucRefs τ sig) hostOps0 (fun op h => Pipeline.sub_ucRefs op ((List.forall_iff_forall_mem.mp hostOps0_sub) op h))
    (fun op h => (List.forall_iff_forall_mem.mp hostOps0_fresh) op h) (V0 m) E
def host1 : HostSeg (Ix := Unit) (Name := ℕ) (U := UU) (Lvl := ℕ) (pcfgs (F := Ideal)) defs₀ 𝒱₀ L lv :=
  HostSeg.ofOps _ _ _ _ _ (ucRefs τ sig) hostOps1 (fun op h => Pipeline.sub_ucRefs op ((List.forall_iff_forall_mem.mp hostOps1_sub) op h))
    (fun op h => (List.forall_iff_forall_mem.mp hostOps1_fresh) op h) (W2 m) E
def host2 : HostSeg (Ix := Unit) (Name := ℕ) (U := UU) (Lvl := ℕ) (pcfgs (F := Ideal)) defs₀ 𝒱₀ L lv :=
  HostSeg.ofOps _ _ _ _ _ (ucRefs τ sig) hostOps2 (fun op h => Pipeline.sub_ucRefs op ((List.forall_iff_forall_mem.mp hostOps2_sub) op h))
    (fun op h => (List.forall_iff_forall_mem.mp hostOps2_fresh) op h) (W4 m) E

theorem sub0 : Pipeline.arrRefs (pcfgs (F := Ideal) 0).spec ⊆ ucRefs τ sig := by decide

theorem sub1 : Pipeline.arrRefs (pcfgs (F := Ideal) 1).spec ⊆ ucRefs τ sig := by decide

abbrev items (_ : Dev nD) : List (Seg (pcfgs (F := Ideal)) adm (pdats m) () defs₀ 𝒱₀ L lv) :=
  [.host (host0 m), .region (reg0 m), .host (host1 m), .region (reg1 m), .host (host2 m)]

set_option backward.isDefEq.respectTransparency.types false in
theorem pre0 (c : Dev nD) : iprop(StableHlo.held (c : Thread nD τ) (ucRefs τ sig) (W1 m c) ∗ E c) ⊢ (reg0 m).pre c := by
  unfold reg0
  refine BIBase.Entails.trans ?_ (RegionSeg.ofHeldIn_pre sub0 c)
  iintro ⟨Hh, HE⟩
  isplitl [Hh]; · iexact Hh
  isplitl [HE]; · iexact HE
  isplitr <;> iempintro
set_option backward.isDefEq.respectTransparency.types false in
theorem post0 (c : Dev nD) : (reg0 m).post c ⊢ iprop(StableHlo.held (c : Thread nD τ) (ucRefs τ sig) (W2 m c) ∗ E c) := by
  unfold reg0
  refine (RegionSeg.ofHeldIn_post sub0 c).trans ?_
  iintro ⟨Hh, HE, -, -⟩
  isplitl [Hh]; · iexact Hh
  iexact HE
set_option backward.isDefEq.respectTransparency.types false in
theorem pre1 (c : Dev nD) : iprop(StableHlo.held (c : Thread nD τ) (ucRefs τ sig) (W3 m c) ∗ E c) ⊢ (reg1 m).pre c := by
  unfold reg1
  refine BIBase.Entails.trans ?_ (RegionSeg.ofHeldIn_pre sub1 c)
  iintro ⟨Hh, HE⟩
  isplitl [Hh]; · iexact Hh
  isplitl [HE]; · iexact HE
  isplitr <;> iempintro
set_option backward.isDefEq.respectTransparency.types false in
theorem post1 (c : Dev nD) : (reg1 m).post c ⊢ iprop(StableHlo.held (c : Thread nD τ) (ucRefs τ sig) (W4 m c) ∗ E c) := by
  unfold reg1
  refine (RegionSeg.ofHeldIn_post sub1 c).trans ?_
  iintro ⟨Hh, HE, -, -⟩
  isplitl [Hh]; · iexact Hh
  iexact HE

/-- The launch element. -/
def u₀ : UU := initOf (Pipeline.cells cfgs cellOf_inj) (Pipeline.launchToks cfgs cellOf_inj)

set_option backward.isDefEq.respectTransparency.types false in
/-- Every run of the kernel ends with the unscoped buffers at `W5` and every counter at zero. -/
theorem run (ρ : Dev nD → PrngReg) : θ_run defs (onTc (τ := τ) (main (F := Ideal))) ⟨m, fun _ => 0, ρ⟩ (fun r =>
    (∀ (c : Dev nD) (b : Ref sig .tc), (Proc.devRef (τ := τ) .tc b).isScoped = false → r.2.mem ((c.tc : Thread nD τ).loc b) = W5 m c (Proc.devRef .tc b))
      ∧ r.2.sem = fun _ => 0) := by
  refine Pipeline.θ_run_regions_kit_dev_sems (pcfgs (F := Ideal)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0
    (fun g h => if_neg h) (fun _ => iprop(emp)) u₀ ?_
    (T₀ := fun c => iprop(StableHlo.held (c : Thread nD τ) (ucRefs τ sig) (V0 m c) ∗ E c))
    (Tₙ := fun c => StableHlo.held (c : Thread nD τ) (ucRefs τ sig) (W5 m c))
    (hch := fun c => ⟨.rfl, pre0 m c, post0 m c, pre1 m c, post1 m c, .rfl⟩)
    (hinit := ?_) (QY := fun c s => ∀ b : Ref sig .tc, (Proc.devRef (τ := τ) .tc b).isScoped = false → s.mem ((c.tc : Thread nD τ).loc b) = W5 m c (Proc.devRef .tc b))
    (hfin := fun c s' => ?_) (hQ := fun _ h hz => ⟨h, funext fun g => hz g (.inr (regions_no_unscoped g.2))⟩)
  · iintro Hu
    imodintro
    isplitl [Hu]
    · iapply (show (ownU u₀ : sProp 𝕄) ⊢ BI.own (emb₁ (initOf (Pipeline.cells (Pipeline.pin (pcfgs (F := Ideal)) adm) cellOf_inj) (Pipeline.launchToks (Pipeline.pin (pcfgs (F := Ideal)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

end

end Cert.Proof.KRun

end
-- ==== Proof.RefRun.lean ====
/- The run of the reference program: `main` as stretches of operations with one counted loop of 100 trips among them, and
   what every buffer holds at the end as a fold of those stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4000

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

set_option maxHeartbeats 4000000 in
/-- The corners and sizes of the anchors. -/
abbrev pA : List (HloOp τ sig (Elt F)) :=
  [ StableHlo.unary main_arg3 main_v0 ((extractStridedSlice S87296x1 ![0, 0] · slices_S87296x4_S87296x1_0_0) : (⟨S87296x4, .f32⟩ : BufTy).Contents (Elt F) → (⟨S87296x1, .f32⟩ : BufTy).Contents (Elt F)),
    StableHlo.reshape main_v0 main_v1 (rfl : (.f32 : EltTy) = .f32) shapeCasts_S87296x1_S87296,
    StableHlo.unary main_arg3 main_v2 ((extractStridedSlice S87296x1 ![0, 2] · slices_S87296x4_S87296x1_0_2) : (⟨S87296x4, .f32⟩ : BufTy).Contents (Elt F) → (⟨S87296x1, .f32⟩ : BufTy).Contents (Elt F)),
    StableHlo.reshape main_v2 main_v3 (rfl : (.f32 : EltTy) = .f32) shapeCasts_S87296x1_S87296,
    StableHlo.binary main_v1 main_v3 main_v4 (addf : (⟨S87296, .f32⟩ : BufTy).Contents (Elt F) → (⟨S87296, .f32⟩ : BufTy).Contents (Elt F) → (⟨S87296, .f32⟩ : BufTy).Contents (Elt F)),
    StableHlo.nullary main_cst (constant S_ .f32 0x3F000000#32),
    StableHlo.unary main_cst main_v5 (broadcastInDim S87296 ![] bcast_S_S87296 : (⟨S_, .f32⟩ : BufTy).Contents (Elt F) → (⟨S87296, .f32⟩ : BufTy).Contents (Elt F)),
    StableHlo.binary main_v5 main_v4 main_v6 (mulf : (⟨S87296, .f32⟩ : BufTy).Contents (Elt F) → (⟨S87296, .f32⟩ : BufTy).Contents (Elt F) → (⟨S87296, .f32⟩ : BufTy).Contents (Elt F)),
    StableHlo.unary main_arg3 main_v7 ((extractStridedSlice S87296x1 ![0, 1] · slices_S87296x4_S87296x1_0_1) : (⟨S87296x4, .f32⟩ : BufTy).Contents (Elt F) → (⟨S87296x1, .f32⟩ : BufTy).Contents (Elt F)),
    StableHlo.reshape main_v7 main_v8 (rfl : (.f32 : EltTy) = .f32) shapeCasts_S87296x1_S87296,
    StableHlo.unary main_arg3 main_v9 ((extractStridedSlice S87296x1 ![0, 3] · slices_S87296x4_S87296x1_0_3) : (⟨S87296x4, .f32⟩ : BufTy).Contents (Elt F) → (⟨S87296x1, .f32⟩ : BufTy).Contents (Elt F)),
    StableHlo.reshape main_v9 main_v10 (rfl : (.f32 : EltTy) = .f32) shapeCasts_S87296x1_S87296,
    StableHlo.binary main_v8 main_v10 main_v11 (addf : (⟨S87296, .f32⟩ : BufTy).Contents (Elt F) → (⟨S87296, .f32⟩ : BufTy).Contents (Elt F) → (⟨S87296, .f32⟩ : BufTy).Contents (Elt F)),
    StableHlo.nullary main_cst_0 (constant S_ .f32 0x3F000000#32),
    StableHlo.unary main_cst_0 main_v12 (broadcastInDim S87296 ![] bcast_S_S87296 : (⟨S_, .f32⟩ : BufTy).Contents (Elt F) → (⟨S87296, .f32⟩ : BufTy).Contents (Elt F)),
    StableHlo.binary main_v12 main_v11 main_v13 (mulf : (⟨S87296, .f32⟩ : BufTy).Contents (Elt F) → (⟨S87296, .f32⟩ : BufTy).Contents (Elt F) → (⟨S87296, .f32⟩ : BufTy).Contents (Elt F)),
    StableHlo.unary main_arg3 main_v14 ((extractStridedSlice S87296x1 ![0, 2] · slices_S87296x4_S87296x1_0_2) : (⟨S87296x4, .f32⟩ : BufTy).Contents (Elt F) → (⟨S87296x1, .f32⟩ : BufTy).Contents (Elt F)),
    StableHlo.reshape main_v14 main_v15 (rfl : (.f32 : EltTy) = .f32) shapeCasts_S87296x1_S87296,
    StableHlo.unary main_arg3 main_v16 ((extractStridedSlice S87296x1 ![0, 0] · slices_S87296x4_S87296x1_0_0) : (⟨S87296x4, .f32⟩ : BufTy).Contents (Elt F) → (⟨S87296x1, .f32⟩ : BufTy).Contents (Elt F)),
    StableHlo.reshape main_v16 main_v17 (rfl : (.f32 : EltTy) = .f32) shapeCasts_S87296x1_S87296,
    StableHlo.binary main_v15 main_v17 main_v18 (subf : (⟨S87296, .f32⟩ : BufTy).Contents (Elt F) → (⟨S87296, .f32⟩ : BufTy).Contents (Elt F) → (⟨S87296, .f32⟩ : BufTy).Contents (Elt F)),
    StableHlo.unary main_arg3 main_v19 ((extractStridedSlice S87296x1 ![0, 3] · slices_S87296x4_S87296x1_0_3) : (⟨S87296x4, .f32⟩ : BufTy).Contents (Elt F) → (⟨S87296x1, .f32⟩ : BufTy).Contents (Elt F)),
    StableHlo.reshape main_v19 main_v20 (rfl : (.f32 : EltTy) = .f32) shapeCasts_S87296x1_S87296,
    StableHlo.unary main_arg3 main_v21 ((extractStridedSlice S87296x1 ![0, 1] · slices_S87296x4_S87296x1_0_1) : (⟨S87296x4, .f32⟩ : BufTy).Contents (Elt F) → (⟨S87296x1, .f32⟩ : BufTy).Contents (Elt F)),
    StableHlo.reshape main_v21 main_v22 (rfl : (.f32 : EltTy) = .f32) shapeCasts_S87296x1_S87296,
    StableHlo.binary main_v20 main_v22 main_v23 (subf : (⟨S87296, .f32⟩ : BufTy).Contents (Elt F) → (⟨S87296, .f32⟩ : BufTy).Contents (Elt F) → (⟨S87296, .f32⟩ : BufTy).Contents (Elt F)) ]

/-- The buffers that `pA` writes. -/
abbrev pA_W : List (Ref sig .tc) := [main_v0, main_v1, main_v2, main_v3, main_v4, main_cst, main_v5, main_v6, main_v7, main_v8, main_v9, main_v10, main_v11, main_cst_0, main_v12, main_v13, main_v14, main_v15, main_v16, main_v17, main_v18, main_v19, main_v20, main_v21, main_v22, main_v23]

theorem pA_sub : (pA : List (HloOp τ sig (Elt F))).Forall fun op => op.bufs ⊆ StableHlo.tcRefs τ sig :=
  ⟨unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩

theorem pA_fresh : (pA : List (HloOp τ sig (Elt F))).Forall fun op => op.fresh = ∅ :=
  forall_fresh_of_map rfl

theorem pA_writes : (pA : List (HloOp τ sig (Elt F))).Forall fun op => op.writes ⊆ (pA_W.map (Proc.devRef (τ := τ) .tc)).toFinset :=
  forall_writes_sub_of_map rfl

set_option maxHeartbeats 4000000 in
/-- The decoded boxes. -/
abbrev pB : List (HloOp τ sig (Elt F)) :=
  [ StableHlo.unary main_arg1 main_v24 ((extractStridedSlice S87296x1 ![0, 0] · slices_S87296x4_S87296x1_0_0) : (⟨S87296x4, .f32⟩ : BufTy).Contents (Elt F) → (⟨S87296x1, .f32⟩ : BufTy).Contents (Elt F)),
    StableHlo.reshape main_v24 main_v25 (rfl : (.f32 : EltTy) = .f32) shapeCasts_S87296x1_S87296,
    StableHlo.binary main_v25 main_v18 main_v26 (mulf : (⟨S87296, .f32⟩ : BufTy).Contents (Elt F) → (⟨S87296, .f32⟩ : BufTy).Contents (Elt F) → (⟨S87296, .f32⟩ : BufTy).Contents (Elt F)),
    StableHlo.unary main_arg1 main_v27 ((extractStridedSlice S87296x1 ![0, 1] · slices_S87296x4_S87296x1_0_1) : (⟨S87296x4, .f32⟩ : BufTy).Contents (Elt F) → (⟨S87296x1, .f32⟩ : BufTy).Contents (Elt F)),
    StableHlo.reshape main_v27 main_v28 (rfl : (.f32 : EltTy) = .f32) shapeCasts_S87296x1_S87296,
    StableHlo.binary main_v28 main_v23 main_v29 (mulf : (⟨S87296, .f32⟩ : BufTy).Contents (Elt F) → (⟨S87296, .f32⟩ : BufTy).Contents (Elt F) → (⟨S87296, .f32⟩ : BufTy).Contents (Elt F)),
    StableHlo.unary main_arg1 main_v30 ((extractStridedSlice S87296x1 ![0, 2] · slices_S87296x4_S87296x1_0_2) : (⟨S87296x4, .f32⟩ : BufTy).Contents (Elt F) → (⟨S87296x1, .f32⟩ : BufTy).Contents (Elt F)),
    StableHlo.reshape main_v30 main_v31 (rfl : (.f32 : EltTy) = .f32) shapeCasts_S87296x1_S87296,
    StableHlo.binary main_v31 main_v18 main_v32 (mulf : (⟨S87296, .f32⟩ : BufTy).Contents (Elt F) → (⟨S87296, .f32⟩ : BufTy).Contents (Elt F) → (⟨S87296, .f32⟩ : BufTy).Contents (Elt F)),
    StableHlo.unary main_arg1 main_v33 ((extractStridedSlice S87296x1 ![0, 3] · slices_S87296x4_S87296x1_0_3) : (⟨S87296x4, .f32⟩ : BufTy).Contents (Elt F) → (⟨S87296x1, .f32⟩ : BufTy).Contents (Elt F)),
    StableHlo.reshape main_v33 main_v34 (rfl : (.f32 : EltTy) = .f32) shapeCasts_S87296x1_S87296,
    StableHlo.binary main_v34 main_v23 main_v35 (mulf : (⟨S87296, .f32⟩ : BufTy).Contents (Elt F) → (⟨S87296, .f32⟩ : BufTy).Contents (Elt F) → (⟨S87296, .f32⟩ : BufTy).Contents (Elt F)),
    StableHlo.binary main_v6 main_v26 main_v36 (subf : (⟨S87296, .f32⟩ : BufTy).Contents (Elt F) → (⟨S87296, .f32⟩ : BufTy).Contents (Elt F) → (⟨S87296, .f32⟩ : BufTy).Contents (Elt F)),
    StableHlo.binary main_v13 main_v29 main_v37 (subf : (⟨S87296, .f32⟩ : BufTy).Contents (Elt F) → (⟨S87296, .f32⟩ : BufTy).Contents (Elt F) → (⟨S87296, .f32⟩ : BufTy).Contents (Elt F)),
    StableHlo.binary main_v6 main_v32 main_v38 (addf : (⟨S87296, .f32⟩ : BufTy).Contents (Elt F) → (⟨S87296, .f32⟩ : BufTy).Contents (Elt F) → (⟨S87296, .f32⟩ : BufTy).Contents (Elt F)),
    StableHlo.binary main_v13 main_v35 main_v39 (addf : (⟨S87296, .f32⟩ : BufTy).Contents (Elt F) → (⟨S87296, .f32⟩ : BufTy).Contents (Elt F) → (⟨S87296, .f32⟩ : BufTy).Contents (Elt F)),
    StableHlo.unary main_v36 main_v40 (broadcastInDim S87296x1 ![0] bcast_S87296_S87296x1_0 : (⟨S87296, .f32⟩ : BufTy).Contents (Elt F) → (⟨S87296x1, .f32⟩ : BufTy).Contents (Elt F)),
    StableHlo.unary main_v37 main_v41 (broadcastInDim S87296x1 ![0] bcast_S87296_S87296x1_0 : (⟨S87296, .f32⟩ : BufTy).Contents (Elt F) → (⟨S87296x1, .f32⟩ : BufTy).Contents (Elt F)),
    StableHlo.unary main_v38 main_v42 (broadcastInDim S87296x1 ![0] bcast_S87296_S87296x1_0 : (⟨S87296, .f32⟩ : BufTy).Contents (Elt F) → (⟨S87296x1, .f32⟩ : BufTy).Contents (Elt F)),
    StableHlo.unary main_v39 main_v43 (broadcastInDim S87296x1 ![0] bcast_S87296_S87296x1_0 : (⟨S87296, .f32⟩ : BufTy).Contents (Elt F) → (⟨S87296x1, .f32⟩ : BufTy).Contents (Elt F)),
    StableHlo.nary ![main_v40, main_v41, main_v42, main_v43] main_v44 (fun u => (concatenate S87296x4 1 [⟨S87296x1, (u 0 : (⟨S87296x1, .f32⟩ : BufTy).Contents (Elt F))⟩, ⟨S87296x1, (u 1 : (⟨S87296x1, .f32⟩ : BufTy).Contents (Elt F))⟩, ⟨S87296x1, (u 2 : (⟨S87296x1, .f32⟩ : BufTy).Contents (Elt F))⟩, ⟨S87296x1, (u 3 : (⟨S87296x1, .f32⟩ : BufTy).Contents (Elt F))⟩] concatenates_S87296x1_S87296x1_S87296x1_S87296x1_S87296x4_d1 : (⟨S87296x4, .f32⟩ : BufTy).Contents (Elt F))) ]

/-- The buffers that `pB` writes. -/
abbrev pB_W : List (Ref sig .tc) := [main_v24, main_v25, main_v26, main_v27, main_v28, main_v29, main_v30, main_v31, main_v32, main_v33, main_v34, main_v35, main_v36, main_v37, main_v38, main_v39, main_v40, main_v41, main_v42, main_v43, main_v44]

theorem pB_sub : (pB : List (HloOp τ sig (Elt F))).Forall fun op => op.bufs ⊆ StableHlo.tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., binary_bufs_sub .., binary_bufs_sub .., binary_bufs_sub .., binary_bufs_sub .., unary_bufs_sub .., unary_bufs_sub .., unary_bufs_sub .., unary_bufs_sub .., nary_bufs_sub ..⟩

theorem pB_fresh : (pB : List (HloOp τ sig (Elt F))).Forall fun op => op.fresh = ∅ :=
  forall_fresh_of_map rfl

theorem pB_writes : (pB : List (HloOp τ sig (Elt F))).Forall fun op => op.writes ⊆ (pB_W.map (Proc.devRef (τ := τ) .tc)).toFinset :=
  forall_writes_sub_of_map rfl

set_option maxHeartbeats 4000000 in
/-- The logistic function of the class logits, and that of the centre logits up to its denominator. -/
abbrev pC : List (HloOp τ sig (Elt F)) :=
  [ StableHlo.unary main_arg0 main_v45 (Host.negf : (⟨S87296x91, .f32⟩ : BufTy).Contents (Elt F) → (⟨S87296x91, .f32⟩ : BufTy).Contents (Elt F)),
    StableHlo.unary main_v45 main_v46 (Host.exp : (⟨S87296x91, .f32⟩ : BufTy).Contents (Elt F) → (⟨S87296x91, .f32⟩ : BufTy).Contents (Elt F)),
    StableHlo.nullary main_cst_1 (constant S_ .f32 0x3F800000#32),
    StableHlo.unary main_cst_1 main_v47 (broadcastInDim S87296x91 ![] bcast_S_S87296x91 : (⟨S_, .f32⟩ : BufTy).Contents (Elt F) → (⟨S87296x91, .f32⟩ : BufTy).Contents (Elt F)),
    StableHlo.binary main_v47 main_v46 main_v48 (addf : (⟨S87296x91, .f32⟩ : BufTy).Contents (Elt F) → (⟨S87296x91, .f32⟩ : BufTy).Contents (Elt F) → (⟨S87296x91, .f32⟩ : BufTy).Contents (Elt F)),
    StableHlo.nullary main_cst_2 (constant S_ .f32 0x3F800000#32),
    StableHlo.unary main_cst_2 main_v49 (broadcastInDim S87296x91 ![] bcast_S_S87296x91 : (⟨S_, .f32⟩ : BufTy).Contents (Elt F) → (⟨S87296x91, .f32⟩ : BufTy).Contents (Elt F)),
    StableHlo.binary main_v49 main_v48 main_v50 (Host.divf : (⟨S87296x91, .f32⟩ : BufTy).Contents (Elt F) → (⟨S87296x91, .f32⟩ : BufTy).Contents (Elt F) → (⟨S87296x91, .f32⟩ : BufTy).Contents (Elt F)),
    StableHlo.reshape main_arg2 main_v51 (rfl : (.f32 : EltTy) = .f32) shapeCasts_S87296x1_S87296,
    StableHlo.unary main_v51 main_v52 (Host.negf : (⟨S87296, .f32⟩ : BufTy).Contents (Elt F) → (⟨S87296, .f32⟩ : BufTy).Contents (Elt F)),
    StableHlo.unary main_v52 main_v53 (Host.exp : (⟨S87296, .f32⟩ : BufTy).Contents (Elt F) → (⟨S87296, .f32⟩ : BufTy).Contents (Elt F)),
    StableHlo.nullary main_cst_3 (constant S_ .f32 0x3F800000#32),
    StableHlo.unary main_cst_3 main_v54 (broadcastInDim S87296 ![] bcast_S_S87296 : (⟨S_, .f32⟩ : BufTy).Contents (Elt F) → (⟨S87296, .f32⟩ : BufTy).Contents (Elt F)) ]

/-- The buffers that `pC` writes. -/
abbrev pC_W : List (Ref sig .tc) := [main_v45, main_v46, main_cst_1, main_v47, main_v48, main_cst_2, main_v49, main_v50, main_v51, main_v52, main_v53, main_cst_3, main_v54]

theorem pC_sub : (pC : List (HloOp τ sig (Elt F))).Forall fun op => op.bufs ⊆ StableHlo.tcRefs τ sig :=
  ⟨unary_bufs_sub .., unary_bufs_sub .., nullary_bufs_sub .., unary_bufs_sub .., binary_bufs_sub .., nullary_bufs_sub .., unary_bufs_sub .., binary_bufs_sub .., reshape_bufs_sub .., unary_bufs_sub .., unary_bufs_sub .., nullary_bufs_sub .., unary_bufs_sub ..⟩

theorem pC_fresh : (pC : List (HloOp τ sig (Elt F))).Forall fun op => op.fresh = ∅ :=
  forall_fresh_of_map rfl

theorem pC_writes : (pC : List (HloOp τ sig (Elt F))).Forall fun op => op.writes ⊆ (pC_W.map (Proc.devRef (τ := τ) .tc)).toFinset :=
  forall_writes_sub_of_map rfl

set_option maxHeartbeats 4000000 in
/-- The class scores and their maxima. -/
abbrev pD : List (HloOp τ sig (Elt F)) :=
  [ StableHlo.binary main_v54 main_v53 main_v55 (addf : (⟨S87296, .f32⟩ : BufTy).Contents (Elt F) → (⟨S87296, .f32⟩ : BufTy).Contents (Elt F) → (⟨S87296, .f32⟩ : BufTy).Contents (Elt F)),
    StableHlo.nullary main_cst_4 (constant S_ .f32 0x3F800000#32),
    StableHlo.unary main_cst_4 main_v56 (broadcastInDim S87296 ![] bcast_S_S87296 : (⟨S_, .f32⟩ : BufTy).Contents (Elt F) → (⟨S87296, .f32⟩ : BufTy).Contents (Elt F)),
    StableHlo.binary main_v56 main_v55 main_v57 (Host.divf : (⟨S87296, .f32⟩ : BufTy).Contents (Elt F) → (⟨S87296, .f32⟩ : BufTy).Contents (Elt F) → (⟨S87296, .f32⟩ : BufTy).Contents (Elt F)),
    StableHlo.unary main_v57 main_v58 (broadcastInDim S87296x1 ![0] bcast_S87296_S87296x1_0 : (⟨S87296, .f32⟩ : BufTy).Contents (Elt F) → (⟨S87296x1, .f32⟩ : BufTy).Contents (Elt F)),
    StableHlo.unary main_v58 main_v59 (broadcastInDim S87296x91 ![0, 1] bcast_S87296x1_S87296x91_0_1 : (⟨S87296x1, .f32⟩ : BufTy).Contents (Elt F) → (⟨S87296x91, .f32⟩ : BufTy).Contents (Elt F)),
    StableHlo.binary main_v50 main_v59 main_v60 (mulf : (⟨S87296x91, .f32⟩ : BufTy).Contents (Elt F) → (⟨S87296x91, .f32⟩ : BufTy).Contents (Elt F) → (⟨S87296x91, .f32⟩ : BufTy).Contents (Elt F)),
    StableHlo.unary main_v60 main_v61 (Host.sqrt : (⟨S87296x91, .f32⟩ : BufTy).Contents (Elt F) → (⟨S87296x91, .f32⟩ : BufTy).Contents (Elt F)),
    StableHlo.nullary main_cst_5 (constant S_ .f32 0xFF800000#32),
    StableHlo.binary main_v61 main_cst_5 main_v62 ((fun x v => Host.reduce FloatOps.maximumf x v reducesTo_S87296x91_S87296_d1 h_S_) : (⟨S87296x91, .f32⟩ : BufTy).Contents (Elt F) → (⟨S_, .f32⟩ : BufTy).Contents (Elt F) → (⟨S87296, .f32⟩ : BufTy).Contents (Elt F)) ]

/-- The buffers that `pD` writes. -/
abbrev pD_W : List (Ref sig .tc) := [main_v55, main_cst_4, main_v56, main_v57, main_v58, main_v59, main_v60, main_v61, main_cst_5, main_v62]

theorem pD_sub : (pD : List (HloOp τ sig (Elt F))).Forall fun op => op.bufs ⊆ StableHlo.tcRefs τ sig :=
  ⟨binary_bufs_sub .., nullary_bufs_sub .., unary_bufs_sub .., binary_bufs_sub .., unary_bufs_sub .., unary_bufs_sub .., binary_bufs_sub .., unary_bufs_sub .., nullary_bufs_sub .., binary_bufs_sub ..⟩

theorem pD_fresh : (pD : List (HloOp τ sig (Elt F))).Forall fun op => op.fresh = ∅ :=
  forall_fresh_of_map rfl

theorem pD_writes : (pD : List (HloOp τ sig (Elt F))).Forall fun op => op.writes ⊆ (pD_W.map (Proc.devRef (τ := τ) .tc)).toFinset :=
  forall_writes_sub_of_map rfl

set_option maxHeartbeats 4000000 in
/-- The labels: the call of @argmax. -/
abbrev pE : List (HloOp τ sig (Elt F)) :=
  [ StableHlo.TRef.nullary (.of main_call0_v0 : StableHlo.TRef sig ⟨S87296x91, .i32⟩) (iotaInDim S87296x91 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v61 : StableHlo.TRef sig ⟨S87296x91, .f32⟩) (.of main_call0_v0 : StableHlo.TRef sig ⟨S87296x91, .i32⟩) (.of main_call0_cst : StableHlo.TRef sig ⟨S_, .f32⟩) (.of main_call0_c : StableHlo.TRef sig ⟨S_, .i32⟩) (.of main_call0_v1_0 : StableHlo.TRef sig ⟨S87296, .f32⟩) (fun x y u v j => (Host.argReduce reducer_argmax_f32_i32 x y u v reducesTo_S87296x91_S87296_d1 h_S_ j).1),
    StableHlo.TRef.quaternary (.of main_v61 : StableHlo.TRef sig ⟨S87296x91, .f32⟩) (.of main_call0_v0 : StableHlo.TRef sig ⟨S87296x91, .i32⟩) (.of main_call0_cst : StableHlo.TRef sig ⟨S_, .f32⟩) (.of main_call0_c : StableHlo.TRef sig ⟨S_, .i32⟩) (.of main_v63 : StableHlo.TRef sig ⟨S87296, .i32⟩) (fun x y u v j => (Host.argReduce reducer_argmax_f32_i32 x y u v reducesTo_S87296x91_S87296_d1 h_S_ j).2) ]

/-- The buffers that `pE` writes. -/
abbrev pE_W : List (Ref sig .tc) := [main_call0_v0, main_call0_cst, main_call0_c, main_call0_v1_0, main_v63]

theorem pE_sub : (pE : List (HloOp τ sig (Elt F))).Forall fun op => op.bufs ⊆ StableHlo.tcRefs τ sig :=
  ⟨nullary_bufs_sub .., nullary_bufs_sub .., nullary_bufs_sub .., quaternary_bufs_sub .., quaternary_bufs_sub ..⟩

theorem pE_fresh : (pE : List (HloOp τ sig (Elt F))).Forall fun op => op.fresh = ∅ :=
  forall_fresh_of_map rfl

theorem pE_writes : (pE : List (HloOp τ sig (Elt F))).Forall fun op => op.writes ⊆ (pE_W.map (Proc.devRef (τ := τ) .tc)).toFinset :=
  forall_writes_sub_of_map rfl

set_option maxHeartbeats 4000000 in
/-- The areas of the boxes. -/
abbrev pF : List (HloOp τ sig (Elt F)) :=
  [ StableHlo.unary main_v44 main_v64 ((extractStridedSlice S87296x1 ![0, 2] · slices_S87296x4_S87296x1_0_2) : (⟨S87296x4, .f32⟩ : BufTy).Contents (Elt F) → (⟨S87296x1, .f32⟩ : BufTy).Contents (Elt F)),
    StableHlo.reshape main_v64 main_v65 (rfl : (.f32 : EltTy) = .f32) shapeCasts_S87296x1_S87296,
    StableHlo.unary main_v44 main_v66 ((extractStridedSlice S87296x1 ![0, 0] · slices_S87296x4_S87296x1_0_0) : (⟨S87296x4, .f32⟩ : BufTy).Contents (Elt F) → (⟨S87296x1, .f32⟩ : BufTy).Contents (Elt F)),
    StableHlo.reshape main_v66 main_v67 (rfl : (.f32 : EltTy) = .f32) shapeCasts_S87296x1_S87296,
    StableHlo.binary main_v65 main_v67 main_v68 (subf : (⟨S87296, .f32⟩ : BufTy).Contents (Elt F) → (⟨S87296, .f32⟩ : BufTy).Contents (Elt F) → (⟨S87296, .f32⟩ : BufTy).Contents (Elt F)),
    StableHlo.nullary main_cst_6 (constant S_ .f32 0x00000000#32),
    StableHlo.unary main_cst_6 main_v69 (broadcastInDim S87296 ![] bcast_S_S87296 : (⟨S_, .f32⟩ : BufTy).Contents (Elt F) → (⟨S87296, .f32⟩ : BufTy).Contents (Elt F)),
    StableHlo.binary main_v68 main_v69 main_v70 (maximumf : (⟨S87296, .f32⟩ : BufTy).Contents (Elt F) → (⟨S87296, .f32⟩ : BufTy).Contents (Elt F) → (⟨S87296, .f32⟩ : BufTy).Contents (Elt F)),
    StableHlo.unary main_v44 main_v71 ((extractStridedSlice S87296x1 ![0, 3] · slices_S87296x4_S87296x1_0_3) : (⟨S87296x4, .f32⟩ : BufTy).Contents (Elt F) → (⟨S87296x1, .f32⟩ : BufTy).Contents (Elt F)),
    StableHlo.reshape main_v71 main_v72 (rfl : (.f32 : EltTy) = .f32) shapeCasts_S87296x1_S87296,
    StableHlo.unary main_v44 main_v73 ((extractStridedSlice S87296x1 ![0, 1] · slices_S87296x4_S87296x1_0_1) : (⟨S87296x4, .f32⟩ : BufTy).Contents (Elt F) → (⟨S87296x1, .f32⟩ : BufTy).Contents (Elt F)),
    StableHlo.reshape main_v73 main_v74 (rfl : (.f32 : EltTy) = .f32) shapeCasts_S87296x1_S87296,
    StableHlo.binary main_v72 main_v74 main_v75 (subf : (⟨S87296, .f32⟩ : BufTy).Contents (Elt F) → (⟨S87296, .f32⟩ : BufTy).Contents (Elt F) → (⟨S87296, .f32⟩ : BufTy).Contents (Elt F)),
    StableHlo.nullary main_cst_7 (constant S_ .f32 0x00000000#32),
    StableHlo.unary main_cst_7 main_v76 (broadcastInDim S87296 ![] bcast_S_S87296 : (⟨S_, .f32⟩ : BufTy).Contents (Elt F) → (⟨S87296, .f32⟩ : BufTy).Contents (Elt F)),
    StableHlo.binary main_v75 main_v76 main_v77 (maximumf : (⟨S87296, .f32⟩ : BufTy).Contents (Elt F) → (⟨S87296, .f32⟩ : BufTy).Contents (Elt F) → (⟨S87296, .f32⟩ : BufTy).Contents (Elt F)),
    StableHlo.binary main_v70 main_v77 main_v78 (mulf : (⟨S87296, .f32⟩ : BufTy).Contents (Elt F) → (⟨S87296, .f32⟩ : BufTy).Contents (Elt F) → (⟨S87296, .f32⟩ : BufTy).Contents (Elt F)) ]

/-- The buffers that `pF` writes. -/
abbrev pF_W : List (Ref sig .tc) := [main_v64, main_v65, main_v66, main_v67, main_v68, main_cst_6, main_v69, main_v70, main_v71, main_v72, main_v73, main_v74, main_v75, main_cst_7, main_v76, main_v77, main_v78]

theorem pF_sub : (pF : List (HloOp τ sig (Elt F))).Forall fun op => op.bufs ⊆ StableHlo.tcRefs τ sig :=
  ⟨unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub ..⟩

theorem pF_fresh : (pF : List (HloOp τ sig (Elt F))).Forall fun op => op.fresh = ∅ :=
  forall_fresh_of_map rfl

theorem pF_writes : (pF : List (HloOp τ sig (Elt F))).Forall fun op => op.writes ⊆ (pF_W.map (Proc.devRef (τ := τ) .tc)).toFinset :=
  forall_writes_sub_of_map rfl

set_option maxHeartbeats 4000000 in
/-- What the loop carries at its entry. -/
abbrev pG : List (HloOp τ sig (Elt F)) :=
  [ StableHlo.nullary main_c (constantI S_ 32 0#32),
    StableHlo.unary main_c main_v79 (broadcastInDim S100 ![] bcast_S_S100 : (⟨S_, .i32⟩ : BufTy).Contents (Elt F) → (⟨S100, .i32⟩ : BufTy).Contents (Elt F)),
    StableHlo.nullary main_c_8 (constantI S_ 32 0#32),
    StableHlo.nullary main_c_9 (constantI S_ 32 0#32),
    StableHlo.unary main_v44 main_v80_0 id,
    StableHlo.unary main_v78 main_v80_1 id,
    StableHlo.unary main_c_9 main_v80_2 id,
    StableHlo.unary main_c_8 main_v80_3 id,
    StableHlo.unary main_v62 main_v80_4 id,
    StableHlo.unary main_v79 main_v80_5 id ]

/-- The buffers that `pG` writes. -/
abbrev pG_W : List (Ref sig .tc) := [main_c, main_v79, main_c_8, main_c_9, main_v80_0, main_v80_1, main_v80_2, main_v80_3, main_v80_4, main_v80_5]

theorem pG_sub : (pG : List (HloOp τ sig (Elt F))).Forall fun op => op.bufs ⊆ StableHlo.tcRefs τ sig :=
  ⟨nullary_bufs_sub .., unary_bufs_sub .., nullary_bufs_sub .., nullary_bufs_sub .., unary_bufs_sub .., unary_bufs_sub .., unary_bufs_sub .., unary_bufs_sub .., unary_bufs_sub .., unary_bufs_sub ..⟩

theorem pG_fresh : (pG : List (HloOp τ sig (Elt F))).Forall fun op => op.fresh = ∅ :=
  forall_fresh_of_map rfl

theorem pG_writes : (pG : List (HloOp τ sig (Elt F))).Forall fun op => op.writes ⊆ (pG_W.map (Proc.devRef (τ := τ) .tc)).toFinset :=
  forall_writes_sub_of_map rfl

set_option maxHeartbeats 4000000 in
/-- The kept boxes. -/
abbrev qA : List (HloOp τ sig (Elt F)) :=
  [ StableHlo.nullary main_c_10 (constantI S_ 32 0#32),
    StableHlo.unary main_c_10 main_v81 (broadcastInDim S100 ![] bcast_S_S100 : (⟨S_, .i32⟩ : BufTy).Contents (Elt F) → (⟨S100, .i32⟩ : BufTy).Contents (Elt F)),
    StableHlo.binary main_v80_5 main_v81 main_v82 (cmpi .slt : (⟨S100, .i32⟩ : BufTy).Contents (Elt F) → (⟨S100, .i32⟩ : BufTy).Contents (Elt F) → (⟨S100, .i1⟩ : BufTy).Contents (Elt F)),
    StableHlo.nullary main_c_11 (constantI S_ 32 87296#32),
    StableHlo.unary main_c_11 main_v83 (broadcastInDim S100 ![] bcast_S_S100 : (⟨S_, .i32⟩ : BufTy).Contents (Elt F) → (⟨S100, .i32⟩ : BufTy).Contents (Elt F)),
    StableHlo.binary main_v80_5 main_v83 main_v84 (addi : (⟨S100, .i32⟩ : BufTy).Contents (Elt F) → (⟨S100, .i32⟩ : BufTy).Contents (Elt F) → (⟨S100, .i32⟩ : BufTy).Contents (Elt F)),
    StableHlo.ternary main_v82 main_v84 main_v80_5 main_v85 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v85 main_v86 (broadcastInDim S100x1 ![0] bcast_S100_S100x1_0 : (⟨S100, .i32⟩ : BufTy).Contents (Elt F) → (⟨S100x1, .i32⟩ : BufTy).Contents (Elt F)),
    StableHlo.binary main_v44 main_v86 main_v87 ((fun x i => Host.gather gather_S87296x4_S100x1_S100x4_1_0_n_n_0_1_14 x i) : (⟨S87296x4, .f32⟩ : BufTy).Contents (Elt F) → (⟨S100x1, .i32⟩ : BufTy).Contents (Elt F) → (⟨S100x4, .f32⟩ : BufTy).Contents (Elt F)) ]

/-- The buffers that `qA` writes. -/
abbrev qA_W : List (Ref sig .tc) := [main_c_10, main_v81, main_v82, main_c_11, main_v83, main_v84, main_v85, main_v86, main_v87]

theorem qA_sub : (qA : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem qA_fresh : (qA : List (HloOp τ sig (Elt F))).Forall fun op => op.fresh = ∅ :=
  forall_fresh_of_map rfl

theorem qA_writes : (qA : List (HloOp τ sig (Elt F))).Forall fun op => op.writes ⊆ (qA_W.map (Proc.devRef (τ := τ) .tc)).toFinset :=
  forall_writes_sub_of_map rfl

set_option maxHeartbeats 4000000 in
/-- The kept labels. -/
abbrev qB : List (HloOp τ sig (Elt F)) :=
  [ StableHlo.nullary main_c_12 (constantI S_ 32 0#32),
    StableHlo.unary main_c_12 main_v88 (broadcastInDim S100 ![] bcast_S_S100 : (⟨S_, .i32⟩ : BufTy).Contents (Elt F) → (⟨S100, .i32⟩ : BufTy).Contents (Elt F)),
    StableHlo.binary main_v80_5 main_v88 main_v89 (cmpi .slt : (⟨S100, .i32⟩ : BufTy).Contents (Elt F) → (⟨S100, .i32⟩ : BufTy).Contents (Elt F) → (⟨S100, .i1⟩ : BufTy).Contents (Elt F)),
    StableHlo.nullary main_c_13 (constantI S_ 32 87296#32),
    StableHlo.unary main_c_13 main_v90 (broadcastInDim S100 ![] bcast_S_S100 : (⟨S_, .i32⟩ : BufTy).Contents (Elt F) → (⟨S100, .i32⟩ : BufTy).Contents (Elt F)),
    StableHlo.binary main_v80_5 main_v90 main_v91 (addi : (⟨S100, .i32⟩ : BufTy).Contents (Elt F) → (⟨S100, .i32⟩ : BufTy).Contents (Elt F) → (⟨S100, .i32⟩ : BufTy).Contents (Elt F)),
    StableHlo.ternary main_v89 main_v91 main_v80_5 main_v92 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v92 main_v93 (broadcastInDim S100x1 ![0] bcast_S100_S100x1_0 : (⟨S100, .i32⟩ : BufTy).Contents (Elt F) → (⟨S100x1, .i32⟩ : BufTy).Contents (Elt F)),
    StableHlo.binary main_v63 main_v93 main_v94 ((fun x i => Host.gather gather_S87296_S100x1_S100_n_0_n_n_0_1_1 x i) : (⟨S87296, .i32⟩ : BufTy).Contents (Elt F) → (⟨S100x1, .i32⟩ : BufTy).Contents (Elt F) → (⟨S100, .i32⟩ : BufTy).Contents (Elt F)) ]

/-- The buffers that `qB` writes. -/
abbrev qB_W : List (Ref sig .tc) := [main_c_12, main_v88, main_v89, main_c_13, main_v90, main_v91, main_v92, main_v93, main_v94]

theorem qB_sub : (qB : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem qB_fresh : (qB : List (HloOp τ sig (Elt F))).Forall fun op => op.fresh = ∅ :=
  forall_fresh_of_map rfl

theorem qB_writes : (qB : List (HloOp τ sig (Elt F))).Forall fun op => op.writes ⊆ (qB_W.map (Proc.devRef (τ := τ) .tc)).toFinset :=
  forall_writes_sub_of_map rfl

set_option maxHeartbeats 4000000 in
/-- The first operations of the kept scores. -/
abbrev qC : List (HloOp τ sig (Elt F)) :=
  [ StableHlo.nullary main_c_14 (constantI S_ 32 0#32),
    StableHlo.unary main_c_14 main_v95 (broadcastInDim S100 ![] bcast_S_S100 : (⟨S_, .i32⟩ : BufTy).Contents (Elt F) → (⟨S100, .i32⟩ : BufTy).Contents (Elt F)),
    StableHlo.binary main_v80_5 main_v95 main_v96 (cmpi .slt : (⟨S100, .i32⟩ : BufTy).Contents (Elt F) → (⟨S100, .i32⟩ : BufTy).Contents (Elt F) → (⟨S100, .i1⟩ : BufTy).Contents (Elt F)) ]

/-- The buffers that `qC` writes. -/
abbrev qC_W : List (Ref sig .tc) := [main_c_14, main_v95, main_v96]

theorem qC_sub : (qC : List (HloOp τ sig (Elt F))).Forall fun op => op.bufs ⊆ StableHlo.tcRefs τ sig :=
  ⟨nullary_bufs_sub .., unary_bufs_sub .., binary_bufs_sub ..⟩

theorem qC_fresh : (qC : List (HloOp τ sig (Elt F))).Forall fun op => op.fresh = ∅ :=
  forall_fresh_of_map rfl

theorem qC_writes : (qC : List (HloOp τ sig (Elt F))).Forall fun op => op.writes ⊆ (qC_W.map (Proc.devRef (τ := τ) .tc)).toFinset :=
  forall_writes_sub_of_map rfl

set_option maxHeartbeats 4000000 in
/-- The kept scores. -/
abbrev qD : List (HloOp τ sig (Elt F)) :=
  [ StableHlo.nullary main_c_15 (constantI S_ 32 87296#32),
    StableHlo.unary main_c_15 main_v97 (broadcastInDim S100 ![] bcast_S_S100 : (⟨S_, .i32⟩ : BufTy).Contents (Elt F) → (⟨S100, .i32⟩ : BufTy).Contents (Elt F)),
    StableHlo.binary main_v80_5 main_v97 main_v98 (addi : (⟨S100, .i32⟩ : BufTy).Contents (Elt F) → (⟨S100, .i32⟩ : BufTy).Contents (Elt F) → (⟨S100, .i32⟩ : BufTy).Contents (Elt F)),
    StableHlo.ternary main_v96 main_v98 main_v80_5 main_v99 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v99 main_v100 (broadcastInDim S100x1 ![0] bcast_S100_S100x1_0 : (⟨S100, .i32⟩ : BufTy).Contents (Elt F) → (⟨S100x1, .i32⟩ : BufTy).Contents (Elt F)),
    StableHlo.binary main_v62 main_v100 main_v101 ((fun x i => Host.gather gather_S87296_S100x1_S100_n_0_n_n_0_1_1 x i) : (⟨S87296, .f32⟩ : BufTy).Contents (Elt F) → (⟨S100x1, .i32⟩ : BufTy).Contents (Elt F) → (⟨S100, .f32⟩ : BufTy).Contents (Elt F)) ]

/-- The buffers that `qD` writes. -/
abbrev qD_W : List (Ref sig .tc) := [main_c_15, main_v97, main_v98, main_v99, main_v100, main_v101]

theorem qD_sub : (qD : List (HloOp τ sig (Elt F))).Forall fun op => op.bufs ⊆ StableHlo.tcRefs τ sig :=
  ⟨nullary_bufs_sub .., unary_bufs_sub .., binary_bufs_sub .., ternary_bufs_sub .., unary_bufs_sub .., binary_bufs_sub ..⟩

theorem qD_fresh : (qD : List (HloOp τ sig (Elt F))).Forall fun op => op.fresh = ∅ :=
  forall_fresh_of_map rfl

theorem qD_writes : (qD : List (HloOp τ sig (Elt F))).Forall fun op => op.writes ⊆ (qD_W.map (Proc.devRef (τ := τ) .tc)).toFinset :=
  forall_writes_sub_of_map rfl

set_option maxHeartbeats 4000000 in
/-- The position of the trip, one further. -/
abbrev bA : List (HloOp τ sig (Elt F)) :=
  [ StableHlo.nullary main_while0b_c_21 (constantI S_ 32 1#32),
    StableHlo.binary main_v80_3 main_while0b_c_21 main_while0b_v102 (addi : (⟨S_, .i32⟩ : BufTy).Contents (Elt F) → (⟨S_, .i32⟩ : BufTy).Contents (Elt F) → (⟨S_, .i32⟩ : BufTy).Contents (Elt F)) ]

/-- The buffers that `bA` writes. -/
abbrev bA_W : List (Ref sig .tc) := [main_while0b_c_21, main_while0b_v102]

theorem bA_sub : (bA : List (HloOp τ sig (Elt F))).Forall fun op => op.bufs ⊆ StableHlo.tcRefs τ sig :=
  ⟨nullary_bufs_sub .., binary_bufs_sub ..⟩

theorem bA_fresh : (bA : List (HloOp τ sig (Elt F))).Forall fun op => op.fresh = ∅ :=
  forall_fresh_of_map rfl

theorem bA_writes : (bA : List (HloOp τ sig (Elt F))).Forall fun op => op.writes ⊆ (bA_W.map (Proc.devRef (τ := τ) .tc)).toFinset :=
  forall_writes_sub_of_map rfl

set_option maxHeartbeats 4000000 in
/-- The trip's pick: the call of @argmax_0. -/
abbrev bB : List (HloOp τ sig (Elt F)) :=
  [ StableHlo.TRef.nullary (.of main_while0b_call1_v0 : StableHlo.TRef sig ⟨S87296, .i32⟩) (iotaInDim S87296 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v80_4 : StableHlo.TRef sig ⟨S87296, .f32⟩) (.of main_while0b_call1_v0 : StableHlo.TRef sig ⟨S87296, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S87296_S_d0 h_S_ j).1),
    StableHlo.TRef.quaternary (.of main_v80_4 : StableHlo.TRef sig ⟨S87296, .f32⟩) (.of main_while0b_call1_v0 : StableHlo.TRef sig ⟨S87296, .i32⟩) (.of main_while0b_call1_cst : StableHlo.TRef sig ⟨S_, .f32⟩) (.of main_while0b_call1_c : StableHlo.TRef sig ⟨S_, .i32⟩) (.of main_while0b_v103 : StableHlo.TRef sig ⟨S_, .i32⟩) (fun x y u v j => (Host.argReduce reducer_argmax_f32_i32 x y u v reducesTo_S87296_S_d0 h_S_ j).2) ]

/-- The buffers that `bB` writes. -/
abbrev bB_W : List (Ref sig .tc) := [main_while0b_call1_v0, main_while0b_call1_cst, main_while0b_call1_c, main_while0b_call1_v1_0, main_while0b_v103]

theorem bB_sub : (bB : List (HloOp τ sig (Elt F))).Forall fun op => op.bufs ⊆ StableHlo.tcRefs τ sig :=
  ⟨nullary_bufs_sub .., nullary_bufs_sub .., nullary_bufs_sub .., quaternary_bufs_sub .., quaternary_bufs_sub ..⟩

theorem bB_fresh : (bB : List (HloOp τ sig (Elt F))).Forall fun op => op.fresh = ∅ :=
  forall_fresh_of_map rfl

theorem bB_writes : (bB : List (HloOp τ sig (Elt F))).Forall fun op => op.writes ⊆ (bB_W.map (Proc.devRef (τ := τ) .tc)).toFinset :=
  forall_writes_sub_of_map rfl

set_option maxHeartbeats 4000000 in
/-- The pick written to the kept positions. -/
abbrev bC : List (HloOp τ sig (Elt F)) :=
  [ StableHlo.nullary main_while0b_c_22 (constantI S_ 32 0#32),
    StableHlo.binary main_v80_3 main_while0b_c_22 main_while0b_v104 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 100#32),
    StableHlo.binary main_v80_3 main_while0b_c_23 main_while0b_v105 (addi : (⟨S_, .i32⟩ : BufTy).Contents (Elt F) → (⟨S_, .i32⟩ : BufTy).Contents (Elt F) → (⟨S_, .i32⟩ : BufTy).Contents (Elt F)),
    StableHlo.ternary main_while0b_v104 main_while0b_v105 main_v80_3 main_while0b_v106 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v106 main_while0b_v107 (id : (⟨S_, .i32⟩ : BufTy).Contents (Elt F) → (⟨S_, .i32⟩ : BufTy).Contents (Elt F)),
    StableHlo.unary main_while0b_v107 main_while0b_v108 (broadcastInDim S1 ![] bcast_S_S1 : (⟨S_, .i32⟩ : BufTy).Contents (Elt F) → (⟨S1, .i32⟩ : BufTy).Contents (Elt F)),
    StableHlo.ternary main_v80_5 main_while0b_v108 main_while0b_v103 main_while0b_v109 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)) ]

/-- The buffers that `bC` writes. -/
abbrev bC_W : List (Ref sig .tc) := [main_while0b_c_22, main_while0b_v104, main_while0b_c_23, main_while0b_v105, main_while0b_v106, main_while0b_v107, main_while0b_v108, main_while0b_v109]

theorem bC_sub : (bC : List (HloOp τ sig (Elt F))).Forall fun op => op.bufs ⊆ StableHlo.tcRefs τ sig :=
  ⟨nullary_bufs_sub .., binary_bufs_sub .., nullary_bufs_sub .., binary_bufs_sub .., ternary_bufs_sub .., unary_bufs_sub .., unary_bufs_sub .., ternary_bufs_sub ..⟩

theorem bC_fresh : (bC : List (HloOp τ sig (Elt F))).Forall fun op => op.fresh = ∅ :=
  forall_fresh_of_map rfl

theorem bC_writes : (bC : List (HloOp τ sig (Elt F))).Forall fun op => op.writes ⊆ (bC_W.map (Proc.devRef (τ := τ) .tc)).toFinset :=
  forall_writes_sub_of_map rfl

set_option maxHeartbeats 4000000 in
/-- The picked box. -/
abbrev bD : List (HloOp τ sig (Elt F)) :=
  [ StableHlo.nullary main_while0b_c_24 (constantI S_ 32 0#32),
    StableHlo.binary main_while0b_v103 main_while0b_c_24 main_while0b_v110 (cmpi .slt : (⟨S_, .i32⟩ : BufTy).Contents (Elt F) → (⟨S_, .i32⟩ : BufTy).Contents (Elt F) → (⟨S_, .i1⟩ : BufTy).Contents (Elt F)),
    StableHlo.nullary main_while0b_c_25 (constantI S_ 32 87296#32),
    StableHlo.binary main_while0b_v103 main_while0b_c_25 main_while0b_v111 (addi : (⟨S_, .i32⟩ : BufTy).Contents (Elt F) → (⟨S_, .i32⟩ : BufTy).Contents (Elt F) → (⟨S_, .i32⟩ : BufTy).Contents (Elt F)),
    StableHlo.ternary main_while0b_v110 main_while0b_v111 main_while0b_v103 main_while0b_v112 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_26 (constantI S_ 32 0#32),
    StableHlo.nullary main_while0b_c_27 (constantI S_ 32 0#32),
    StableHlo.binary main_while0b_c_26 main_while0b_c_27 main_while0b_v113 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 0#32),
    StableHlo.nullary main_while0b_c_29 (constantI S_ 32 4#32),
    StableHlo.binary main_while0b_c_28 main_while0b_c_29 main_while0b_v114 (addi : (⟨S_, .i32⟩ : BufTy).Contents (Elt F) → (⟨S_, .i32⟩ : BufTy).Contents (Elt F) → (⟨S_, .i32⟩ : BufTy).Contents (Elt F)),
    StableHlo.nullary main_while0b_c_30 (constantI S_ 32 0#32),
    StableHlo.ternary main_while0b_v113 main_while0b_v114 main_while0b_c_30 main_while0b_v115 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v80_0 ![main_while0b_v112, main_while0b_v115] ⟨S_, .i32⟩ main_while0b_v116 ((fun x i => Host.dynamicSlice S1x4 x (fun k => (i k (Shape.Idx.first h_S_)).toInt) sliceFits_S87296x4_S1x4) : (⟨S87296x4, .f32⟩ : BufTy).Contents (Elt F) → (Fin 2 → (⟨S_, .i32⟩ : BufTy).Contents (Elt F)) → (⟨S1x4, .f32⟩ : BufTy).Contents (Elt F)),
    StableHlo.reshape main_while0b_v116 main_while0b_v117 (rfl : (.f32 : EltTy) = .f32) shapeCasts_S1x4_S4 ]

/-- The buffers that `bD` writes. -/
abbrev bD_W : List (Ref sig .tc) := [main_while0b_c_24, main_while0b_v110, main_while0b_c_25, main_while0b_v111, main_while0b_v112, main_while0b_c_26, main_while0b_c_27, main_while0b_v113, main_while0b_c_28, main_while0b_c_29, main_while0b_v114, main_while0b_c_30, main_while0b_v115, main_while0b_v116, main_while0b_v117]

theorem bD_sub : (bD : List (HloOp τ sig (Elt F))).Forall fun op => op.bufs ⊆ StableHlo.tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩

theorem bD_fresh : (bD : List (HloOp τ sig (Elt F))).Forall fun op => op.fresh = ∅ :=
  forall_fresh_of_map rfl

theorem bD_writes : (bD : List (HloOp τ sig (Elt F))).Forall fun op => op.writes ⊆ (bD_W.map (Proc.devRef (τ := τ) .tc)).toFinset :=
  forall_writes_sub_of_map rfl

set_option maxHeartbeats 4000000 in
/-- The overlap of the picked box with each box. -/
abbrev bE : List (HloOp τ sig (Elt F)) :=
  [ StableHlo.unary main_while0b_v117 main_while0b_v118 ((extractStridedSlice S1 ![0] · slices_S4_S1_0) : (⟨S4, .f32⟩ : BufTy).Contents (Elt F) → (⟨S1, .f32⟩ : BufTy).Contents (Elt F)),
    StableHlo.reshape main_while0b_v118 main_while0b_v119 (rfl : (.f32 : EltTy) = .f32) shapeCasts_S1_S_,
    StableHlo.unary main_v80_0 main_while0b_v120 ((extractStridedSlice S87296x1 ![0, 0] · slices_S87296x4_S87296x1_0_0) : (⟨S87296x4, .f32⟩ : BufTy).Contents (Elt F) → (⟨S87296x1, .f32⟩ : BufTy).Contents (Elt F)),
    StableHlo.reshape main_while0b_v120 main_while0b_v121 (rfl : (.f32 : EltTy) = .f32) shapeCasts_S87296x1_S87296,
    StableHlo.unary main_while0b_v119 main_while0b_v122 (broadcastInDim S87296 ![] bcast_S_S87296 : (⟨S_, .f32⟩ : BufTy).Contents (Elt F) → (⟨S87296, .f32⟩ : BufTy).Contents (Elt F)),
    StableHlo.binary main_while0b_v122 main_while0b_v121 main_while0b_v123 (maximumf : (⟨S87296, .f32⟩ : BufTy).Contents (Elt F) → (⟨S87296, .f32⟩ : BufTy).Contents (Elt F) → (⟨S87296, .f32⟩ : BufTy).Contents (Elt F)),
    StableHlo.unary main_while0b_v117 main_while0b_v124 ((extractStridedSlice S1 ![1] · slices_S4_S1_1) : (⟨S4, .f32⟩ : BufTy).Contents (Elt F) → (⟨S1, .f32⟩ : BufTy).Contents (Elt F)),
    StableHlo.reshape main_while0b_v124 main_while0b_v125 (rfl : (.f32 : EltTy) = .f32) shapeCasts_S1_S_,
    StableHlo.unary main_v80_0 main_while0b_v126 ((extractStridedSlice S87296x1 ![0, 1] · slices_S87296x4_S87296x1_0_1) : (⟨S87296x4, .f32⟩ : BufTy).Contents (Elt F) → (⟨S87296x1, .f32⟩ : BufTy).Contents (Elt F)),
    StableHlo.reshape main_while0b_v126 main_while0b_v127 (rfl : (.f32 : EltTy) = .f32) shapeCasts_S87296x1_S87296,
    StableHlo.unary main_while0b_v125 main_while0b_v128 (broadcastInDim S87296 ![] bcast_S_S87296 : (⟨S_, .f32⟩ : BufTy).Contents (Elt F) → (⟨S87296, .f32⟩ : BufTy).Contents (Elt F)),
    StableHlo.binary main_while0b_v128 main_while0b_v127 main_while0b_v129 (maximumf : (⟨S87296, .f32⟩ : BufTy).Contents (Elt F) → (⟨S87296, .f32⟩ : BufTy).Contents (Elt F) → (⟨S87296, .f32⟩ : BufTy).Contents (Elt F)),
    StableHlo.unary main_while0b_v117 main_while0b_v130 ((extractStridedSlice S1 ![2] · slices_S4_S1_2) : (⟨S4, .f32⟩ : BufTy).Contents (Elt F) → (⟨S1, .f32⟩ : BufTy).Contents (Elt F)),
    StableHlo.reshape main_while0b_v130 main_while0b_v131 (rfl : (.f32 : EltTy) = .f32) shapeCasts_S1_S_,
    StableHlo.unary main_v80_0 main_while0b_v132 ((extractStridedSlice S87296x1 ![0, 2] · slices_S87296x4_S87296x1_0_2) : (⟨S87296x4, .f32⟩ : BufTy).Contents (Elt F) → (⟨S87296x1, .f32⟩ : BufTy).Contents (Elt F)),
    StableHlo.reshape main_while0b_v132 main_while0b_v133 (rfl : (.f32 : EltTy) = .f32) shapeCasts_S87296x1_S87296,
    StableHlo.unary main_while0b_v131 main_while0b_v134 (broadcastInDim S87296 ![] bcast_S_S87296 : (⟨S_, .f32⟩ : BufTy).Contents (Elt F) → (⟨S87296, .f32⟩ : BufTy).Contents (Elt F)),
    StableHlo.binary main_while0b_v134 main_while0b_v133 main_while0b_v135 (minimumf : (⟨S87296, .f32⟩ : BufTy).Contents (Elt F) → (⟨S87296, .f32⟩ : BufTy).Contents (Elt F) → (⟨S87296, .f32⟩ : BufTy).Contents (Elt F)),
    StableHlo.unary main_while0b_v117 main_while0b_v136 ((extractStridedSlice S1 ![3] · slices_S4_S1_3) : (⟨S4, .f32⟩ : BufTy).Contents (Elt F) → (⟨S1, .f32⟩ : BufTy).Contents (Elt F)),
    StableHlo.reshape main_while0b_v136 main_while0b_v137 (rfl : (.f32 : EltTy) = .f32) shapeCasts_S1_S_,
    StableHlo.unary main_v80_0 main_while0b_v138 ((extractStridedSlice S87296x1 ![0, 3] · slices_S87296x4_S87296x1_0_3) : (⟨S87296x4, .f32⟩ : BufTy).Contents (Elt F) → (⟨S87296x1, .f32⟩ : BufTy).Contents (Elt F)),
    StableHlo.reshape main_while0b_v138 main_while0b_v139 (rfl : (.f32 : EltTy) = .f32) shapeCasts_S87296x1_S87296,
    StableHlo.unary main_while0b_v137 main_while0b_v140 (broadcastInDim S87296 ![] bcast_S_S87296 : (⟨S_, .f32⟩ : BufTy).Contents (Elt F) → (⟨S87296, .f32⟩ : BufTy).Contents (Elt F)),
    StableHlo.binary main_while0b_v140 main_while0b_v139 main_while0b_v141 (minimumf : (⟨S87296, .f32⟩ : BufTy).Contents (Elt F) → (⟨S87296, .f32⟩ : BufTy).Contents (Elt F) → (⟨S87296, .f32⟩ : BufTy).Contents (Elt F)),
    StableHlo.binary main_while0b_v135 main_while0b_v123 main_while0b_v142 (subf : (⟨S87296, .f32⟩ : BufTy).Contents (Elt F) → (⟨S87296, .f32⟩ : BufTy).Contents (Elt F) → (⟨S87296, .f32⟩ : BufTy).Contents (Elt F)),
    StableHlo.nullary main_while0b_cst_31 (constant S_ .f32 0x00000000#32),
    StableHlo.unary main_while0b_cst_31 main_while0b_v143 (broadcastInDim S87296 ![] bcast_S_S87296 : (⟨S_, .f32⟩ : BufTy).Contents (Elt F) → (⟨S87296, .f32⟩ : BufTy).Contents (Elt F)),
    StableHlo.binary main_while0b_v142 main_while0b_v143 main_while0b_v144 (maximumf : (⟨S87296, .f32⟩ : BufTy).Contents (Elt F) → (⟨S87296, .f32⟩ : BufTy).Contents (Elt F) → (⟨S87296, .f32⟩ : BufTy).Contents (Elt F)),
    StableHlo.binary main_while0b_v141 main_while0b_v129 main_while0b_v145 (subf : (⟨S87296, .f32⟩ : BufTy).Contents (Elt F) → (⟨S87296, .f32⟩ : BufTy).Contents (Elt F) → (⟨S87296, .f32⟩ : BufTy).Contents (Elt F)),
    StableHlo.nullary main_while0b_cst_32 (constant S_ .f32 0x00000000#32),
    StableHlo.unary main_while0b_cst_32 main_while0b_v146 (broadcastInDim S87296 ![] bcast_S_S87296 : (⟨S_, .f32⟩ : BufTy).Contents (Elt F) → (⟨S87296, .f32⟩ : BufTy).Contents (Elt F)),
    StableHlo.binary main_while0b_v145 main_while0b_v146 main_while0b_v147 (maximumf : (⟨S87296, .f32⟩ : BufTy).Contents (Elt F) → (⟨S87296, .f32⟩ : BufTy).Contents (Elt F) → (⟨S87296, .f32⟩ : BufTy).Contents (Elt F)),
    StableHlo.binary main_while0b_v144 main_while0b_v147 main_while0b_v148 (mulf : (⟨S87296, .f32⟩ : BufTy).Contents (Elt F) → (⟨S87296, .f32⟩ : BufTy).Contents (Elt F) → (⟨S87296, .f32⟩ : BufTy).Contents (Elt F)),
    StableHlo.nullary main_while0b_c_33 (constantI S_ 32 0#32) ]

/-- The buffers that `bE` writes. -/
abbrev bE_W : List (Ref sig .tc) := [main_while0b_v118, main_while0b_v119, main_while0b_v120, main_while0b_v121, main_while0b_v122, main_while0b_v123, main_while0b_v124, main_while0b_v125, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_cst_31, main_while0b_v143, main_while0b_v144, main_while0b_v145, main_while0b_cst_32, main_while0b_v146, main_while0b_v147, main_while0b_v148, main_while0b_c_33]

theorem bE_sub : (bE : List (HloOp τ sig (Elt F))).Forall fun op => op.bufs ⊆ StableHlo.tcRefs τ sig :=
  ⟨unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩

theorem bE_fresh : (bE : List (HloOp τ sig (Elt F))).Forall fun op => op.fresh = ∅ :=
  forall_fresh_of_map rfl

theorem bE_writes : (bE : List (HloOp τ sig (Elt F))).Forall fun op => op.writes ⊆ (bE_W.map (Proc.devRef (τ := τ) .tc)).toFinset :=
  forall_writes_sub_of_map rfl

set_option maxHeartbeats 4000000 in
/-- Which boxes overlap it by more than the threshold. -/
abbrev bF : List (HloOp τ sig (Elt F)) :=
  [ StableHlo.binary main_while0b_v103 main_while0b_c_33 main_while0b_v149 (cmpi .slt : (⟨S_, .i32⟩ : BufTy).Contents (Elt F) → (⟨S_, .i32⟩ : BufTy).Contents (Elt F) → (⟨S_, .i1⟩ : BufTy).Contents (Elt F)),
    StableHlo.nullary main_while0b_c_34 (constantI S_ 32 87296#32),
    StableHlo.binary main_while0b_v103 main_while0b_c_34 main_while0b_v150 (addi : (⟨S_, .i32⟩ : BufTy).Contents (Elt F) → (⟨S_, .i32⟩ : BufTy).Contents (Elt F) → (⟨S_, .i32⟩ : BufTy).Contents (Elt F)),
    StableHlo.ternary main_while0b_v149 main_while0b_v150 main_while0b_v103 main_while0b_v151 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v80_1 ![main_while0b_v151] ⟨S_, .i32⟩ main_while0b_v152 ((fun x i => Host.dynamicSlice S1 x (fun k => (i k (Shape.Idx.first h_S_)).toInt) sliceFits_S87296_S1) : (⟨S87296, .f32⟩ : BufTy).Contents (Elt F) → (Fin 1 → (⟨S_, .i32⟩ : BufTy).Contents (Elt F)) → (⟨S1, .f32⟩ : BufTy).Contents (Elt F)),
    StableHlo.reshape main_while0b_v152 main_while0b_v153 (rfl : (.f32 : EltTy) = .f32) shapeCasts_S1_S_,
    StableHlo.unary main_while0b_v153 main_while0b_v154 (broadcastInDim S87296 ![] bcast_S_S87296 : (⟨S_, .f32⟩ : BufTy).Contents (Elt F) → (⟨S87296, .f32⟩ : BufTy).Contents (Elt F)),
    StableHlo.binary main_while0b_v154 main_v80_1 main_while0b_v155 (addf : (⟨S87296, .f32⟩ : BufTy).Contents (Elt F) → (⟨S87296, .f32⟩ : BufTy).Contents (Elt F) → (⟨S87296, .f32⟩ : BufTy).Contents (Elt F)),
    StableHlo.binary main_while0b_v155 main_while0b_v148 main_while0b_v156 (subf : (⟨S87296, .f32⟩ : BufTy).Contents (Elt F) → (⟨S87296, .f32⟩ : BufTy).Contents (Elt F) → (⟨S87296, .f32⟩ : BufTy).Contents (Elt F)),
    StableHlo.binary main_while0b_v148 main_while0b_v156 main_while0b_v157 (Host.divf : (⟨S87296, .f32⟩ : BufTy).Contents (Elt F) → (⟨S87296, .f32⟩ : BufTy).Contents (Elt F) → (⟨S87296, .f32⟩ : BufTy).Contents (Elt F)),
    StableHlo.nullary main_while0b_cst_35 (constant S_ .f32 0x3F19999A#32),
    StableHlo.unary main_while0b_cst_35 main_while0b_v158 (broadcastInDim S87296 ![] bcast_S_S87296 : (⟨S_, .f32⟩ : BufTy).Contents (Elt F) → (⟨S87296, .f32⟩ : BufTy).Contents (Elt F)),
    StableHlo.binary main_while0b_v157 main_while0b_v158 main_while0b_v159 (cmpf .ogt : (⟨S87296, .f32⟩ : BufTy).Contents (Elt F) → (⟨S87296, .f32⟩ : BufTy).Contents (Elt F) → (⟨S87296, .i1⟩ : BufTy).Contents (Elt F)),
    StableHlo.nullary main_while0b_cst_36 (constant S_ .f32 0xFF800000#32) ]

/-- The buffers that `bF` writes. -/
abbrev bF_W : List (Ref sig .tc) := [main_while0b_v149, main_while0b_c_34, main_while0b_v150, main_while0b_v151, main_while0b_v152, main_while0b_v153, main_while0b_v154, main_while0b_v155, main_while0b_v156, main_while0b_v157, main_while0b_cst_35, main_while0b_v158, main_while0b_v159, main_while0b_cst_36]

theorem bF_sub : (bF : List (HloOp τ sig (Elt F))).Forall fun op => op.bufs ⊆ StableHlo.tcRefs τ sig :=
  ⟨binary_bufs_sub .., nullary_bufs_sub .., binary_bufs_sub .., ternary_bufs_sub .., unaryIndexed_bufs_sub .., reshape_bufs_sub .., unary_bufs_sub .., binary_bufs_sub .., binary_bufs_sub .., binary_bufs_sub .., nullary_bufs_sub .., unary_bufs_sub .., binary_bufs_sub .., nullary_bufs_sub ..⟩

theorem bF_fresh : (bF : List (HloOp τ sig (Elt F))).Forall fun op => op.fresh = ∅ :=
  forall_fresh_of_map rfl

theorem bF_writes : (bF : List (HloOp τ sig (Elt F))).Forall fun op => op.writes ⊆ (bF_W.map (Proc.devRef (τ := τ) .tc)).toFinset :=
  forall_writes_sub_of_map rfl

set_option maxHeartbeats 4000000 in
/-- The scores after the trip: the call of @_where. -/
abbrev bG : List (HloOp τ sig (Elt F)) :=
  [ StableHlo.TRef.unary (.of main_while0b_cst_36 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S87296, .f32⟩) (broadcastInDim S87296 ![] bcast_S_S87296),
    StableHlo.TRef.ternary (.of main_while0b_v159 : StableHlo.TRef sig ⟨S87296, .i1⟩) (.of main_while0b_call2_v1 : StableHlo.TRef sig ⟨S87296, .f32⟩) (.of main_v80_4 : StableHlo.TRef sig ⟨S87296, .f32⟩) (.of main_while0b_v160 : StableHlo.TRef sig ⟨S87296, .f32⟩) select ]

/-- The buffers that `bG` writes. -/
abbrev bG_W : List (Ref sig .tc) := [main_while0b_call2_v0, main_while0b_call2_v1, main_while0b_v160]

theorem bG_sub : (bG : List (HloOp τ sig (Elt F))).Forall fun op => op.bufs ⊆ StableHlo.tcRefs τ sig :=
  ⟨unary_bufs_sub .., unary_bufs_sub .., ternary_bufs_sub ..⟩

theorem bG_fresh : (bG : List (HloOp τ sig (Elt F))).Forall fun op => op.fresh = ∅ :=
  forall_fresh_of_map rfl

theorem bG_writes : (bG : List (HloOp τ sig (Elt F))).Forall fun op => op.writes ⊆ (bG_W.map (Proc.devRef (τ := τ) .tc)).toFinset :=
  forall_writes_sub_of_map rfl

set_option maxHeartbeats 4000000 in
/-- What the loop carries after the trip. -/
abbrev bH : List (HloOp τ sig (Elt F)) :=
  [ StableHlo.nullary main_while0b_c_37 (constantI S_ 32 1#32),
    StableHlo.binary main_v80_2 main_while0b_c_37 main_while0b_v161 (addi : (⟨S_, .i32⟩ : BufTy).Contents (Elt F) → (⟨S_, .i32⟩ : BufTy).Contents (Elt F) → (⟨S_, .i32⟩ : BufTy).Contents (Elt F)),
    StableHlo.unary main_while0b_v161 main_v80_2 id,
    StableHlo.unary main_while0b_v102 main_v80_3 id,
    StableHlo.unary main_while0b_v160 main_v80_4 id,
    StableHlo.unary main_while0b_v109 main_v80_5 id ]

/-- The buffers that `bH` writes. -/
abbrev bH_W : List (Ref sig .tc) := [main_while0b_c_37, main_while0b_v161, main_v80_2, main_v80_3, main_v80_4, main_v80_5]

theorem bH_sub : (bH : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩

theorem bH_fresh : (bH : List (HloOp τ sig (Elt F))).Forall fun op => op.fresh = ∅ :=
  forall_fresh_of_map rfl

theorem bH_writes : (bH : List (HloOp τ sig (Elt F))).Forall fun op => op.writes ⊆ (bH_W.map (Proc.devRef (τ := τ) .tc)).toFinset :=
  forall_writes_sub_of_map rfl

/-- The type of the reference's programs. -/
abbrev PT (F : FTy → Type) [FloatOps F] : Type 1 :=
  Prog (TpuEff nD τ sig (Elt F) (HostLoop.Sig (Pipeline.Sig Λ₀ (Fin 0) fun p => (pcfgs (F := F) p).Adm) 1) .tc) PUnit

/-- The first part of `main` is its stretches in order. -/
theorem part0_chain (c : Dev nD) : main_part0 (F := F) c = (Pipeline.chainK
  [ seq pA,
    seq pB ]
  (seq pC) : PT F) := by
  rewrite [chainK_seq_cons, chainK_seq_cons]
  chain_rfl

/-- The second part, with the loop in it. -/
theorem part1_chain (c : Dev nD) : main_part1 (F := F) c = (Pipeline.chainK
  [ seq pD,
    seq pE,
    seq pF,
    seq pG,
    HostLoop.enter 0,
    seq qA,
    seq qB ]
  (seq qC) : PT F) := by
  rewrite [chainK_seq_cons, Pipeline.chainK_cons, chainK_seq_cons, chainK_seq_cons, Pipeline.chainK_cons, chainK_seq_cons, chainK_seq_cons]
  chain_rfl

/-- The last part. -/
theorem part2_chain (c : Dev nD) : main_part2 (F := F) c = (Pipeline.chain
  [ seq qD ] : PT F) := by
  rewrite [chain_seq_cons]
  chain_rfl

/-- The first part of the loop's body. -/
theorem body0_chain : main_while0_body_part0 (F := F) = (Pipeline.chainK
  [ seq bA,
    seq bB,
    seq bC,
    seq bD ]
  (seq bE) : PT F) := by
  rewrite [chainK_seq_cons, Pipeline.chainK_cons, chainK_seq_cons, chainK_seq_cons]
  chain_rfl

/-- The second part of the loop's body. -/
theorem body1_chain : main_while0_body_part1 (F := F) = (Pipeline.chain
  [ seq bF,
    seq bG,
    seq bH ] : PT F) := by
  rewrite [chain_seq_cons, Pipeline.chain_cons, chain_seq_cons]
  chain_rfl

/-- `main` is its stretches in order, with the loop among them. -/
theorem main_chain (c : Dev nD) : main (F := F) c = (Pipeline.chain
  [ seq pA,
    seq pB,
    seq pC,
    seq pD,
    seq pE,
    seq pF,
    seq pG,
    HostLoop.enter 0,
    seq qA,
    seq qB,
    seq qC,
    seq qD ] : PT F) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

/-- The loop's body is its stretches in order. -/
theorem body_chain : main_while0_body (F := F) = (Pipeline.chain
  [ seq bA,
    seq bB,
    seq bC,
    seq bD,
    seq bE,
    seq bF,
    seq bG,
    seq bH ] : PT F) := by
  show (main_while0_body_part0 (F := F) >>= fun _ => main_while0_body_part1 (F := F)) = _
  rewrite [body1_chain, body0_chain, Pipeline.chainK_bind_chain]
  chain_rfl

/-- The condition's operations: the bound, and the trip counter compared with it. -/
abbrev condOps : List (HloOp τ sig (Elt F)) :=
  [ nullary main_while0c_c_21 (constantI S_ 32 100#32),
    binary main_v80_2 main_while0c_c_21 main_while0c_v102 (cmpi .slt) ]
abbrev condOps_W : List (Ref sig .tc) := [main_while0c_c_21, main_while0c_v102]
theorem condOps_writes : (condOps : List (HloOp τ sig (Elt F))).Forall fun op => op.writes ⊆ (condOps_W.map (Proc.devRef (τ := τ) .tc)).toFinset :=
  forall_writes_sub_of_map rfl

/-- The stretches before the loop. -/
abbrev preI : List (List (HloOp τ sig (Elt F))) := [pA, pB, pC, pD, pE, pF, pG]

theorem preI_plain : Plain (preI (F := F)) :=
  .cons pA_sub (hf := List.forall_iff_forall_mem.mp pA_fresh) (.cons pB_sub (hf := List.forall_iff_forall_mem.mp pB_fresh) (.cons pC_sub (hf := List.forall_iff_forall_mem.mp pC_fresh) (.cons pD_sub (hf := List.forall_iff_forall_mem.mp pD_fresh) (.cons pE_sub (hf := List.forall_iff_forall_mem.mp pE_fresh) (.cons pF_sub (hf := List.forall_iff_forall_mem.mp pF_fresh) (.cons pG_sub (hf := List.forall_iff_forall_mem.mp pG_fresh) (.nil)))))))

/-- The stretches of the loop's body. -/
abbrev bodyI : List (List (HloOp τ sig (Elt F))) := [bA, bB, bC, bD, bE, bF, bG, bH]

theorem bodyI_plain : Plain (bodyI (F := F)) :=
  .cons bA_sub (hf := List.forall_iff_forall_mem.mp bA_fresh) (.cons bB_sub (hf := List.forall_iff_forall_mem.mp bB_fresh) (.cons bC_sub (hf := List.forall_iff_forall_mem.mp bC_fresh) (.cons bD_sub (hf := List.forall_iff_forall_mem.mp bD_fresh) (.cons bE_sub (hf := List.forall_iff_forall_mem.mp bE_fresh) (.cons bF_sub (hf := List.forall_iff_forall_mem.mp bF_fresh) (.cons bG_sub (hf := List.forall_iff_forall_mem.mp bG_fresh) (.cons bH_sub (hf := List.forall_iff_forall_mem.mp bH_fresh) (.nil))))))))

/-- The stretches after the loop. -/
abbrev postI : List (List (HloOp τ sig (Elt F))) := [qA, qB, qC, qD]

theorem postI_plain : Plain (postI (F := F)) :=
  .cons qA_sub (hf := List.forall_iff_forall_mem.mp qA_fresh) (.cons qB_sub (hf := List.forall_iff_forall_mem.mp qB_fresh) (.cons qC_sub (hf := List.forall_iff_forall_mem.mp qC_fresh) (.cons qD_sub (hf := List.forall_iff_forall_mem.mp qD_fresh) (.nil))))

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- A stretch that does not write a buffer leaves it as it was. -/
theorem keep {ops : List (HloOp τ sig (Elt F))} {W : List (Ref sig .tc)} (V : Valuation τ sig (Elt F)) (r : Ref sig .tc)
    (h : ops.Forall fun op => op.writes ⊆ (W.map (Proc.devRef (τ := τ) .tc)).toFinset)
    (hr : r ∉ W) :
    after ops V (Proc.devRef .tc r) = V (Proc.devRef .tc r) :=
  after_of_writes_sub ops V h hr

/-- The last stretch leaves the counter one step on. -/
theorem ctr_step (X : Valuation τ sig (Elt F)) :
    after bH X (Proc.devRef .tc main_v80_2) = addi (X (Proc.devRef .tc main_v80_2)) (constantI S_ 32 1#32) := by
  after_results
  rfl

/-- The counter is zero at the loop's entry. -/
theorem ctr_entry (c : Dev nD) : entryContents preI m c (Proc.devRef .tc main_v80_2) = fun _ => (0#32 : BitVec 32) := by
  simp only [entryContents, afterL_cons, afterL_nil]
  after_reads_simp
  rfl

/-- A trip takes the counter one step on. -/
theorem ctr_body (X : Valuation τ sig (Elt F)) :
    afterL bodyI X (Proc.devRef .tc main_v80_2) = addi (X (Proc.devRef .tc main_v80_2)) (constantI S_ 32 1#32) := by
  simp only [afterL_cons, afterL_nil]
  rw [ctr_step, keep _ _ bG_writes (by decide +kernel), keep _ _ bF_writes (by decide +kernel), keep _ _ bE_writes (by decide +kernel),
    keep _ _ bD_writes (by decide +kernel), keep _ _ bC_writes (by decide +kernel), keep _ _ bB_writes (by decide +kernel),
    keep _ _ bA_writes (by decide +kernel)]

/-- Before the `k`-th condition the counter is the loop's induction variable at `k`. -/
theorem atK_ctr (c : Dev nD) : ∀ k, atK m k c (Proc.devRef .tc main_v80_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, ctr_body,
      keep _ _ condOps_writes (by decide +kernel), atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v80_2 HostLoop.idx0)
        (HloOp.result _ (atK m k c) main_while0c_c_21 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps preI_plain bodyI_plain postI_plain
    (fun c => by rw [main_chain]; rfl) (by rw [body_chain]; rfl) 100 m ρ (cond_spec m)

end Cert.Proof.Ref

end
-- ==== Proof.Frames.lean ====
module

public import proofs.«01_k».proof.Proof.KernelRun
public import proofs.«01_k».proof.Proof.RefRun
public import Idealize.ShloMosaic.Lib.Quiescent

@[expose] public section

noncomputable section

namespace Cert.Proof

open Idealize.ShloMosaic Idealize.ShloMosaic.TcCoe
open Idealize.SL.Sem

/-! ## The arguments end as they were -/

namespace KRun
open Cert.KernelIdeal Cert.KernelIdeal.Gen

variable (m : (ℓ : Loc nD τ sig) → Buf (Elt Ideal) ℓ) (c : Dev nD)

theorem W1_of (r : Ref sig .tc) (h : r ∉ hostOps0_W) : W1 m c (Proc.devRef .tc r) = m ((c.tc : Thread nD τ).loc r) :=
  StableHlo.after_of_writes_sub hostOps0 _ hostOps0_writes h
theorem W2_of (r : Ref sig .tc) (h : ∀ w, Pipeline.arrRef cfg0.spec w = r → (cfg0.win w).isOut = false) :
    W2 m c (Proc.devRef .tc r) = W1 m c (Proc.devRef .tc r) :=
  Pipeline.afterRegion_keeps (Prep.dat (W1 m) c) (W1 m c) launch0.win.arr_inj (fun _ => rfl) r h
theorem W3_of (r : Ref sig .tc) (h : r ∉ hostOps1_W) : W3 m c (Proc.devRef .tc r) = W2 m c (Proc.devRef .tc r) :=
  StableHlo.after_of_writes_sub hostOps1 _ hostOps1_writes h
theorem W4_of (r : Ref sig .tc) (h : ∀ w, Pipeline.arrRef cfg1.spec w = r → (cfg1.win w).isOut = false) :
    W4 m c (Proc.devRef .tc r) = W3 m c (Proc.devRef .tc r) :=
  Pipeline.afterRegion_keeps (Nms.dat (W3 m) c) (W3 m c) launch1.win.arr_inj (fun _ => rfl) r h
theorem W5_of (r : Ref sig .tc) (h : r ∉ hostOps2_W) : W5 m c (Proc.devRef .tc r) = W4 m c (Proc.devRef .tc r) :=
  StableHlo.after_of_writes_sub hostOps2 _ hostOps2_writes h

theorem W5_arg (r : Ref sig .tc) (h0 : r ∉ hostOps0_W) (h1 : ∀ w, Pipeline.arrRef cfg0.spec w = r → (cfg0.win w).isOut = false)
    (h2 : r ∉ hostOps1_W) (h3 : ∀ w, Pipeline.arrRef cfg1.spec w = r → (cfg1.win w).isOut = false) (h4 : r ∉ hostOps2_W) :
    W5 m c (Proc.devRef .tc r) = m ((c.tc : Thread nD τ).loc r) :=
  (W5_of m c r h4).trans <| (W4_of m c r h3).trans <| (W3_of m c r h2).trans <| (W2_of m c r h1).trans (W1_of m c r h0)

/-- Every run leaves the four arguments as they were. -/
theorem args {r : PUnit × MemSt nD τ sig (Elt Ideal)}
    (h : ∀ b : Ref sig .tc, (Proc.devRef (τ := τ) .tc b).isScoped = false → r.2.mem ((c.tc : Thread nD τ).loc b) = W5 m c (Proc.devRef .tc b)) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h main_arg0 (by decide)).trans (W5_arg m c main_arg0 (by decide) (by decide) (by decide) (by decide) (by decide)),
    (h main_arg1 (by decide)).trans (W5_arg m c main_arg1 (by decide) (by decide) (by decide) (by decide) (by decide)),
    (h main_arg2 (by decide)).trans (W5_arg m c main_arg2 (by decide) (by decide) (by decide) (by decide) (by decide)),
    (h main_arg3 (by decide)).trans (W5_arg m c main_arg3 (by decide) (by decide) (by decide) (by decide) (by decide))⟩

end KRun

namespace Ref
open Cert.ReferenceIdeal Cert.ReferenceIdeal.Gen
open Idealize.ShloMosaic.StableHlo

variable (m : (ℓ : Loc nD τ sig) → Buf (Elt Ideal) ℓ) (c : Dev nD)

/-- A buffer no stretch before the loop writes. -/
theorem pre_keeps (V : Valuation τ sig (Elt Ideal)) (r : Ref sig .tc)
    (h : r ∉ pA_W ++ pB_W ++ pC_W ++ pD_W ++ pE_W ++ pF_W ++ pG_W) :
    afterL preI V (Proc.devRef .tc r) = V (Proc.devRef .tc r) := by
  simp only [List.mem_append, not_or] at h
  obtain ⟨⟨⟨⟨⟨⟨hA, hB⟩, hC⟩, hD⟩, hE⟩, hF⟩, hG⟩ := h
  simp only [afterL_cons, afterL_nil]
  exact (keep _ _ pG_writes hG).trans <| (keep _ _ pF_writes hF).trans <| (keep _ _ pE_writes hE).trans <| (keep _ _ pD_writes hD).trans <|
    (keep _ _ pC_writes hC).trans <| (keep _ _ pB_writes hB).trans (keep _ _ pA_writes hA)

/-- A buffer no stretch of the loop's body writes. -/
theorem body_keeps (V : Valuation τ sig (Elt Ideal)) (r : Ref sig .tc)
    (h : r ∉ bA_W ++ bB_W ++ bC_W ++ bD_W ++ bE_W ++ bF_W ++ bG_W ++ bH_W) :
    afterL bodyI V (Proc.devRef .tc r) = V (Proc.devRef .tc r) := by
  simp only [List.mem_append, not_or] at h
  obtain ⟨⟨⟨⟨⟨⟨⟨hA, hB⟩, hC⟩, hD⟩, hE⟩, hF⟩, hG⟩, hH⟩ := h
  simp only [afterL_cons, afterL_nil]
  exact (keep _ _ bH_writes hH).trans <| (keep _ _ bG_writes hG).trans <| (keep _ _ bF_writes hF).trans <| (keep _ _ bE_writes hE).trans <|
    (keep _ _ bD_writes hD).trans <| (keep _ _ bC_writes hC).trans <| (keep _ _ bB_writes hB).trans (keep _ _ bA_writes hA)

/-- A buffer no stretch after the loop writes. -/
theorem post_keeps (V : Valuation τ sig (Elt Ideal)) (r : Ref sig .tc)
    (h : r ∉ qA_W ++ qB_W ++ qC_W ++ qD_W) :
    afterL postI V (Proc.devRef .tc r) = V (Proc.devRef .tc r) := by
  simp only [List.mem_append, not_or] at h
  obtain ⟨⟨⟨hA, hB⟩, hC⟩, hD⟩ := h
  simp only [afterL_cons, afterL_nil]
  exact (keep _ _ qD_writes hD).trans <| (keep _ _ qC_writes hC).trans <| (keep _ _ qB_writes hB).trans (keep _ _ qA_writes hA)

/-- A buffer nothing in the program writes ends as it was. -/
theorem final_keeps (r : Ref sig .tc)
    (h0 : r ∉ pA_W ++ pB_W ++ pC_W ++ pD_W ++ pE_W ++ pF_W ++ pG_W)
    (h1 : r ∉ bA_W ++ bB_W ++ bC_W ++ bD_W ++ bE_W ++ bF_W ++ bG_W ++ bH_W)
    (h2 : r ∉ qA_W ++ qB_W ++ qC_W ++ qD_W) (h3 : r ∉ condOps_W) :
    finalContents condOps preI bodyI postI 100 m c (Proc.devRef .tc r) = m ((c.tc : Thread nD τ).loc r) := by
  have hk : ∀ k, atK m k c (Proc.devRef .tc r) = m ((c.tc : Thread nD τ).loc r) := by
    intro k
    induction k with
    | zero => exact pre_keeps _ r h0
    | succ k ih => exact (body_keeps _ r h1).trans ((keep _ _ condOps_writes h3).trans ih)
  exact (post_keeps _ r h2).trans ((keep _ _ condOps_writes h3).trans (hk 100))

/-- Every run leaves the four arguments as they were. -/
theorem args {r : PUnit × MemSt nD τ sig (Elt Ideal)}
    (h : ∀ b : Ref sig .tc, (Proc.devRef .tc b : DevRef τ sig).isScoped = false →
      r.2.mem ((c.tc : Thread nD τ).loc b) = finalContents condOps preI bodyI postI 100 m c (Proc.devRef .tc b)) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h main_arg0 (by decide)).trans (final_keeps m c main_arg0 (by decide +kernel) (by decide +kernel) (by decide +kernel) (by decide +kernel)),
    (h main_arg1 (by decide)).trans (final_keeps m c main_arg1 (by decide +kernel) (by decide +kernel) (by decide +kernel) (by decide +kernel)),
    (h main_arg2 (by decide)).trans (final_keeps m c main_arg2 (by decide +kernel) (by decide +kernel) (by decide +kernel) (by decide +kernel)),
    (h main_arg3 (by decide)).trans (final_keeps m c main_arg3 (by decide +kernel) (by decide +kernel) (by decide +kernel) (by decide +kernel))⟩

theorem no_sems (s : MemSt nD τ sig (Elt Ideal)) : s.sem = fun _ => 0 := sem_eq_zero_of_no_sems (by decide) s

end Ref

end Cert.Proof

end
-- ==== Proof.Model.lean ====
/-
  What both programs compute, from the four inputs: each location's best class, its score, and its box.
-/
module

public import proofs.«01_k».proof.Proof.Core

@[expose] public section

noncomputable section

namespace Cert.Proof.Model

open Idealize.ShloMosaic Cert.Proof.Core

/-- The inputs: class logits, centre logit, anchor corners and edge distances of each location. -/
@[ext] structure Inputs where
  lg : Fin N → Fin 91 → EReal
  ct : Fin N → EReal
  an : Fin N → Fin 4 → EReal
  rg : Fin N → Fin 4 → EReal

variable (I : Inputs)

/-- The score of a class: the geometric mean of its probability and the centre's. -/
def prob (n : Fin N) (k : Fin 91) : EReal := Ideal.sqrt (Ideal.logistic (I.lg n k) * Ideal.logistic (I.ct n))

/-- The first class of the largest score. -/
def label (n : Fin N) : Fin 91 := best (by decide) (prob I n)

/-- The largest score. -/
def score (n : Fin N) : EReal := (Finset.univ : Finset (Fin 91)).fold max ⊥ (prob I n)

def half : EReal := Ideal.ofBits .f32 0x3F000000#32

/-- The anchor's centre and extent on the axis whose corners are columns `p` and `q`. -/
def mid (n : Fin N) (p q : Fin 4) : EReal := half * (I.an n p + I.an n q)
def ext (n : Fin N) (p q : Fin 4) : EReal := I.an n q - I.an n p

/-- The boxes: the anchor's centre moved by the distances, in units of its extent. -/
def bxs : Boxes :=
  let x1 n := mid I n 0 2 - I.rg n 0 * ext I n 0 2
  let y1 n := mid I n 1 3 - I.rg n 1 * ext I n 1 3
  let x2 n := mid I n 0 2 + I.rg n 2 * ext I n 0 2
  let y2 n := mid I n 1 3 + I.rg n 3 * ext I n 1 3
  ⟨x1, y1, x2, y2, fun n => max (x2 n - x1 n) 0 * max (y2 n - y1 n) 0⟩

/-- A box's edge by its column. -/
def edge (n : Fin N) : Fin 4 → EReal := ![(bxs I).x1 n, (bxs I).y1 n, (bxs I).x2 n, (bxs I).y2 n]

/-- The location taken in round `j`. -/
def taken (j : ℕ) : Fin N := pick (bxs I) (score I) j

end Cert.Proof.Model
-- ==== Proof.PrepVal.lean ====
/-
  What the first call leaves of one location: its anchor corners, its edge distances, its largest score, and the class
  that score is first attained at.
-/
module

public import proofs.«01_k».proof.Proof.Model
public import proofs.«01_k».proof.Proof.Pay
public import proofs.«01_k».proof.Proof.Prep
public import Idealize.ShloMosaic.Lib.Pipeline.ValueKit.Basic

@[expose] public section

set_option synthInstance.maxSize 4096

noncomputable section

namespace Cert.Proof.PrepVal

open Idealize.ShloMosaic Idealize.ShloMosaic.ValueIdx Cert.Proof.Core Cert.Proof.Model Cert.Proof.Pay
open Cert.KernelIdeal Cert.KernelIdeal.Gen

/-- The packed array's entry of row `p` at location `n`. -/
def entry (I : Inputs) (p : Fin 10) (n : Fin N) : EReal :=
  if h : p.val < 4 then I.an n ⟨p.val, h⟩
  else if h : p.val < 8 then I.rg n ⟨p.val - 4, by omega⟩
  else if p.val = 8 then score I n
  else (((BitVec.ofNat 32 (label I n).val).toInt : ℝ) : EReal)

section
variable (A : Vec Ideal S91x7936 .f32) (C : Vec Ideal S1x7936 .f32) (an rg : Vec Ideal S4x7936 .f32)

/-- The scores of every class. -/
def sc : FVec Ideal S91x7936 .f32 :=
  Idealize.ShloMosaic.sqrt (mulf (logistic (shapeCast S91x7936 A shapeCasts_S91x7936_S91x7936))
    (broadcastTo S91x7936 (logistic (shapeCast S1x7936 C shapeCasts_S1x7936_S1x7936)) broadcasts_S1x7936_S91x7936))

/-- The largest scores. -/
def mxv : FVec Ideal S7936 .f32 := multiReduction .maximumf [0] S7936 (sc A C) 0xFF800000#32 reduces_S91x7936_S7936 (.inl rfl) rfl

/-- The classes they are first attained at. -/
def lbv : IVec S7936 32 :=
  multiReductionI .minsi [0] S7936
    (select (cmpf .oeq (sc A C) (broadcastTo S91x7936 (shapeCast S1x7936 (mxv A C) shapeCasts_S7936_S1x7936) broadcasts_S1x7936_S91x7936))
      (iota .tc S91x7936 32 [0] iota_S91x7936_d0_w32) (broadcast S91x7936 91#32)) 2147483647#32 reduces_S91x7936_S7936 rfl

/-- The four pieces of the packed block. -/
abbrev pieces : List ((s : Shape) × (s.Idx → EReal)) :=
  [⟨S4x7936, shapeCast S4x7936 an shapeCasts_S4x7936_S4x7936⟩, ⟨S4x7936, shapeCast S4x7936 rg shapeCasts_S4x7936_S4x7936⟩,
    ⟨S1x7936, shapeCast S1x7936 (mxv A C) shapeCasts_S7936_S1x7936⟩,
    ⟨S1x7936, sitofp (F := Ideal) .f32 (shapeCast S1x7936 (lbv A C) shapeCasts_S7936_S1x7936)⟩]

theorem pay_eq : k0_pay1 A C an rg
    = concatenate S10x7936 0 (pieces A C an rg) concatenates_S4x7936_S4x7936_S1x7936_S1x7936_S10x7936_d0 := rfl

theorem off {a : ℕ} (q : Fin a) (p : Fin 10) (c : Fin 7936) (b : Fin (Shape.mk 2 ![a, 7936]).rank)
    (hb : b.cast (rfl : (Shape.mk 2 ![a, 7936]).rank = S10x7936.rank) ≠ (0 : Fin S10x7936.rank)) :
    ((ix2 q c : (Shape.mk 2 ![a, 7936]).Idx) b).val = ((ix2 p c : S10x7936.Idx) (b.cast rfl)).val :=
  match b, hb with | ⟨0, _⟩, hb => absurd rfl hb | ⟨1, _⟩, _ => rfl

theorem pay_an (p : Fin 10) (c : Fin 7936) (h : p.val < 4) : k0_pay1 A C an rg (ix2 p c) = an (ix2 ⟨p.val, h⟩ c) := by
  rw [pay_eq]
  refine (concatenate_apply_piece (t := S10x7936) 0 (pieces A C an rg) _ (ix2 p c) 0 (by show 0 < 4; omega) S4x7936
    (shapeCast S4x7936 an shapeCasts_S4x7936_S4x7936) rfl rfl 0 rfl (ix2 ⟨p.val, h⟩ c) (off _ p c) (Nat.zero_add _)).trans ?_
  rw [Idealize.ShloMosaic.shapeCast_self]

theorem pay_rg (p : Fin 10) (c : Fin 7936) (h : 4 ≤ p.val) (h' : p.val < 8) :
    k0_pay1 A C an rg (ix2 p c) = rg (ix2 ⟨p.val - 4, by omega⟩ c) := by
  rw [pay_eq]
  refine (concatenate_apply_piece (t := S10x7936) 0 (pieces A C an rg) _ (ix2 p c) 1 (by show 1 < 4; omega) S4x7936
    (shapeCast S4x7936 rg shapeCasts_S4x7936_S4x7936) rfl rfl 4 rfl (ix2 ⟨p.val - 4, by omega⟩ c) (off _ p c)
    (by show 4 + (p.val - 4) = p.val; omega)).trans ?_
  rw [Idealize.ShloMosaic.shapeCast_self]

theorem pay_score (p : Fin 10) (c : Fin 7936) (h : p.val = 8) : k0_pay1 A C an rg (ix2 p c) = mxv A C (ix1 c) := by
  rw [pay_eq]
  refine (concatenate_apply_piece (t := S10x7936) 0 (pieces A C an rg) _ (ix2 p c) 2 (by show 2 < 4; omega) S1x7936
    (shapeCast S1x7936 (mxv A C) shapeCasts_S7936_S1x7936) rfl rfl 8 rfl (ix2 0 c) (off _ p c)
    (by show 8 + 0 = p.val; omega)).trans ?_
  rw [shapeCast_a_1a_apply]

theorem pay_label (p : Fin 10) (c : Fin 7936) (h : p.val = 9) :
    k0_pay1 A C an rg (ix2 p c) = (((lbv A C (ix1 c)).toInt : ℝ) : EReal) := by
  rw [pay_eq]
  refine (concatenate_apply_piece (t := S10x7936) 0 (pieces A C an rg) _ (ix2 p c) 3 (by show 3 < 4; omega) S1x7936
    (sitofp (F := Ideal) .f32 (shapeCast S1x7936 (lbv A C) shapeCasts_S7936_S1x7936)) rfl rfl 9 rfl (ix2 0 c) (off _ p c)
    (by show 9 + 0 = p.val; omega)).trans ?_
  show (((shapeCast S1x7936 (lbv A C) shapeCasts_S7936_S1x7936 (ix2 0 c)).toInt : ℝ) : EReal) = _
  rw [shapeCast_a_1a_apply]

/-- The block's entries, where the staged blocks' column `c` is location `n`. -/
theorem pay_entry (I : Inputs) (n : Fin N) (c : Fin 7936) (hA : ∀ k, A (ix2 k c) = I.lg n k) (hC : C (ix2 0 c) = I.ct n)
    (han : ∀ y, an (ix2 y c) = I.an n y) (hrg : ∀ y, rg (ix2 y c) = I.rg n y) (p : Fin 10) :
    k0_pay1 A C an rg (ix2 p c) = entry I p n := by
  have hs : (fun k => (sc A C (ix2 k c) : EReal)) = prob I n := by
    funext k
    have e := broadcastTo_1b_ab_apply (logistic (F := Ideal) (φ := .f32) (shapeCast S1x7936 C shapeCasts_S1x7936_S1x7936))
      broadcasts_S1x7936_S91x7936 k c
    have e₁ : sc A C (ix2 k c) = Ideal.sqrt (Ideal.logistic (shapeCast S91x7936 A shapeCasts_S91x7936_S91x7936 (ix2 k c))
      * Ideal.logistic (shapeCast S1x7936 C shapeCasts_S1x7936_S1x7936 (ix2 0 c))) :=
      congrArg (fun z : EReal => Ideal.sqrt (Ideal.logistic (shapeCast S91x7936 A shapeCasts_S91x7936_S91x7936 (ix2 k c)) * z)) e
    rw [e₁, Idealize.ShloMosaic.shapeCast_self, Idealize.ShloMosaic.shapeCast_self, hA, hC]; rfl
  unfold entry
  by_cases h4 : p.val < 4
  · rw [dif_pos h4, pay_an A C an rg p c h4, han]
  rw [dif_neg h4]
  by_cases h8 : p.val < 8
  · rw [dif_pos h8, pay_rg A C an rg p c (by omega) h8, hrg]
  rw [dif_neg h8]
  obtain ⟨r, hr, -, hw⟩ := firstRow (a := 91) (b := 7936) (by decide) (by decide) (sc A C) reduces_S91x7936_S7936 (.inl rfl) rfl rfl
    (mxv A C) rfl shapeCasts_S7936_S1x7936 broadcasts_S1x7936_S91x7936 iota_S91x7936_d0_w32 c
  by_cases h : p.val = 8
  · rw [if_pos h, pay_score A C an rg p c h]
    exact (colMax (sc A C) reduces_S91x7936_S7936 (.inl rfl) rfl c).trans
      (congrArg (fun f => (Finset.univ : Finset (Fin 91)).fold max ⊥ f) hs)
  · rw [if_neg h, pay_label A C an rg p c (by omega)]
    rw [hs] at hr
    have e : lbv A C (ix1 c) = BitVec.ofNat 32 (label I n).val := by
      rw [show label I n = r from (hr.eq_best _).symm]; exact hw
    rw [e]

/-- The block as written is the payload of the blocks as staged. -/
theorem outBlk_eq : Prep.outBlk A C an rg = k0_pay1 A C an rg := by
  unfold Prep.outBlk
  rw [show View.ld A Prep.rcA = A from Prep.ld_whole _ A, show View.ld C Prep.rcB = C from Prep.ld_whole _ C,
    show View.ld an Prep.rcC = an from Prep.ld_whole _ an, show View.ld rg Prep.rcC = rg from Prep.ld_whole _ rg]
  exact View.canon_cons_unit_lit inb_S10x7936_S10x7936_0_0 _ [] (by decide)
end

end Cert.Proof.PrepVal
-- ==== Proof.KernelVal.lean ====
/-
  What the kernel's buffers hold, in terms of its four arguments: the packed array the first call leaves, and the rows
  the second call leaves from it.
-/
module

public import proofs.«01_k».proof.Proof.PrepVal
public import proofs.«01_k».proof.Proof.Frames
public import Idealize.ShloMosaic.Lib.Pipeline.ValueKit.Geometry

@[expose] public section

set_option synthInstance.maxSize 4096

noncomputable section

namespace Cert.Proof.KVal

open Idealize.ShloMosaic Idealize.ShloMosaic.ValueIdx Idealize.ShloMosaic.TcCoe
open Cert.Proof.Core Cert.Proof.Model Cert.Proof.Pay Cert.Proof.PrepVal Cert.Proof.KRun
open Cert.KernelIdeal Cert.KernelIdeal.Gen

variable (m : (ℓ : Loc nD τ sig) → Buf (Elt Ideal) ℓ) (c : Dev nD)

/-- The four arguments, as the mathematics takes them. -/
def inputs (V : Valuation τ sig (Elt Ideal)) : Inputs where
  lg n k := (V (Proc.devRef .tc main_arg0) : S87296x91.Idx → EReal) (ix2 n k)
  ct n := (V (Proc.devRef .tc main_arg2) : S87296x1.Idx → EReal) (ix2 n 0)
  an n y := (V (Proc.devRef .tc main_arg3) : S87296x4.Idx → EReal) (ix2 n y)
  rg n y := (V (Proc.devRef .tc main_arg1) : S87296x4.Idx → EReal) (ix2 n y)

/-! ## The transposed arguments -/

theorem w1_v0 : W1 m c (Proc.devRef .tc main_v0)
    = (transpose S91x87296 [1, 0] (V0 m c (Proc.devRef .tc main_arg0) : S87296x91.Idx → EReal) transposes_S87296x91_S91x87296_1_0) := by
  unfold W1; after_results
theorem w1_v1 : W1 m c (Proc.devRef .tc main_v1)
    = (transpose S1x87296 [1, 0] (V0 m c (Proc.devRef .tc main_arg2) : S87296x1.Idx → EReal) transposes_S87296x1_S1x87296_1_0) := by
  unfold W1; after_results
theorem w1_v2 : W1 m c (Proc.devRef .tc main_v2)
    = (transpose S4x87296 [1, 0] (V0 m c (Proc.devRef .tc main_arg3) : S87296x4.Idx → EReal) transposes_S87296x4_S4x87296_1_0) := by
  unfold W1; after_results
theorem w1_v3 : W1 m c (Proc.devRef .tc main_v3)
    = (transpose S4x87296 [1, 0] (V0 m c (Proc.devRef .tc main_arg1) : S87296x4.Idx → EReal) transposes_S87296x4_S4x87296_1_0) := by
  unfold W1; after_results

/-! ## The packed array -/

/-- The location column `x` of block `t` is. -/
abbrev loc (t : Fin cfg0.N) (x : Fin 7936) : Fin N :=
  ⟨7936 * t.val + x.val, by have h : t.val < 11 := t.isLt; have := x.isLt; show _ < 87296; omega⟩

theorem index_eq : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) := by decide +kernel

theorem emb_0 (t : Fin cfg0.N) (k : Fin 91) (x : Fin 7936) :
    ((win0_0.blk t).view.emb (ix2 k x) : S91x87296.Idx) = ix2 k (loc t x) := by
  have h := (index_eq t).1
  funext a; refine Fin.ext ((win0_0.rect_emb_val t _ a).trans ?_)
  match a with
  | ⟨0, _⟩ => show win0_0.index t 0 * 91 + k.val = k.val; rw [h.1]; omega
  | ⟨1, _⟩ => show win0_0.index t 1 * 7936 + x.val = 7936 * t.val + x.val; rw [h.2]; omega

theorem emb_1 (t : Fin cfg0.N) (k : Fin 1) (x : Fin 7936) :
    ((win0_1.blk t).view.emb (ix2 k x) : S1x87296.Idx) = ix2 k (loc t x) := by
  have h := (index_eq t).2.1
  funext a; refine Fin.ext ((win0_1.rect_emb_val t _ a).trans ?_)
  match a with
  | ⟨0, _⟩ => show win0_1.index t 0 * 1 + k.val = k.val; rw [h.1]; omega
  | ⟨1, _⟩ => show win0_1.index t 1 * 7936 + x.val = 7936 * t.val + x.val; rw [h.2]; omega

theorem emb_2 (t : Fin cfg0.N) (k : Fin 4) (x : Fin 7936) :
    ((win0_2.blk t).view.emb (ix2 k x) : S4x87296.Idx) = ix2 k (loc t x) := by
  have h := (index_eq t).2.2.1
  funext a; refine Fin.ext ((win0_2.rect_emb_val t _ a).trans ?_)
  match a with
  | ⟨0, _⟩ => show win0_2.index t 0 * 4 + k.val = k.val; rw [h.1]; omega
  | ⟨1, _⟩ => show win0_2.index t 1 * 7936 + x.val = 7936 * t.val + x.val; rw [h.2]; omega

theorem emb_3 (t : Fin cfg0.N) (k : Fin 4) (x : Fin 7936) :
    ((win0_3.blk t).view.emb (ix2 k x) : S4x87296.Idx) = ix2 k (loc t x) := by
  have h := (index_eq t).2.2.2.1
  funext a; refine Fin.ext ((win0_3.rect_emb_val t _ a).trans ?_)
  match a with
  | ⟨0, _⟩ => show win0_3.index t 0 * 4 + k.val = k.val; rw [h.1]; omega
  | ⟨1, _⟩ => show win0_3.index t 1 * 7936 + x.val = 7936 * t.val + x.val; rw [h.2]; omega

theorem emb_4 (t : Fin cfg0.N) (k : Fin 10) (x : Fin 7936) :
    ((win0_4.blk t).view.emb (ix2 k x) : S10x87296.Idx) = ix2 k (loc t x) := by
  have h := (index_eq t).2.2.2.2
  funext a; refine Fin.ext ((win0_4.rect_emb_val t _ a).trans ?_)
  match a with
  | ⟨0, _⟩ => show win0_4.index t 0 * 10 + k.val = k.val; rw [h.1]; omega
  | ⟨1, _⟩ => show win0_4.index t 1 * 7936 + x.val = 7936 * t.val + x.val; rw [h.2]; omega

theorem blk_0 (t : Fin cfg0.N) (k : Fin 91) (x : Fin 7936) :
    (Prep.blkAt (W1 m) c 0 t : S91x7936.Idx → EReal) (ix2 k x) = (inputs (V0 m c)).lg (loc t x) k := by
  show (W1 m c (Proc.devRef .tc main_v0) : S91x87296.Idx → EReal) ((win0_0.blk t).view.emb (ix2 k x)) = _
  rw [emb_0, w1_v0]; exact transpose_ix2_apply _ _ _ _
theorem blk_1 (t : Fin cfg0.N) (x : Fin 7936) :
    (Prep.blkAt (W1 m) c 1 t : S1x7936.Idx → EReal) (ix2 0 x) = (inputs (V0 m c)).ct (loc t x) := by
  show (W1 m c (Proc.devRef .tc main_v1) : S1x87296.Idx → EReal) ((win0_1.blk t).view.emb (ix2 0 x)) = _
  rw [emb_1, w1_v1]; exact transpose_ix2_apply _ _ _ _
theorem blk_2 (t : Fin cfg0.N) (k : Fin 4) (x : Fin 7936) :
    (Prep.blkAt (W1 m) c 2 t : S4x7936.Idx → EReal) (ix2 k x) = (inputs (V0 m c)).an (loc t x) k := by
  show (W1 m c (Proc.devRef .tc main_v2) : S4x87296.Idx → EReal) ((win0_2.blk t).view.emb (ix2 k x)) = _
  rw [emb_2, w1_v2]; exact transpose_ix2_apply _ _ _ _
theorem blk_3 (t : Fin cfg0.N) (k : Fin 4) (x : Fin 7936) :
    (Prep.blkAt (W1 m) c 3 t : S4x7936.Idx → EReal) (ix2 k x) = (inputs (V0 m c)).rg (loc t x) k := by
  show (W1 m c (Proc.devRef .tc main_v3) : S4x87296.Idx → EReal) ((win0_3.blk t).view.emb (ix2 k x)) = _
  rw [emb_3, w1_v3]; exact transpose_ix2_apply _ _ _ _

/-- The packed array's contents. -/
def packed (I : Inputs) : S10x87296.Idx → EReal := fun i => entry I (i 0) (i 1)

theorem w2_v4 : W2 m c (Proc.devRef .tc main_v4) = packed (inputs (V0 m c)) := by
  refine (Pipeline.afterRegion_arr (Prep.dat (W1 m) c) (W1 m c) launch0.win.arr_inj 4).trans ?_
  refine (Prep.dat (W1 m) c).arrAt_eq_of_covers 4 (packed (inputs (V0 m c))) (by decide +kernel) (fun t _ y => ?_)
  show (Prep.dat (W1 m) c).after 4 t y = packed (inputs (V0 m c)) ((win0_4.blk t).view.emb y)
  obtain ⟨p, x, rfl⟩ : ∃ (p : Fin 10) (x : Fin 7936), y = ix2 p x := ⟨_, _, eq_ix2 y⟩
  rw [emb_4, Prep.after_4, outBlk_eq]
  exact pay_entry _ _ _ _ _ (loc t x) x (fun k => blk_0 m c t k x) (blk_1 m c t x) (fun k => blk_2 m c t k x)
    (fun k => blk_3 m c t k x) p

end Cert.Proof.KVal
-- ==== Proof.KernelOut.lean ====
/-
  The kernel's three results, in terms of its four arguments: each round's box, class and score.
-/
module

public import proofs.«01_k».proof.Proof.KernelVal

@[expose] public section

set_option synthInstance.maxSize 4096

noncomputable section

namespace Cert.Proof.KVal

open Idealize.ShloMosaic Idealize.ShloMosaic.ValueIdx Idealize.ShloMosaic.TcCoe
open Cert.Proof.Core Cert.Proof.Model Cert.Proof.Pay Cert.Proof.PrepVal Cert.Proof.KRun Cert.Proof.Nms
open Cert.KernelIdeal Cert.KernelIdeal.Gen

/-! ## A packed array's boxes and picks -/

/-- A three-dimensional packed array holding these inputs' entries. -/
def Packs (I : Inputs) (P : FVec Ideal S10x341x256 .f32) : Prop := ∀ p n, plane P p n = entry I p n

section
variable {I : Inputs} {P : FVec Ideal S10x341x256 .f32} (h : Packs I P)
include h

theorem Packs.boxes : boxesOf P = bxs I := by
  have e0 : plane P 0 = fun n => I.an n 0 := funext (h 0)
  have e1 : plane P 1 = fun n => I.an n 1 := funext (h 1)
  have e2 : plane P 2 = fun n => I.an n 2 := funext (h 2)
  have e3 : plane P 3 = fun n => I.an n 3 := funext (h 3)
  have e4 : plane P 4 = fun n => I.rg n 0 := funext (h 4)
  have e5 : plane P 5 = fun n => I.rg n 1 := funext (h 5)
  have e6 : plane P 6 = fun n => I.rg n 2 := funext (h 6)
  have e7 : plane P 7 = fun n => I.rg n 3 := funext (h 7)
  unfold boxesOf
  rw [e0, e1, e2, e3, e4, e5, e6, e7]; rfl

theorem Packs.score : plane P 8 = Model.score I := funext (h 8)

theorem Packs.pick (j : ℕ) : pickAt P j = taken I j := by
  show Core.pick (boxesOf P) (plane P 8) j = _
  rw [h.boxes, h.score]; rfl

theorem Packs.out_edge (n : Fin N) (y : Fin 4) : outAt P n y.val = edge I n y := by
  unfold outAt
  rw [h.boxes]
  match y with
  | ⟨0, _⟩ => rfl
  | ⟨1, _⟩ => rfl
  | ⟨2, _⟩ => rfl
  | ⟨3, _⟩ => rfl

theorem Packs.out_score (n : Fin N) : outAt P n 4 = Model.score I n := congrFun h.score n

theorem Packs.out_label (n : Fin N) : outAt P n 5 = (((BitVec.ofNat 32 (label I n).val).toInt : ℝ) : EReal) := h 9 n
end

/-! ## The class number, to a float and back -/

theorem fptosi_small (k : ℕ) (hk : k < 2 ^ 31) : Ideal.fptosi 32 (((BitVec.ofNat 32 k).toInt : ℝ) : EReal) = BitVec.ofNat 32 k := by
  rw [toInt_ofNat32 hk]
  show BitVec.ofInt 32 (max (-(2 ^ (32 - 1) : ℕ)) (min ((2 ^ (32 - 1) : ℕ) - 1)
    (if (0 : ℝ) ≤ (((k : ℤ) : ℝ)) then ⌊((k : ℤ) : ℝ)⌋ else ⌈((k : ℤ) : ℝ)⌉))) = _
  rw [if_pos (by exact_mod_cast Nat.zero_le k), Int.floor_intCast, min_eq_right (by push_cast; omega), max_eq_right (by push_cast; omega)]
  rfl

variable (m : (ℓ : Loc nD τ sig) → Buf (Elt Ideal) ℓ) (c : Dev nD)

/-! ## The second call's operand -/

theorem w3_v5 : W3 m c (Proc.devRef .tc main_v5)
    = (shapeCast S10x341x256 (W2 m c (Proc.devRef .tc main_v4) : S10x87296.Idx → EReal) shapeCasts_S10x87296_S10x341x256) := by
  unfold W3; after_results; rfl

theorem stg_eq : stg (W3 m) c = (W3 m c (Proc.devRef .tc main_v5) : S10x341x256.Idx → EReal) := by
  funext y
  show (W3 m c (Proc.devRef .tc main_v5) : S10x341x256.Idx → EReal) ((win1_0.blk t1_0).view.emb y) = _
  refine congrArg (W3 m c (Proc.devRef .tc main_v5) : S10x341x256.Idx → EReal) (funext fun a => Fin.ext ?_)
  exact win1_0.rect_emb_val_of_index_zero t1_0 a rfl y

theorem packs : Packs (inputs (V0 m c)) (stg (W3 m) c) := by
  intro p n
  show stg (W3 m) c (ix3 p (rowOf n) (colOf n)) = _
  rw [stg_eq, w3_v5, w2_v4]
  refine (shapeCast_apply _ _ (ix3 p (rowOf n) (colOf n)) (ix2 p n) ?_).trans rfl
  rw [Shape.rowMajor_val_two, Shape.rowMajor_val_three]
  show p.val * 87296 + n.val = (p.val * 341 + n.val / 256) * 256 + n.val % 256
  omega

/-! ## The rows of results -/

theorem w4_v6 : W4 m c (Proc.devRef .tc main_v6) = outFull (stg (W3 m) c) := by
  refine (Pipeline.afterRegion_arr (Nms.dat (W3 m) c) (W3 m c) launch1.win.arr_inj 1).trans ?_
  refine (Nms.dat (W3 m) c).arrAt_eq_of_covers 1 (outFull (stg (W3 m) c)) (by decide +kernel) (fun t _ y => ?_)
  obtain rfl := fin_N1 t
  show outFull (stg (W3 m) c) y = outFull (stg (W3 m) c) ((win1_1.blk t1_0).view.emb y)
  refine congrArg (outFull (stg (W3 m) c)) (funext fun a => Fin.ext ?_)
  exact (win1_1.rect_emb_val_of_index_zero t1_0 a rfl y).symm

/-- The rows as a matrix. -/
abbrev rows (V : Valuation τ sig (Elt Ideal)) : S100x128.Idx → EReal :=
  shapeCast S100x128 (V (Proc.devRef .tc main_v6) : S100x1x128.Idx → EReal) shapeCasts_S100x1x128_S100x128

theorem rows_apply (j : Fin 100) (l : Fin 128) :
    rows (W4 m c) (ix2 j l) = outAt (stg (W3 m) c) (taken (inputs (V0 m c)) j.val) l.val := by
  have e : rows (W4 m c) (ix2 j l) = (W4 m c (Proc.devRef .tc main_v6) : S100x1x128.Idx → EReal) (ix3 j 0 l) := by
    refine shapeCast_apply _ _ (ix2 j l) (ix3 j 0 l) ?_
    rw [Shape.rowMajor_val_two, Shape.rowMajor_val_three]
    show (j.val * 1 + 0) * 128 + l.val = j.val * 128 + l.val
    omega
  rw [e, w4_v6]
  show outAt (stg (W3 m) c) (pickAt (stg (W3 m) c) j.val) l.val = _
  rw [(packs m c).pick]

theorem w5_v8 : W5 m c (Proc.devRef .tc main_v8)
    = (extractStridedSlice S100x4 ![0, 0] (rows (W4 m c)) slices_S100x128_S100x4_0_0) := by
  unfold W5; after_results; rfl
theorem w5_v10 : W5 m c (Proc.devRef .tc main_v10)
    = (shapeCast S100 (extractStridedSlice S100x1 ![0, 4] (rows (W4 m c)) slices_S100x128_S100x1_0_4) shapeCasts_S100x1_S100) := by
  unfold W5; after_results; rfl
theorem w5_v13 : W5 m c (Proc.devRef .tc main_v13)
    = (fptosi (F := Ideal) (φ := .f32) 32 (shapeCast S100 (extractStridedSlice S100x1 ![0, 5] (rows (W4 m c)) slices_S100x128_S100x1_0_5) shapeCasts_S100x1_S100)) := by
  unfold W5; after_results; rfl

theorem cast_100 (v : S100x1.Idx → EReal) (j : Fin 100) : shapeCast S100 v shapeCasts_S100x1_S100 (ix1 j) = v (ix2 j 0) := by
  refine shapeCast_apply _ _ (ix1 j) (ix2 j 0) ?_
  rw [Shape.rowMajor_val_two, Shape.rowMajor_val_one]
  show j.val * 1 + 0 = j.val
  omega

/-- The kernel's results in round `j`. -/
theorem results (j : Fin 100) :
    (∀ y : Fin 4, (W5 m c (Proc.devRef .tc main_v8) : S100x4.Idx → EReal) (ix2 j y) = edge (inputs (V0 m c)) (taken (inputs (V0 m c)) j.val) y)
    ∧ (W5 m c (Proc.devRef .tc main_v13) : S100.Idx → BitVec 32) (ix1 j)
        = BitVec.ofNat 32 (label (inputs (V0 m c)) (taken (inputs (V0 m c)) j.val)).val
    ∧ (W5 m c (Proc.devRef .tc main_v10) : S100.Idx → EReal) (ix1 j) = score (inputs (V0 m c)) (taken (inputs (V0 m c)) j.val) := by
  have hl := (label (inputs (V0 m c)) (taken (inputs (V0 m c)) j.val)).isLt
  refine ⟨fun y => ?_, ?_, ?_⟩
  · rw [w5_v8]
    have hy := y.isLt
    refine Eq.trans (b := rows (W4 m c) (ix2 j ⟨y.val, by omega⟩)) ?_ ?_
    · refine congrArg (rows (W4 m c)) (funext fun a => Fin.ext ?_)
      match a with
      | ⟨0, _⟩ => exact Nat.zero_add _
      | ⟨1, _⟩ => exact Nat.zero_add _
    · rw [rows_apply]; exact (packs m c).out_edge _ y
  · rw [w5_v13]
    show Ideal.fptosi 32 (shapeCast S100 (extractStridedSlice S100x1 ![0, 5] (rows (W4 m c)) slices_S100x128_S100x1_0_5) shapeCasts_S100x1_S100 (ix1 j)) = _
    rw [cast_100]
    have e : extractStridedSlice S100x1 ![0, 5] (rows (W4 m c)) slices_S100x128_S100x1_0_5 (ix2 j 0) = rows (W4 m c) (ix2 j 5) := by
      refine congrArg (rows (W4 m c)) (funext fun a => Fin.ext ?_)
      match a with
      | ⟨0, _⟩ => exact Nat.zero_add _
      | ⟨1, _⟩ => rfl
    rw [e, rows_apply, show ((5 : Fin 128).val) = 5 from rfl, (packs m c).out_label]
    exact fptosi_small _ (by omega)
  · rw [w5_v10, cast_100]
    have e : extractStridedSlice S100x1 ![0, 4] (rows (W4 m c)) slices_S100x128_S100x1_0_4 (ix2 j 0) = rows (W4 m c) (ix2 j 4) := by
      refine congrArg (rows (W4 m c)) (funext fun a => Fin.ext ?_)
      match a with
      | ⟨0, _⟩ => exact Nat.zero_add _
      | ⟨1, _⟩ => rfl
    rw [e, rows_apply, show ((4 : Fin 128).val) = 4 from rfl]
    exact (packs m c).out_score _

end Cert.Proof.KVal
-- ==== Proof.RefArg.lean ====
/-
  The reference's arg-max: a reduction over (value, position) pairs. Every value being an extended real, the pair it ends
  with is the largest value and the first position holding it.
-/
module

public import proofs.«01_k».proof.Proof.Core
public import proofs.«01_k».proof.ReferenceIdeal

@[expose] public section

noncomputable section

namespace Cert.Proof.RefArg

open Cert.ReferenceIdeal
open Idealize.ShloMosaic Idealize.ShloMosaic.ValueIdx Cert.Proof.Core

/-- One step of the reduction keeps the left pair when its value is larger, or equal at an earlier position. -/
theorem step (a b : EReal × BitVec 32) :
    reducer_argmax_f32_i32 (F := Ideal) a b
      = if b.1 < a.1 ∨ (a.1 = b.1 ∧ a.2.toInt < b.2.toInt) then a else b := by
  obtain ⟨x, i⟩ := a
  obtain ⟨y, j⟩ := b
  have hv3 : Ideal.cmp .une x x = 0#1 := by simp [Ideal.cmp]
  show (Scalar.select (IntOp.ori (Ideal.cmp .ogt x y) (Ideal.cmp .une x x)) x y,
    Scalar.select (IntOp.ori (IntOp.ori (Ideal.cmp .ogt x y) (Ideal.cmp .une x x))
      (IntOp.andi (Ideal.cmp .oeq x y) (IntOp.cmpi .slt i j))) i j) = _
  rw [hv3]
  have h4 : IntOp.ori (Ideal.cmp .ogt x y) 0#1 = Ideal.cmp .ogt x y := by simp [IntOp.ori]
  rw [h4]
  have hslt : IntOp.cmpi .slt i j = 1#1 ↔ i.toInt < j.toInt := by
    by_cases h : i.toInt < j.toInt <;> simp [IntOp.cmpi, BitVec.slt, h]
  rcases lt_trichotomy x y with h | h | h
  · have e1 : Ideal.cmp .ogt x y = 0#1 := eq_zero_of_ne_one fun e => absurd ((cmp_ogt_one x y).1 e) (not_lt.2 h.le)
    have e2 : Ideal.cmp .oeq x y = 0#1 := eq_zero_of_ne_one fun e => h.ne ((cmp_oeq_one x y).1 e)
    rw [e1, e2, if_neg (by rintro (h' | h'); exacts [absurd h' (not_lt.2 h.le), h.ne h'.1])]
    simp [Scalar.select, IntOp.ori, IntOp.andi]
  · subst h
    have e1 : Ideal.cmp .ogt x x = 0#1 := eq_zero_of_ne_one fun e => absurd ((cmp_ogt_one x x).1 e) (lt_irrefl _)
    have e2 : Ideal.cmp .oeq x x = 1#1 := (cmp_oeq_one x x).2 rfl
    rw [e1, e2]
    by_cases hij : i.toInt < j.toInt
    · rw [hslt.2 hij, if_pos (Or.inr ⟨rfl, hij⟩)]
      simp [Scalar.select, IntOp.ori, IntOp.andi]
    · rw [eq_zero_of_ne_one fun e => hij (hslt.1 e), if_neg (by rintro (h' | h'); exacts [absurd h' (lt_irrefl _), hij h'.2])]
      simp [Scalar.select, IntOp.ori, IntOp.andi]
  · have e1 : Ideal.cmp .ogt x y = 1#1 := (cmp_ogt_one x y).2 h
    have e2 : Ideal.cmp .oeq x y = 0#1 := eq_zero_of_ne_one fun e => h.ne' ((cmp_oeq_one x y).1 e)
    rw [e1, e2, if_pos (Or.inl h)]
    simp [Scalar.select, IntOp.ori, IntOp.andi]

/-- What the reduction holds after the pairs of a list. -/
theorem fold_inv {n : ℕ} (hn : n ≤ 2 ^ 31) (s : Fin n → EReal) (L : List (EReal × BitVec 32))
    (hL : ∀ p ∈ L, ∃ i : Fin n, p = (s i, BitVec.ofNat 32 i.val)) :
    (L.foldl (reducer_argmax_f32_i32 (F := Ideal)) (⊥, 0#32) = (⊥, 0#32) ∧ ∀ p ∈ L, p.1 = ⊥) ∨
      ∃ i : Fin n, ⊥ < s i ∧ L.foldl (reducer_argmax_f32_i32 (F := Ideal)) (⊥, 0#32) = (s i, BitVec.ofNat 32 i.val) ∧
        ∀ p ∈ L, p.1 < s i ∨ (p.1 = s i ∧ (i.val : ℤ) ≤ p.2.toInt) := by
  induction L using List.reverseRecOn with
  | nil => exact Or.inl ⟨rfl, by simp⟩
  | append_singleton L q ih =>
    obtain ⟨j, rfl⟩ := hL q (by simp)
    have hj : (BitVec.ofNat 32 j.val).toInt = j.val := toInt_ofNat32 (by have := j.isLt; omega)
    simp only [List.foldl_append, List.foldl_cons, List.foldl_nil, List.mem_append, List.mem_singleton]
    rcases ih (fun p hp => hL p (by simp [hp])) with ⟨he, hb⟩ | ⟨i, hi, he, hb⟩
    · rw [he, step]
      rcases eq_or_lt_of_le (bot_le : ⊥ ≤ s j) with hs | hs
      · refine Or.inl ⟨?_, ?_⟩
        · split
          · rfl
          · rename_i h
            simp only [hj, ← hs, lt_irrefl, true_and, false_or, not_lt] at h
            have : j.val = 0 := by
              have h0 : (0#32 : BitVec 32).toInt = 0 := rfl
              rw [h0] at h; omega
            rw [← hs, this]
        · rintro p (hp | rfl)
          · exact hb p hp
          · exact hs.symm
      · refine Or.inr ⟨j, hs, ?_, ?_⟩
        · rw [if_neg]
          rintro (h | h)
          · exact absurd h not_lt_bot
          · exact absurd h.1 hs.ne
        · rintro p (hp | rfl)
          · exact Or.inl (by rw [hb p hp]; exact hs)
          · exact Or.inr ⟨rfl, by rw [hj]⟩
    · have hi' : (BitVec.ofNat 32 i.val).toInt = i.val := toInt_ofNat32 (by have := i.isLt; omega)
      rw [he, step]
      dsimp only
      rw [hi', hj]
      by_cases hc : s j < s i ∨ (s i = s j ∧ (i.val : ℤ) < j.val)
      · rw [if_pos hc]
        refine Or.inr ⟨i, hi, rfl, ?_⟩
        rintro p (hp | rfl)
        · exact hb p hp
        · rcases hc with h | h
          · exact Or.inl h
          · exact Or.inr ⟨h.1.symm, by rw [hj]; exact h.2.le⟩
      · rw [if_neg hc]
        have hle : s i ≤ s j := not_lt.1 fun h => hc (Or.inl h)
        refine Or.inr ⟨j, hi.trans_le hle, rfl, ?_⟩
        rintro p (hp | rfl)
        · rcases hb p hp with h | h
          · exact Or.inl (h.trans_le hle)
          · rcases lt_or_eq_of_le hle with h' | h'
            · exact Or.inl (by rw [h.1]; exact h')
            · refine Or.inr ⟨h.1.trans h', ?_⟩
              have : ¬ (i.val : ℤ) < j.val := fun h'' => hc (Or.inr ⟨h', h''⟩)
              omega
        · exact Or.inr ⟨rfl, by rw [hj]⟩

/-- The reduction over all positions ends with the largest value and the first position holding it. -/
theorem fold_best {n : ℕ} (hn : n ≤ 2 ^ 31) (h0 : 0 < n) (s : Fin n → EReal) (L : List (EReal × BitVec 32))
    (hL : ∀ p ∈ L, ∃ i : Fin n, p = (s i, BitVec.ofNat 32 i.val))
    (hall : ∀ i : Fin n, (s i, BitVec.ofNat 32 i.val) ∈ L) :
    ∃ k : Fin n, IsBest s k ∧ (L.foldl (reducer_argmax_f32_i32 (F := Ideal)) (⊥, 0#32)).2 = BitVec.ofNat 32 k.val := by
  rcases fold_inv hn s L hL with ⟨he, hb⟩ | ⟨i, hi, he, hb⟩
  · exact ⟨⟨0, h0⟩, ⟨fun m => (hb _ (hall m)).le.trans bot_le, fun m hm => absurd (Fin.lt_def.1 hm) (by simp)⟩, by rw [he]⟩
  · refine ⟨i, ⟨fun m => ?_, fun m hm => ?_⟩, by rw [he]⟩
    · rcases hb _ (hall m) with h | h
      exacts [h.le, h.1.le]
    · rcases hb _ (hall m) with h | h
      · exact h
      · have := h.2
        dsimp only at this
        rw [toInt_ofNat32 (by have := m.isLt; omega)] at this
        have := Fin.lt_def.1 hm
        omega

/-- An arg-max whose fibre over `j` runs through the positions `i ↦ at i`. -/
theorem argReduce_best {s t u : Shape} {axes : List (Fin s.rank)} {n : ℕ} (hn : n ≤ 2 ^ 31) (h0 : 0 < n)
    (x : FVec Ideal s .f32) (y : s.Idx → BitVec 32) (ix : u.Idx → EReal) (iy : u.Idx → BitVec 32) (h : s.ReducesTo axes t)
    (hu : 0 < u.numel) (j : t.Idx) (p : Fin n → s.Idx) (hix : ∀ i, ix i = ⊥) (hiy : ∀ i, iy i = 0#32)
    (hp : ∀ i, h.drop (p i) = j) (hq : ∀ i, h.drop i = j → ∃ k, i = p k) (hy : ∀ i, y (p i) = BitVec.ofNat 32 i.val) :
    ∃ k : Fin n, IsBest (fun i => x (p i)) k
      ∧ (Host.argReduce (F := Ideal) reducer_argmax_f32_i32 x y ix iy h hu j).2 = BitVec.ofNat 32 k.val := by
  rw [Ideal.argReduce_eq_reduce2, Host.reduce2_eq_foldl_fiber, hix, hiy]
  refine fold_best hn h0 (fun i => x (p i)) _ ?_ ?_
  · intro q hq'
    simp only [Host.argReduceFiber, List.mem_map, List.mem_filter, List.mem_finRange, true_and, decide_eq_true_eq] at hq'
    obtain ⟨m, hm, rfl⟩ := hq'
    obtain ⟨k, hk⟩ := hq _ hm
    exact ⟨k, by rw [hk, hy]⟩
  · intro i
    simp only [Host.argReduceFiber, List.mem_map, List.mem_filter, List.mem_finRange, true_and, decide_eq_true_eq]
    exact ⟨s.rowMajor (p i), by rw [Equiv.symm_apply_apply]; exact hp i, by rw [Equiv.symm_apply_apply, hy]⟩

end Cert.Proof.RefArg
-- ==== Proof.RefBody.lean ====
/- One trip of the reference's loop, read as a round of greedy suppression. -/
module

public import proofs.«01_k».proof.Proof.RefRun
public import proofs.«01_k».proof.Proof.RefArg
public import proofs.«01_k».proof.Proof.Pay
public import Idealize.ShloMosaic.Lib.Routing.Ops
public import Idealize.ShloMosaic.Lib.Routing.OpsOne
public import Idealize.ShloMosaic.Lib.Routing.OpsSet
public import Idealize.ShloMosaic.Lib.DynamicIndex
public import Idealize.ShloMosaic.Lib.IdealHost

@[expose] public section

set_option maxRecDepth 4000

noncomputable section

namespace Cert.Proof.RefBody

open Cert.ReferenceIdeal Cert.ReferenceIdeal.Gen
open Idealize.ShloMosaic Idealize.ShloMosaic.ValueIdx Idealize.ShloMosaic.Tactic
open Idealize.ShloMosaic.StableHlo
open Cert.Proof.Core Cert.Proof.Ref
open Cert.Proof.Pay (word word_toNat)

abbrev Val := Valuation τ sig (Elt Ideal)

/-- The boxes held as four columns and their areas. -/
def boxes (C : S87296x4.Idx → EReal) (A : S87296.Idx → EReal) : Boxes where
  x1 n := C (ix2 n 0)
  y1 n := C (ix2 n 1)
  x2 n := C (ix2 n 2)
  y2 n := C (ix2 n 3)
  ar n := A (ix1 n)

/-- The next round's number. -/
theorem bA_val (X : Val) : after bA X (Proc.devRef .tc main_while0b_v102)
    = addi (X (Proc.devRef .tc main_v80_3)) (constantI S_ 32 1#32) := by
  after_results

/-- The first largest score's position. -/
theorem bB_val (X : Val) (s : Fin N → EReal) (hs : ∀ n, (X (Proc.devRef .tc main_v80_4) : S87296.Idx → EReal) (ix1 n) = s n) :
    after bB X (Proc.devRef .tc main_while0b_v103) = fun _ => word (best hN s) := by
  after_results
  funext j
  have hx : (fun i => (X (Proc.devRef .tc main_v80_4) : S87296.Idx → EReal) (ix1 i)) = s := funext hs
  obtain ⟨k, hk, he⟩ := RefArg.argReduce_best (n := N) (by decide) hN (X (Proc.devRef .tc main_v80_4) : S87296.Idx → EReal)
    (iotaInDim S87296 32 0) (constant (F := Ideal) S_ .f32 0xFF800000#32) (constantI S_ 32 0#32) reducesTo_S87296_S_d0 h_S_ j
    (fun n => ix1 n) (fun _ => ofBits_negInf) (fun _ => rfl) (fun _ => funext fun a => a.elim0)
    (fun i _ => ⟨i 0, eq_ix1 i⟩) (fun _ => rfl)
  rw [hx] at hk
  rw [← hk.eq_best hN]
  exact he

/-- A word below the sign bit is its own normalised index. -/
theorem norm_word (w z : S_.Idx → BitVec 32) (a : S_.Idx → BitVec 32) (n : ℕ) (hn : n < 2 ^ 31) (hw : w = fun _ => BitVec.ofNat 32 n)
    (hz : z = constantI S_ 32 0#32 := by rfl) : select (cmpi .slt w z) a w = fun _ => BitVec.ofNat 32 n := by
  funext i
  subst hw hz
  refine select_slt_zero_of_nonneg _ _ _ i ?_
  rw [toInt_ofNat32 hn]; omega

/-- The position written into the list of picks. -/
theorem bC_val (X : Val) (k : Fin 100) (hk : X (Proc.devRef .tc main_v80_3) = fun _ => BitVec.ofNat 32 k.val)
    (w : BitVec 32) (hw : X (Proc.devRef .tc main_while0b_v103) = fun _ => w) (J : S100.Idx → BitVec 32)
    (hJ : X (Proc.devRef .tc main_v80_5) = J) (e : Fin 100) :
    (after bC X (Proc.devRef .tc main_while0b_v109) : S100.Idx → BitVec 32) (ix1 e) = if e = k then w else J (ix1 e) := by
  have hlt : k.val < 2 ^ 31 := by have := k.isLt; omega
  after_results
  rw [hw, hJ]
  refine (Routing.scatter_one scatter_S100_S1_S__n_0_0_0 rfl rfl _ _ _ k hlt ?_ e).trans rfl
  exact congrFun (norm_word (X (Proc.devRef .tc main_v80_3)) (constantI S_ 32 0#32) _ k.val hlt hk) _

/-- Row `b` of the boxes, read as a block at that row. -/
theorem row_slice (C : S87296x4.Idx → EReal) (st : Fin 2 → ℤ) (b : Fin N) (h0 : st 0 = (b.val : ℤ)) (h1 : st 1 = 0) (y : Fin 4) :
    shapeCast S4 (Host.dynamicSlice S1x4 C st sliceFits_S87296x4_S1x4) shapeCasts_S1x4_S4 (ix1 y) = C (ix2 b y) := by
  rw [Host.dynamicSlice_eq_extractStridedSlice S1x4 C st ![b.val, 0] sliceFits_S87296x4_S1x4
    ⟨rfl, fun a => by match a with
      | ⟨0, _⟩ => exact b.isLt
      | ⟨1, _⟩ => exact le_refl 4⟩ (fun a => by match a with
      | ⟨0, _⟩ => exact h0
      | ⟨1, _⟩ => exact h1)]
  refine (shapeCast_1a_a_apply _ _ y).trans ?_
  refine congrArg C (funext fun a => ?_)
  match a with
  | ⟨0, _⟩ => exact Fin.ext rfl
  | ⟨1, _⟩ => exact Fin.ext (Nat.zero_add _)

/-- The picked box's four edges. -/
theorem bD_val (X : Val) (b : Fin N) (hb : X (Proc.devRef .tc main_while0b_v103) = fun _ => word b)
    (C : S87296x4.Idx → EReal) (hC : X (Proc.devRef .tc main_v80_0) = C) (y : Fin 4) :
    (after bD X (Proc.devRef .tc main_while0b_v117) : S4.Idx → EReal) (ix1 y) = C (ix2 b y) := by
  have hlt : b.val < 2 ^ 31 := by have : b.val < 87296 := b.isLt; omega
  after_results
  rw [hC]
  refine row_slice C _ b ?_ ?_ y
  · show BitVec.toInt (_ : BitVec 32) = _
    refine (congrArg BitVec.toInt (congrFun (norm_word (X (Proc.devRef .tc main_while0b_v103)) (constantI S_ 32 0#32) _ b.val hlt hb) _)).trans ?_
    exact toInt_ofNat32 hlt
  · rfl

/-- A scalar, over the boxes. -/
abbrev bc (x : S_.Idx → EReal) : S87296.Idx → EReal := broadcastInDim S87296 ![] bcast_S_S87296 x

/-- A column, as a vector over the boxes. -/
abbrev vc (x : S87296x1.Idx → EReal) : S87296.Idx → EReal := shapeCast S87296 x shapeCasts_S87296x1_S87296

theorem bc_apply (x : S_.Idx → EReal) (j : S87296.Idx) : bc x j = x ix0 := broadcastInDim_scalar_apply _ _ _

/-- A one-column matrix cast to a vector. -/
theorem cast_col {a : ℕ} (x : (⟨2, ![a, 1]⟩ : Shape).Idx → EReal) (h : (⟨2, ![a, 1]⟩ : Shape).ShapeCasts ⟨1, ![a]⟩) (n : Fin a) :
    shapeCast ⟨1, ![a]⟩ x h (ix1 n) = x (ix2 n 0) :=
  shapeCast_apply x h _ _ (by
    rw [Shape.rowMajor_val_two, Shape.rowMajor_val_one]
    show n.val * 1 + 0 = n.val
    omega)

/-- A one-element vector cast to a scalar. -/
theorem cast_scalar (x : S1.Idx → EReal) (i : S_.Idx) : shapeCast S_ x shapeCasts_S1_S_ i = x (ix1 0) :=
  shapeCast_apply x _ _ _ (by
    have h1 := (S_.rowMajor i).isLt
    have h2 : S_.numel = 1 := rfl
    rw [Shape.rowMajor_val_one]
    show 0 = _
    omega)

/-- One edge, over the boxes: a column of the boxes as a vector. -/
theorem col_apply (C : S87296x4.Idx → EReal) (y : Fin 4) (off : Fin 2 → ℕ) (h0 : off 0 = 0) (h1 : off 1 = y.val)
    (h : S87296x4.Slices off S87296x1) (n : Fin N) :
    vc (extractStridedSlice S87296x1 off C h) (ix1 n) = C (ix2 n y) := by
  refine (cast_col _ _ n).trans ?_
  refine congrArg C (funext fun a => ?_)
  match a with
  | ⟨0, _⟩ => exact Fin.ext (by show off 0 + n.val = n.val; omega)
  | ⟨1, _⟩ => exact Fin.ext (by show off 1 + 0 = y.val; omega)

/-- One edge of a box, over the boxes. -/
abbrev eg (off : Fin 1 → ℕ) (q : S4.Idx → EReal) (h : S4.Slices off S1) : S87296.Idx → EReal :=
  bc (shapeCast S_ (extractStridedSlice S1 off q h) shapeCasts_S1_S_)

/-- One edge of the picked box, over the boxes. -/
theorem edge_apply (q : S4.Idx → EReal) (y : Fin 4) (off : Fin 1 → ℕ) (h0 : off 0 = y.val) (h : S4.Slices off S1) (n : Fin N) :
    eg off q h (ix1 n) = q (ix1 y) := by
  refine (bc_apply _ _).trans ((cast_scalar _ _).trans ?_)
  refine congrArg q (funext fun a => ?_)
  match a with
  | ⟨0, _⟩ => exact Fin.ext (by show off 0 + 0 = y.val; omega)

/-- The areas shared with the picked box. -/
theorem bE_val (X : Val) (q : S4.Idx → EReal) (hq : X (Proc.devRef .tc main_while0b_v117) = q)
    (C : S87296x4.Idx → EReal) (hC : X (Proc.devRef .tc main_v80_0) = C) (n : Fin N) :
    (after bE X (Proc.devRef .tc main_while0b_v148) : S87296.Idx → EReal) (ix1 n)
      = max (min (q (ix1 2)) (C (ix2 n 2)) - max (q (ix1 0)) (C (ix2 n 0))) 0
        * max (min (q (ix1 3)) (C (ix2 n 3)) - max (q (ix1 1)) (C (ix2 n 1))) 0 := by
  after_results
  rw [hq, hC]
  show (max (min (eg ![2] q slices_S4_S1_2 (ix1 n)) (vc _ (ix1 n))
      - max (eg ![0] q slices_S4_S1_0 (ix1 n)) (vc _ (ix1 n)))
        (bc (constant (F := Ideal) S_ .f32 0x00000000#32) (ix1 n))
    * max (min (eg ![3] q slices_S4_S1_3 (ix1 n)) (vc _ (ix1 n))
      - max (eg ![1] q slices_S4_S1_1 (ix1 n)) (vc _ (ix1 n)))
        (bc (constant (F := Ideal) S_ .f32 0x00000000#32) (ix1 n)) : EReal) = _
  have hz : (bc (constant (F := Ideal) S_ .f32 0x00000000#32) (ix1 n) : EReal) = 0 :=
    (bc_apply _ _).trans Ideal.ofBits_zero_f32
  rw [hz, edge_apply q 0 ![0] rfl, edge_apply q 1 ![1] rfl, edge_apply q 2 ![2] rfl, edge_apply q 3 ![3] rfl,
    col_apply C 0 ![0, 0] rfl rfl, col_apply C 1 ![0, 1] rfl rfl, col_apply C 2 ![0, 2] rfl rfl, col_apply C 3 ![0, 3] rfl rfl]

/-- One element of a vector, read as a block at its position. -/
theorem one_slice (A : S87296.Idx → EReal) (st : Fin 1 → ℤ) (b : Fin N) (h0 : st 0 = (b.val : ℤ)) (n : Fin N) :
    bc
      (shapeCast S_ (Host.dynamicSlice S1 A st sliceFits_S87296_S1) shapeCasts_S1_S_) (ix1 n) = A (ix1 b) := by
  refine (bc_apply _ _).trans ((cast_scalar _ _).trans ?_)
  rw [Host.dynamicSlice_eq_extractStridedSlice S1 A st ![b.val] sliceFits_S87296_S1
    ⟨rfl, fun a => by match a with | ⟨0, _⟩ => exact b.isLt⟩ (fun a => by match a with | ⟨0, _⟩ => exact h0)]
  refine congrArg A (funext fun a => ?_)
  match a with
  | ⟨0, _⟩ => exact Fin.ext rfl

/-- Which boxes pass the threshold against the picked one. -/
theorem bF_val (X : Val) (b : Fin N) (hb : X (Proc.devRef .tc main_while0b_v103) = fun _ => word b)
    (hz : X (Proc.devRef .tc main_while0b_c_33) = constantI S_ 32 0#32)
    (A : S87296.Idx → EReal) (hA : X (Proc.devRef .tc main_v80_1) = A)
    (I : S87296.Idx → EReal) (hI : X (Proc.devRef .tc main_while0b_v148) = I) (n : Fin N) :
    (after bF X (Proc.devRef .tc main_while0b_v159) : S87296.Idx → BitVec 1) (ix1 n)
      = Ideal.cmp .ogt (Ideal.div (I (ix1 n)) (A (ix1 b) + A (ix1 n) - I (ix1 n))) (Ideal.ofBits .f32 0x3F19999A#32) := by
  have hlt : b.val < 2 ^ 31 := by have : b.val < 87296 := b.isLt; omega
  after_results
  rw [hA, hI]
  show Ideal.cmp .ogt (Ideal.div (I (ix1 n)) (bc (shapeCast S_ (Host.dynamicSlice S1 A _ sliceFits_S87296_S1) shapeCasts_S1_S_) (ix1 n) + A (ix1 n) - I (ix1 n)))
    (bc (constant (F := Ideal) S_ .f32 0x3F19999A#32) (ix1 n)) = _
  rw [one_slice A _ b ?_ n]
  · rfl
  · show BitVec.toInt (_ : BitVec 32) = _
    refine (congrArg BitVec.toInt (congrFun
      (norm_word (X (Proc.devRef .tc main_while0b_v103)) (X (Proc.devRef .tc main_while0b_c_33)) _ b.val hlt hb hz) _)).trans ?_
    exact toInt_ofNat32 hlt

theorem bF_cst (X : Val) : after bF X (Proc.devRef .tc main_while0b_cst_36) = constant (F := Ideal) S_ .f32 0xFF800000#32 := by
  after_results

theorem bE_cst (X : Val) : after bE X (Proc.devRef .tc main_while0b_c_33) = constantI S_ 32 0#32 := by
  after_results

/-- The scores left after the round. -/
theorem bG_val (X : Val) (hc : X (Proc.devRef .tc main_while0b_cst_36) = constant (F := Ideal) S_ .f32 0xFF800000#32)
    (M : S87296.Idx → BitVec 1) (hM : X (Proc.devRef .tc main_while0b_v159) = M)
    (s : S87296.Idx → EReal) (hs : X (Proc.devRef .tc main_v80_4) = s) (n : Fin N) :
    (after bG X (Proc.devRef .tc main_while0b_v160) : S87296.Idx → EReal) (ix1 n) = Scalar.select (M (ix1 n)) ⊥ (s (ix1 n)) := by
  after_results
  rw [hc, hM, hs]
  show Scalar.select (M (ix1 n)) (bc (constant (F := Ideal) S_ .f32 0xFF800000#32) (ix1 n)) (s (ix1 n)) = _
  rw [bc_apply]
  show Scalar.select (M (ix1 n)) (Ideal.ofBits .f32 0xFF800000#32) (s (ix1 n)) = _
  rw [ofBits_negInf]

theorem bH_3 (X : Val) : after bH X (Proc.devRef .tc main_v80_3) = X (Proc.devRef .tc main_while0b_v102) := by after_results; rfl
theorem bH_4 (X : Val) : after bH X (Proc.devRef .tc main_v80_4) = X (Proc.devRef .tc main_while0b_v160) := by after_results; rfl
theorem bH_5 (X : Val) : after bH X (Proc.devRef .tc main_v80_5) = X (Proc.devRef .tc main_while0b_v109) := by after_results; rfl

/-- The state of the loop: the boxes, their areas, the scores left, and the picks taken so far. -/
structure At (C : S87296x4.Idx → EReal) (A : S87296.Idx → EReal) (s0 : Fin N → EReal) (k : ℕ) (X : Val) : Prop where
  box : X (Proc.devRef .tc main_v80_0) = C
  area : X (Proc.devRef .tc main_v80_1) = A
  round : X (Proc.devRef .tc main_v80_3) = fun _ => BitVec.ofNat 32 k
  score : ∀ n, (X (Proc.devRef .tc main_v80_4) : S87296.Idx → EReal) (ix1 n) = scores (boxes C A) s0 k n
  picks : ∀ j : Fin 100, j.val < k →
    (X (Proc.devRef .tc main_v80_5) : S100.Idx → BitVec 32) (ix1 j) = word (pick (boxes C A) s0 j.val)

/-- One trip takes one round. -/
theorem trip {C : S87296x4.Idx → EReal} {A : S87296.Idx → EReal} {s0 : Fin N → EReal} {k : ℕ} (hk : k < 100) {X : Val}
    (h : At C A s0 k X) : At C A s0 (k + 1) (afterL bodyI X) := by
  have kp : ∀ {ops : List (HloOp τ sig (Elt Ideal))} {W : List (Ref sig .tc)} (V : Val) (r : Ref sig .tc)
      (h : ops.Forall fun op => op.writes ⊆ (W.map (Proc.devRef (τ := τ) .tc)).toFinset) (hr : r ∉ W),
      after ops V (Proc.devRef .tc r) = V (Proc.devRef .tc r) := fun V r h hr => keep V r h hr
  simp only [afterL_cons, afterL_nil]
  set XA := after bA X with hXA
  set XB := after bB XA with hXB
  set XC := after bC XB with hXC
  set XD := after bD XC with hXD
  set XE := after bE XD with hXE
  set XF := after bF XE with hXF
  set XG := after bG XF with hXG
  set XH := after bH XG with hXH
  let b := pick (boxes C A) s0 k
  have hA3 : XA (Proc.devRef .tc main_while0b_v102) = fun _ => BitVec.ofNat 32 (k + 1) := by
    rw [hXA, bA_val, h.round]; funext _; exact (BitVec.ofNat_add k 1).symm
  have hB : XB (Proc.devRef .tc main_while0b_v103) = fun _ => word b := by
    refine bB_val XA (scores (boxes C A) s0 k) fun n => ?_
    rw [hXA, kp X main_v80_4 bA_writes (by decide +kernel)]
    exact h.score n
  have hC : ∀ e : Fin 100, (XC (Proc.devRef .tc main_while0b_v109) : S100.Idx → BitVec 32) (ix1 e)
      = if e = ⟨k, hk⟩ then word b else (X (Proc.devRef .tc main_v80_5) : S100.Idx → BitVec 32) (ix1 e) := fun e =>
    bC_val XB ⟨k, hk⟩ (by rw [hXB, kp XA main_v80_3 bB_writes (by decide +kernel), hXA, kp X main_v80_3 bA_writes (by decide +kernel), h.round])
      _ hB _ (by rw [hXB, kp XA main_v80_5 bB_writes (by decide +kernel), hXA, kp X main_v80_5 bA_writes (by decide +kernel)]) e
  have boxC : XC (Proc.devRef .tc main_v80_0) = C := by
    rw [hXC, kp XB main_v80_0 bC_writes (by decide +kernel), hXB, kp XA main_v80_0 bB_writes (by decide +kernel), hXA,
      kp X main_v80_0 bA_writes (by decide +kernel), h.box]
  have pickC : XC (Proc.devRef .tc main_while0b_v103) = fun _ => word b := by
    rw [hXC, kp XB main_while0b_v103 bC_writes (by decide +kernel), hB]
  have hD : ∀ y : Fin 4, (XD (Proc.devRef .tc main_while0b_v117) : S4.Idx → EReal) (ix1 y) = C (ix2 b y) :=
    bD_val XC b pickC C boxC
  have boxD : XD (Proc.devRef .tc main_v80_0) = C := by rw [hXD, kp XC main_v80_0 bD_writes (by decide +kernel), boxC]
  have hE : ∀ n : Fin N, (XE (Proc.devRef .tc main_while0b_v148) : S87296.Idx → EReal) (ix1 n) = inter (boxes C A) b n := fun n => by
    rw [hXE, bE_val XD _ rfl C boxD n, hD, hD, hD, hD]
    show _ = max (min (C (ix2 n 2)) (C (ix2 b 2)) - max (C (ix2 n 0)) (C (ix2 b 0))) 0
      * max (min (C (ix2 n 3)) (C (ix2 b 3)) - max (C (ix2 n 1)) (C (ix2 b 1))) 0
    rw [min_comm (C (ix2 n 2)), min_comm (C (ix2 n 3)), max_comm (C (ix2 n 0)), max_comm (C (ix2 n 1))]
  have pickE : XE (Proc.devRef .tc main_while0b_v103) = fun _ => word b := by
    rw [hXE, kp XD main_while0b_v103 bE_writes (by decide +kernel), hXD, kp XC main_while0b_v103 bD_writes (by decide +kernel), pickC]
  have areaE : XE (Proc.devRef .tc main_v80_1) = A := by
    rw [hXE, kp XD main_v80_1 bE_writes (by decide +kernel), hXD, kp XC main_v80_1 bD_writes (by decide +kernel),
      hXC, kp XB main_v80_1 bC_writes (by decide +kernel), hXB, kp XA main_v80_1 bB_writes (by decide +kernel), hXA,
      kp X main_v80_1 bA_writes (by decide +kernel), h.area]
  have scoreE : XE (Proc.devRef .tc main_v80_4) = X (Proc.devRef .tc main_v80_4) := by
    rw [hXE, kp XD main_v80_4 bE_writes (by decide +kernel), hXD, kp XC main_v80_4 bD_writes (by decide +kernel),
      hXC, kp XB main_v80_4 bC_writes (by decide +kernel), hXB, kp XA main_v80_4 bB_writes (by decide +kernel), hXA,
      kp X main_v80_4 bA_writes (by decide +kernel)]
  have hF : ∀ n : Fin N, (XF (Proc.devRef .tc main_while0b_v159) : S87296.Idx → BitVec 1) (ix1 n) = 1#1 ↔ Over (boxes C A) b n :=
    fun n => by
      rw [hXF, bF_val XE b pickE (bE_cst XD) A areaE _ rfl n, hE, cmp_ogt_one]
      exact Iff.rfl
  have hG : ∀ n : Fin N, (XG (Proc.devRef .tc main_while0b_v160) : S87296.Idx → EReal) (ix1 n)
      = scores (boxes C A) s0 (k + 1) n := fun n => by
    classical
    rw [hXG, bG_val XF (bF_cst XE) _ rfl _ rfl n, scalar_select_iff (hF n), hXF, kp XE main_v80_4 bF_writes (by decide +kernel),
      scoreE, h.score]
    show _ = suppress (boxes C A) b (scores (boxes C A) s0 k) n
    unfold suppress
    congr
  constructor
  · rw [hXH, kp XG main_v80_0 bH_writes (by decide +kernel), hXG, kp XF main_v80_0 bG_writes (by decide +kernel), hXF,
      kp XE main_v80_0 bF_writes (by decide +kernel), hXE, kp XD main_v80_0 bE_writes (by decide +kernel), boxD]
  · rw [hXH, kp XG main_v80_1 bH_writes (by decide +kernel), hXG, kp XF main_v80_1 bG_writes (by decide +kernel), hXF,
      kp XE main_v80_1 bF_writes (by decide +kernel), areaE]
  · rw [hXH, bH_3, hXG, kp XF main_while0b_v102 bG_writes (by decide +kernel), hXF, kp XE main_while0b_v102 bF_writes (by decide +kernel),
      hXE, kp XD main_while0b_v102 bE_writes (by decide +kernel), hXD, kp XC main_while0b_v102 bD_writes (by decide +kernel),
      hXC, kp XB main_while0b_v102 bC_writes (by decide +kernel), hXB, kp XA main_while0b_v102 bB_writes (by decide +kernel), hA3]
    rfl
  · intro n; rw [hXH, bH_4]; exact hG n
  · intro j hj
    rw [hXH, bH_5, hXG, kp XF main_while0b_v109 bG_writes (by decide +kernel), hXF, kp XE main_while0b_v109 bF_writes (by decide +kernel),
      hXE, kp XD main_while0b_v109 bE_writes (by decide +kernel), hXD, kp XC main_while0b_v109 bD_writes (by decide +kernel), hC]
    by_cases e : j = ⟨k, hk⟩
    · rw [if_pos e, e]
    · rw [if_neg e]
      exact h.picks j (by have : j.val ≠ k := fun h' => e (Fin.ext h'); omega)

end Cert.Proof.RefBody
-- ==== Proof.RefPre.lean ====
/- What the reference holds when its loop begins: every location's box, score and class. -/
module

public import proofs.«01_k».proof.Proof.RefBody
public import proofs.«01_k».proof.Proof.Model
public import Idealize.ShloMosaic.Lib.PlanTiles.Rows

@[expose] public section

set_option maxRecDepth 4000

noncomputable section

namespace Cert.Proof.RefPre

open Cert.ReferenceIdeal Cert.ReferenceIdeal.Gen
open Idealize.ShloMosaic Idealize.ShloMosaic.ValueIdx Idealize.ShloMosaic.Tactic
open Idealize.ShloMosaic.StableHlo
open Cert.Proof.Core Cert.Proof.Ref Cert.Proof.RefBody Cert.Proof.Model

/-- Column `p` of a four-column array, as a vector. -/
abbrev colv (C : S87296x4.Idx → EReal) (off : Fin 2 → ℕ) (h : S87296x4.Slices off S87296x1) : S87296.Idx → EReal :=
  vc (extractStridedSlice S87296x1 off C h)

section
variable (X : Val) (a : S87296x4.Idx → EReal) (n : Fin N)

theorem pA_6 (ha : X (Proc.devRef .tc main_arg3) = a) : (after pA X (Proc.devRef .tc main_v6) : S87296.Idx → EReal) (ix1 n)
    = half * (a (ix2 n 0) + a (ix2 n 2)) := by
  after_results
  rw [ha]
  show bc (constant (F := Ideal) S_ .f32 0x3F000000#32) (ix1 n)
    * (colv a ![0, 0] slices_S87296x4_S87296x1_0_0 (ix1 n) + colv a ![0, 2] slices_S87296x4_S87296x1_0_2 (ix1 n)) = _
  rw [bc_apply, colv, colv, col_apply a 0 ![0, 0] rfl rfl, col_apply a 2 ![0, 2] rfl rfl]
  rfl

theorem pA_13 (ha : X (Proc.devRef .tc main_arg3) = a) : (after pA X (Proc.devRef .tc main_v13) : S87296.Idx → EReal) (ix1 n)
    = half * (a (ix2 n 1) + a (ix2 n 3)) := by
  after_results
  rw [ha]
  show bc (constant (F := Ideal) S_ .f32 0x3F000000#32) (ix1 n)
    * (colv a ![0, 1] slices_S87296x4_S87296x1_0_1 (ix1 n) + colv a ![0, 3] slices_S87296x4_S87296x1_0_3 (ix1 n)) = _
  rw [bc_apply, colv, colv, col_apply a 1 ![0, 1] rfl rfl, col_apply a 3 ![0, 3] rfl rfl]
  rfl

theorem pA_18 (ha : X (Proc.devRef .tc main_arg3) = a) : (after pA X (Proc.devRef .tc main_v18) : S87296.Idx → EReal) (ix1 n)
    = a (ix2 n 2) - a (ix2 n 0) := by
  after_results
  rw [ha]
  show colv a ![0, 2] slices_S87296x4_S87296x1_0_2 (ix1 n) - colv a ![0, 0] slices_S87296x4_S87296x1_0_0 (ix1 n) = _
  rw [colv, colv, col_apply a 0 ![0, 0] rfl rfl, col_apply a 2 ![0, 2] rfl rfl]

theorem pA_23 (ha : X (Proc.devRef .tc main_arg3) = a) : (after pA X (Proc.devRef .tc main_v23) : S87296.Idx → EReal) (ix1 n)
    = a (ix2 n 3) - a (ix2 n 1) := by
  after_results
  rw [ha]
  show colv a ![0, 3] slices_S87296x4_S87296x1_0_3 (ix1 n) - colv a ![0, 1] slices_S87296x4_S87296x1_0_1 (ix1 n) = _
  rw [colv, colv, col_apply a 1 ![0, 1] rfl rfl, col_apply a 3 ![0, 3] rfl rfl]

end

/-- A vector stood up as one column. -/
theorem up_apply (v : S87296.Idx → EReal) (n : Fin N) :
    broadcastInDim S87296x1 ![0] bcast_S87296_S87296x1_0 v (ix2 n 0) = v (ix1 n) :=
  broadcastInDim_apply _ _ v _ (ix1 n) (fun a => by match a with | ⟨0, _⟩ => rfl)

section
variable (X : Val) (r : S87296x4.Idx → EReal) (m1 m2 e1 e2 : S87296.Idx → EReal) (n : Fin N)

theorem pB_44 (hr : X (Proc.devRef .tc main_arg1) = r) (h1 : X (Proc.devRef .tc main_v6) = m1) (h2 : X (Proc.devRef .tc main_v13) = m2)
    (h3 : X (Proc.devRef .tc main_v18) = e1) (h4 : X (Proc.devRef .tc main_v23) = e2) (y : Fin 4) :
    (after pB X (Proc.devRef .tc main_v44) : S87296x4.Idx → EReal) (ix2 n y)
      = ![m1 (ix1 n) - r (ix2 n 0) * e1 (ix1 n), m2 (ix1 n) - r (ix2 n 1) * e2 (ix1 n),
          m1 (ix1 n) + r (ix2 n 2) * e1 (ix1 n), m2 (ix1 n) + r (ix2 n 3) * e2 (ix1 n)] y := by
  have hc := PlanTiles.cat4_ap (α := EReal) (E := 87296) concatenates_S87296x1_S87296x1_S87296x1_S87296x1_S87296x4_d1
  have key : (after pB X (Proc.devRef .tc main_v44) : S87296x4.Idx → EReal)
      = concatenate S87296x4 1
          [⟨S87296x1, broadcastInDim S87296x1 ![0] bcast_S87296_S87296x1_0 (fun i => m1 i
              - colv r ![0, 0] slices_S87296x4_S87296x1_0_0 i * e1 i)⟩,
           ⟨S87296x1, broadcastInDim S87296x1 ![0] bcast_S87296_S87296x1_0 (fun i => m2 i
              - colv r ![0, 1] slices_S87296x4_S87296x1_0_1 i * e2 i)⟩,
           ⟨S87296x1, broadcastInDim S87296x1 ![0] bcast_S87296_S87296x1_0 (fun i => m1 i
              + colv r ![0, 2] slices_S87296x4_S87296x1_0_2 i * e1 i)⟩,
           ⟨S87296x1, broadcastInDim S87296x1 ![0] bcast_S87296_S87296x1_0 (fun i => m2 i
              + colv r ![0, 3] slices_S87296x4_S87296x1_0_3 i * e2 i)⟩]
          concatenates_S87296x1_S87296x1_S87296x1_S87296x1_S87296x4_d1 := by
    after_results
    rw [← hr, ← h1, ← h2, ← h3, ← h4]
    rfl
  rw [key]
  match y with
  | 0 =>
    refine (hc _ _ _ _ n).1.trans ((up_apply _ n).trans ?_)
    rw [colv, col_apply r 0 ![0, 0] rfl rfl]; rfl
  | 1 =>
    refine (hc _ _ _ _ n).2.1.trans ((up_apply _ n).trans ?_)
    rw [colv, col_apply r 1 ![0, 1] rfl rfl]; rfl
  | 2 =>
    refine (hc _ _ _ _ n).2.2.1.trans ((up_apply _ n).trans ?_)
    rw [colv, col_apply r 2 ![0, 2] rfl rfl]; rfl
  | 3 =>
    refine (hc _ _ _ _ n).2.2.2.trans ((up_apply _ n).trans ?_)
    rw [colv, col_apply r 3 ![0, 3] rfl rfl]; rfl

end

/-- The probability of a logit. -/
theorem pC_50 (X : Val) (l : S87296x91.Idx → EReal) (hl : X (Proc.devRef .tc main_arg0) = l) (i : S87296x91.Idx) :
    (after pC X (Proc.devRef .tc main_v50) : S87296x91.Idx → EReal) i = Ideal.logistic (l i) := by
  after_results
  rw [hl]
  show Ideal.div (Ideal.ofBits .f32 0x3F800000#32) (Ideal.ofBits .f32 0x3F800000#32
    + Ideal.exp (-(l i))) = _
  rw [Ideal.ofBits_one_f32]; rfl

theorem pC_53 (X : Val) (c : S87296x1.Idx → EReal) (hc : X (Proc.devRef .tc main_arg2) = c) (n : Fin N) :
    (after pC X (Proc.devRef .tc main_v53) : S87296.Idx → EReal) (ix1 n) = Ideal.exp (-(c (ix2 n 0))) := by
  after_results
  rw [hc]
  show Ideal.exp (-(vc c (ix1 n))) = _
  rw [show vc c (ix1 n) = c (ix2 n 0) from cast_col c _ n]

theorem pC_54 (X : Val) (n : Fin N) :
    (after pC X (Proc.devRef .tc main_v54) : S87296.Idx → EReal) (ix1 n) = (1 : EReal) := by
  after_results
  show Ideal.ofBits .f32 0x3F800000#32 = (1 : EReal)
  exact Ideal.ofBits_one_f32

/-- One column over the classes. -/
theorem wide_apply (v : S87296x1.Idx → EReal) (n : Fin N) (k : Fin 91) :
    broadcastInDim S87296x91 ![0, 1] bcast_S87296x1_S87296x91_0_1 v (ix2 n k) = v (ix2 n 0) :=
  broadcastInDim_apply _ _ v _ (ix2 n 0) (fun a => by match a with | ⟨0, _⟩ => rfl | ⟨1, _⟩ => rfl)

/-- The score of a class. -/
theorem pD_61 (X : Val) (p : S87296x91.Idx → EReal) (hp : X (Proc.devRef .tc main_v50) = p)
    (e o : S87296.Idx → EReal) (he : X (Proc.devRef .tc main_v53) = e) (ho : X (Proc.devRef .tc main_v54) = o) (n : Fin N) (k : Fin 91) :
    (after pD X (Proc.devRef .tc main_v61) : S87296x91.Idx → EReal) (ix2 n k)
      = Ideal.sqrt (p (ix2 n k) * Ideal.div 1 (o (ix1 n) + e (ix1 n))) := by
  after_results
  rw [hp, he, ho]
  show Ideal.sqrt (p (ix2 n k) * broadcastInDim S87296x91 ![0, 1] bcast_S87296x1_S87296x91_0_1
    (broadcastInDim S87296x1 ![0] bcast_S87296_S87296x1_0
      (fun i => Ideal.div (Ideal.ofBits .f32 0x3F800000#32) (o i + e i) : S87296.Idx → EReal)) (ix2 n k)) = _
  rw [wide_apply, up_apply, Ideal.ofBits_one_f32]

/-- The areas. -/
theorem pF_78 (X : Val) (C : S87296x4.Idx → EReal) (hC : X (Proc.devRef .tc main_v44) = C) (n : Fin N) :
    (after pF X (Proc.devRef .tc main_v78) : S87296.Idx → EReal) (ix1 n)
      = max (C (ix2 n 2) - C (ix2 n 0)) 0 * max (C (ix2 n 3) - C (ix2 n 1)) 0 := by
  after_results
  rw [hC]
  show max (colv C ![0, 2] slices_S87296x4_S87296x1_0_2 (ix1 n) - colv C ![0, 0] slices_S87296x4_S87296x1_0_0 (ix1 n)) (Ideal.ofBits .f32 0x00000000#32)
    * max (colv C ![0, 3] slices_S87296x4_S87296x1_0_3 (ix1 n) - colv C ![0, 1] slices_S87296x4_S87296x1_0_1 (ix1 n)) (Ideal.ofBits .f32 0x00000000#32) = _
  rw [Ideal.ofBits_zero_f32, colv, colv, colv, colv, col_apply C 0 ![0, 0] rfl rfl, col_apply C 1 ![0, 1] rfl rfl,
    col_apply C 2 ![0, 2] rfl rfl, col_apply C 3 ![0, 3] rfl rfl]

/-- A maximum over the classes. -/
theorem reduce_max (q : S87296x91.Idx → EReal) (n : Fin N) :
    Host.reduce (FloatOps.maximumf (F := Ideal) (φ := .f32)) q (constant (F := Ideal) S_ .f32 0xFF800000#32) reducesTo_S87296x91_S87296_d1 h_S_ (ix1 n)
      = (Finset.univ : Finset (Fin 91)).fold max ⊥ fun k => q (ix2 n k) := by
  have hr : S87296x91.Reduces [1] S87296 := by decide
  refine (Host.reduce_eq_fold_single (a := 1) (max : EReal → EReal → EReal) q _ reducesTo_S87296x91_S87296_d1 hr h_S_ (ix1 n)).trans ?_
  show Finset.fold max (Ideal.ofBits .f32 0xFF800000#32) _ _ = _
  rw [ofBits_negInf]
  refine congrArg (fun f => Finset.fold max ⊥ f Finset.univ) (funext fun k => ?_)
  exact congrArg q (funext fun d => by match d with | ⟨0, _⟩ => rfl | ⟨1, _⟩ => rfl)

/-- The largest score over the classes. -/
theorem pD_62 (X : Val) (q : S87296x91.Idx → EReal) (hq : after pD X (Proc.devRef .tc main_v61) = q) (n : Fin N) :
    (after pD X (Proc.devRef .tc main_v62) : S87296.Idx → EReal) (ix1 n)
      = (Finset.univ : Finset (Fin 91)).fold max ⊥ fun k => q (ix2 n k) := by
  rw [← reduce_max q n, ← hq]
  after_results

theorem drop_row (n : Fin N) (k : Fin 91) : reducesTo_S87296x91_S87296_d1.drop (ix2 n k) = ix1 n := by
  funext a
  match a with
  | ⟨0, _⟩ => exact Fin.ext (Shape.ReducesTo.drop_apply_val_of_eq reducesTo_S87296x91_S87296_d1 (ix2 n k) 0 0)

theorem eq_row (n : Fin N) (i : S87296x91.Idx) (hi : reducesTo_S87296x91_S87296_d1.drop i = ix1 n) : i = ix2 n (i 1) := by
  have h := Shape.ReducesTo.drop_apply_val_of_eq reducesTo_S87296x91_S87296_d1 i 0 0
  rw [hi] at h
  have h0 : i 0 = n := Fin.ext h.symm
  rw [← h0]
  exact eq_ix2 i

/-- The first class of the largest score. -/
theorem pE_63 (X : Val) (q : S87296x91.Idx → EReal) (hq : X (Proc.devRef .tc main_v61) = q) (n : Fin N) :
    (after pE X (Proc.devRef .tc main_v63) : S87296.Idx → BitVec 32) (ix1 n)
      = BitVec.ofNat 32 (best (N := 91) (by decide) fun k => q (ix2 n k)).val := by
  have key : after pE X (Proc.devRef .tc main_v63) = (fun j => (Host.argReduce reducer_argmax_f32_i32 q (iotaInDim S87296x91 32 1)
      (constant (F := Ideal) S_ .f32 0xFF800000#32) (constantI S_ 32 0#32) reducesTo_S87296x91_S87296_d1 h_S_ j).2 : S87296.Idx → BitVec 32) := by
    after_results
    rw [hq]
    rfl
  rw [key]
  obtain ⟨k, hk, he⟩ := RefArg.argReduce_best (n := 91) (by decide) (by decide) q
    (iotaInDim S87296x91 32 1) (constant (F := Ideal) S_ .f32 0xFF800000#32) (constantI S_ 32 0#32) reducesTo_S87296x91_S87296_d1 h_S_ (ix1 n)
    (fun k => ix2 n k) (fun _ => ofBits_negInf) (fun _ => rfl)
    (fun k => drop_row n k) (fun i hi => ⟨i 1, eq_row n i hi⟩) (fun _ => rfl)
  rw [← hk.eq_best (by decide)]
  exact he

end Cert.Proof.RefPre
-- ==== Proof.RefVal.lean ====
/- The reference's results: the box, the class and the score of the location taken in each round. -/
module

public import proofs.«01_k».proof.Proof.RefPre
public import proofs.«01_k».proof.Proof.Frames

@[expose] public section

set_option maxRecDepth 4000

noncomputable section

namespace Cert.Proof.RefVal

open Cert.ReferenceIdeal Cert.ReferenceIdeal.Gen
open Idealize.ShloMosaic Idealize.ShloMosaic.TcCoe Idealize.ShloMosaic.ValueIdx Idealize.ShloMosaic.Tactic
open Idealize.ShloMosaic.StableHlo
open Cert.Proof.Core Cert.Proof.Ref Cert.Proof.RefBody Cert.Proof.RefPre Cert.Proof.Model
open Cert.Proof.Pay (word word_toNat)

/-! ## The picks as indices -/

/-- The picks, normalised, as a column of indices. -/
abbrev idxs (J : S100.Idx → BitVec 32) : S100x1.Idx → BitVec 32 :=
  broadcastInDim S100x1 ![0] bcast_S100_S100x1_0
    (select (cmpi .slt J (broadcastInDim S100 ![] bcast_S_S100 (constantI S_ 32 0#32)))
      (addi J (broadcastInDim S100 ![] bcast_S_S100 (constantI S_ 32 87296#32))) J)

theorem idxs_apply (J : S100.Idx → BitVec 32) (j : Fin 100) (b : Fin N) (hb : J (ix1 j) = word b) : idxs J (ix2 j 0) = word b := by
  have hlt : b.val < 2 ^ 31 := by have : b.val < 87296 := b.isLt; omega
  refine (broadcastInDim_apply _ _ _ _ (ix1 j) (fun a => by match a with | ⟨0, _⟩ => rfl)).trans ?_
  show select (cmpi .slt J (constantI S100 32 0#32)) _ J (ix1 j) = _
  rw [select_slt_zero_of_nonneg J _ J (ix1 j) (by rw [hb, toInt_ofNat32 hlt]; omega), hb]

section
variable (X : Val) (J : S100.Idx → BitVec 32) (j : Fin 100) (b : Fin N)

theorem qA_87 (C : S87296x4.Idx → EReal) (hJ : X (Proc.devRef .tc main_v80_5) = J) (hb : J (ix1 j) = word b)
    (hC : X (Proc.devRef .tc main_v44) = C) (y : Fin 4) :
    (after qA X (Proc.devRef .tc main_v87) : S100x4.Idx → EReal) (ix2 j y) = C (ix2 b y) := by
  have key : after qA X (Proc.devRef .tc main_v87) = (Host.gather gather_S87296x4_S100x1_S100x4_1_0_n_n_0_1_14 C (idxs J) : S100x4.Idx → EReal) := by
    after_results
    rw [hJ, hC]
  rw [key]
  exact Routing.gather_row gather_S87296x4_S100x1_S100x4_1_0_n_n_0_1_14 rfl rfl rfl rfl rfl C (idxs J) j y b (idxs_apply J j b hb) (by decide)

theorem qB_94 (L : S87296.Idx → BitVec 32) (hJ : X (Proc.devRef .tc main_v80_5) = J) (hb : J (ix1 j) = word b)
    (hL : X (Proc.devRef .tc main_v63) = L) :
    (after qB X (Proc.devRef .tc main_v94) : S100.Idx → BitVec 32) (ix1 j) = L (ix1 b) := by
  have key : after qB X (Proc.devRef .tc main_v94) = (Host.gather gather_S87296_S100x1_S100_n_0_n_n_0_1_1 L (idxs J) : S100.Idx → BitVec 32) := by
    after_results
    rw [hJ, hL]
  rw [key]
  exact Routing.gather_take1 gather_S87296_S100x1_S100_n_0_n_n_0_1_1 rfl rfl rfl rfl L (idxs J) j b (idxs_apply J j b hb) (by decide)

theorem qC_96 : after qC X (Proc.devRef .tc main_v96)
    = cmpi .slt (X (Proc.devRef .tc main_v80_5) : S100.Idx → BitVec 32) (broadcastInDim S100 ![] bcast_S_S100 (constantI S_ 32 0#32)) := by
  after_results

theorem qD_101 (S : S87296.Idx → EReal) (hJ : X (Proc.devRef .tc main_v80_5) = J) (hb : J (ix1 j) = word b)
    (hc : X (Proc.devRef .tc main_v96) = cmpi .slt J (broadcastInDim S100 ![] bcast_S_S100 (constantI S_ 32 0#32)))
    (hS : X (Proc.devRef .tc main_v62) = S) :
    (after qD X (Proc.devRef .tc main_v101) : S100.Idx → EReal) (ix1 j) = S (ix1 b) := by
  have key : after qD X (Proc.devRef .tc main_v101) = (Host.gather gather_S87296_S100x1_S100_n_0_n_n_0_1_1 S (idxs J) : S100.Idx → EReal) := by
    after_results
    rw [hJ, hS, hc]
  rw [key]
  exact Routing.gather_take1 gather_S87296_S100x1_S100_n_0_n_n_0_1_1 rfl rfl rfl rfl S (idxs J) j b (idxs_apply J j b hb) (by decide)

end

/-! ## The loop's entry -/

/-- The inputs the valuation holds. -/
def inputs (V : Val) : Inputs where
  lg n k := (V (Proc.devRef .tc main_arg0) : S87296x91.Idx → EReal) (ix2 n k)
  ct n := (V (Proc.devRef .tc main_arg2) : S87296x1.Idx → EReal) (ix2 n 0)
  an n y := (V (Proc.devRef .tc main_arg3) : S87296x4.Idx → EReal) (ix2 n y)
  rg n y := (V (Proc.devRef .tc main_arg1) : S87296x4.Idx → EReal) (ix2 n y)

/-- What the loop begins from. -/
structure Entry (V X : Val) : Prop where
  at0 : At (X (Proc.devRef .tc main_v44)) (X (Proc.devRef .tc main_v78)) (score (inputs V)) 0 X
  box : ∀ n y, (X (Proc.devRef .tc main_v44) : S87296x4.Idx → EReal) (ix2 n y) = edge (inputs V) n y
  area : ∀ n, (X (Proc.devRef .tc main_v78) : S87296.Idx → EReal) (ix1 n) = (bxs (inputs V)).ar n
  top : ∀ n, (X (Proc.devRef .tc main_v62) : S87296.Idx → EReal) (ix1 n) = score (inputs V) n
  cls : ∀ n, (X (Proc.devRef .tc main_v63) : S87296.Idx → BitVec 32) (ix1 n) = BitVec.ofNat 32 (label (inputs V) n).val

theorem pG_0 (X : Val) : after pG X (Proc.devRef .tc main_v80_0) = X (Proc.devRef .tc main_v44) := by after_results; rfl
theorem pG_1 (X : Val) : after pG X (Proc.devRef .tc main_v80_1) = X (Proc.devRef .tc main_v78) := by after_results; rfl
theorem pG_3 (X : Val) : after pG X (Proc.devRef .tc main_v80_3) = fun _ => (0#32 : BitVec 32) := by after_results; rfl
theorem pG_4 (X : Val) : after pG X (Proc.devRef .tc main_v80_4) = X (Proc.devRef .tc main_v62) := by after_results; rfl

theorem entry (V : Val) : Entry V (afterL preI V) := by
  have kp : ∀ {ops : List (HloOp τ sig (Elt Ideal))} {W : List (Ref sig .tc)} (V : Val) (r : Ref sig .tc)
      (h : ops.Forall fun op => op.writes ⊆ (W.map (Proc.devRef (τ := τ) .tc)).toFinset) (hr : r ∉ W),
      after ops V (Proc.devRef .tc r) = V (Proc.devRef .tc r) := fun V r h hr => keep V r h hr
  simp only [afterL_cons, afterL_nil]
  set XA := after pA V with hXA
  set XB := after pB XA with hXB
  set XC := after pC XB with hXC
  set XD := after pD XC with hXD
  set XE := after pE XD with hXE
  set XF := after pF XE with hXF
  set XG := after pG XF with hXG
  have rA : XA (Proc.devRef .tc main_arg1) = V (Proc.devRef .tc main_arg1) := by rw [hXA, kp V main_arg1 pA_writes (by decide +kernel)]
  have lB : XB (Proc.devRef .tc main_arg0) = V (Proc.devRef .tc main_arg0) := by
    rw [hXB, kp XA main_arg0 pB_writes (by decide +kernel), hXA, kp V main_arg0 pA_writes (by decide +kernel)]
  have cB : XB (Proc.devRef .tc main_arg2) = V (Proc.devRef .tc main_arg2) := by
    rw [hXB, kp XA main_arg2 pB_writes (by decide +kernel), hXA, kp V main_arg2 pA_writes (by decide +kernel)]
  have boxB : ∀ n y, (XB (Proc.devRef .tc main_v44) : S87296x4.Idx → EReal) (ix2 n y) = edge (inputs V) n y := fun n y => by
    rw [hXB, pB_44 XA _ _ _ _ _ n rA rfl rfl rfl rfl y, hXA, pA_6 V _ n rfl, pA_13 V _ n rfl, pA_18 V _ n rfl, pA_23 V _ n rfl]
    rfl
  have boxE : XE (Proc.devRef .tc main_v44) = XB (Proc.devRef .tc main_v44) := by
    rw [hXE, kp XD main_v44 pE_writes (by decide +kernel), hXD, kp XC main_v44 pD_writes (by decide +kernel),
      hXC, kp XB main_v44 pC_writes (by decide +kernel)]
  have probD : ∀ n k, (XD (Proc.devRef .tc main_v61) : S87296x91.Idx → EReal) (ix2 n k) = prob (inputs V) n k := fun n k => by
    rw [hXD, pD_61 XC _ rfl _ _ rfl rfl n k, hXC, pC_50 XB _ lB, pC_53 XB _ cB, pC_54 XB]
    rfl
  have topD : ∀ n, (XD (Proc.devRef .tc main_v62) : S87296.Idx → EReal) (ix1 n) = score (inputs V) n := fun n => by
    rw [hXD, pD_62 XC _ rfl n]
    exact congrArg (fun f : Fin 91 → EReal => Finset.fold max (⊥ : EReal) f Finset.univ) (funext fun k => probD n k)
  have clsE : ∀ n, (XE (Proc.devRef .tc main_v63) : S87296.Idx → BitVec 32) (ix1 n) = BitVec.ofNat 32 (label (inputs V) n).val := fun n => by
    rw [hXE, pE_63 XD _ rfl n]
    rw [show (fun k => (XD (Proc.devRef .tc main_v61) : S87296x91.Idx → EReal) (ix2 n k)) = prob (inputs V) n from funext fun k => probD n k]
    rfl
  have areaF : ∀ n, (XF (Proc.devRef .tc main_v78) : S87296.Idx → EReal) (ix1 n) = (bxs (inputs V)).ar n := fun n => by
    rw [hXF, pF_78 XE _ boxE n, boxB, boxB, boxB, boxB]
    rfl
  have g44 : XG (Proc.devRef .tc main_v44) = XB (Proc.devRef .tc main_v44) := by
    rw [hXG, kp XF main_v44 pG_writes (by decide +kernel), hXF, kp XE main_v44 pF_writes (by decide +kernel), boxE]
  have f62 : XF (Proc.devRef .tc main_v62) = XD (Proc.devRef .tc main_v62) := by
    rw [hXF, kp XE main_v62 pF_writes (by decide +kernel), hXE, kp XD main_v62 pE_writes (by decide +kernel)]
  refine ⟨⟨?_, ?_, ?_, fun n => ?_, fun j hj => absurd hj (Nat.not_lt_zero _)⟩, fun n y => ?_, fun n => ?_, fun n => ?_, fun n => ?_⟩
  · rw [hXG, pG_0, kp XF main_v44 pG_writes (by decide +kernel)]
  · rw [hXG, pG_1, kp XF main_v78 pG_writes (by decide +kernel)]
  · rw [hXG, pG_3]
  · rw [hXG, pG_4, f62]; exact topD n
  · rw [g44]; exact boxB n y
  · rw [hXG, kp XF main_v78 pG_writes (by decide +kernel)]; exact areaF n
  · rw [hXG, kp XF main_v62 pG_writes (by decide +kernel), f62]; exact topD n
  · rw [hXG, kp XF main_v63 pG_writes (by decide +kernel), hXF, kp XE main_v63 pF_writes (by decide +kernel)]; exact clsE n

/-! ## The results -/

variable (m : (ℓ : Loc nD τ sig) → Buf (Elt Ideal) ℓ) (c : Dev nD)

/-- What the device holds at the start. -/
abbrev V0 : Val := fun b => m ⟨c, b⟩

/-- The boxes and areas the loop reads are the mathematics'. -/
theorem boxes_eq {V X : Val} (h : Entry V X) :
    boxes (X (Proc.devRef .tc main_v44)) (X (Proc.devRef .tc main_v78)) = bxs (inputs V) := by
  have hb := h.box
  have ha := h.area
  have e1 : ∀ n, (X (Proc.devRef .tc main_v44) : S87296x4.Idx → EReal) (ix2 n 0) = (bxs (inputs V)).x1 n := fun n => hb n 0
  have e2 : ∀ n, (X (Proc.devRef .tc main_v44) : S87296x4.Idx → EReal) (ix2 n 1) = (bxs (inputs V)).y1 n := fun n => hb n 1
  have e3 : ∀ n, (X (Proc.devRef .tc main_v44) : S87296x4.Idx → EReal) (ix2 n 2) = (bxs (inputs V)).x2 n := fun n => hb n 2
  have e4 : ∀ n, (X (Proc.devRef .tc main_v44) : S87296x4.Idx → EReal) (ix2 n 3) = (bxs (inputs V)).y2 n := fun n => hb n 3
  unfold boxes
  rw [funext e1, funext e2, funext e3, funext e4, funext ha]

theorem atK_keeps (k : ℕ) (r : Ref sig .tc)
    (h1 : r ∉ bA_W ++ bB_W ++ bC_W ++ bD_W ++ bE_W ++ bF_W ++ bG_W ++ bH_W) (h3 : r ∉ condOps_W) :
    atK m k c (Proc.devRef .tc r) = atK m 0 c (Proc.devRef .tc r) := by
  induction k with
  | zero => rfl
  | succ k ih => exact (body_keeps _ r h1).trans ((keep _ _ condOps_writes h3).trans ih)

theorem atK_At {C : S87296x4.Idx → EReal} {A : S87296.Idx → EReal} {s : Fin N → EReal} (h : At C A s 0 (atK m 0 c)) :
    ∀ k, k ≤ 100 → At C A s k (atK m k c)
  | 0, _ => h
  | k + 1, hk => by
    have ih := atK_At h k (by omega)
    have hc : ∀ r : Ref sig .tc, r ∉ condOps_W → after condOps (atK m k c) (Proc.devRef .tc r) = atK m k c (Proc.devRef .tc r) :=
      fun r hr => keep _ _ condOps_writes hr
    refine trip (by omega) (X := after condOps (atK m k c)) ⟨?_, ?_, ?_, fun n => ?_, fun j hj => ?_⟩
    · rw [hc main_v80_0 (by decide +kernel)]; exact ih.box
    · rw [hc main_v80_1 (by decide +kernel)]; exact ih.area
    · rw [hc main_v80_3 (by decide +kernel)]; exact ih.round
    · rw [hc main_v80_4 (by decide +kernel)]; exact ih.score n
    · rw [hc main_v80_5 (by decide +kernel)]; exact ih.picks j hj

/-- The three results, entry by entry. -/
theorem results (j : Fin 100) :
    (∀ y, (finalContents condOps preI bodyI postI 100 m c (Proc.devRef .tc main_v87) : S100x4.Idx → EReal) (ix2 j y)
      = edge (inputs (V0 m c)) (taken (inputs (V0 m c)) j.val) y)
    ∧ (finalContents condOps preI bodyI postI 100 m c (Proc.devRef .tc main_v94) : S100.Idx → BitVec 32) (ix1 j)
      = BitVec.ofNat 32 (label (inputs (V0 m c)) (taken (inputs (V0 m c)) j.val)).val
    ∧ (finalContents condOps preI bodyI postI 100 m c (Proc.devRef .tc main_v101) : S100.Idx → EReal) (ix1 j)
      = score (inputs (V0 m c)) (taken (inputs (V0 m c)) j.val) := by
  have kp : ∀ {ops : List (HloOp τ sig (Elt Ideal))} {W : List (Ref sig .tc)} (V : Val) (r : Ref sig .tc)
      (h : ops.Forall fun op => op.writes ⊆ (W.map (Proc.devRef (τ := τ) .tc)).toFinset) (hr : r ∉ W),
      after ops V (Proc.devRef .tc r) = V (Proc.devRef .tc r) := fun V r h hr => keep V r h hr
  have hE : Entry (V0 m c) (atK m 0 c) := entry (V0 m c)
  have hA := atK_At m c hE.at0 100 le_rfl
  have hp : ∀ j : Fin 100, (atK m 100 c (Proc.devRef .tc main_v80_5) : S100.Idx → BitVec 32) (ix1 j)
      = word (taken (inputs (V0 m c)) j.val) := fun j => by
    rw [hA.picks j j.isLt, boxes_eq hE]; rfl
  have k44 := atK_keeps m c 100 main_v44 (by decide +kernel) (by decide +kernel)
  have k62 := atK_keeps m c 100 main_v62 (by decide +kernel) (by decide +kernel)
  have k63 := atK_keeps m c 100 main_v63 (by decide +kernel) (by decide +kernel)
  rw [show finalContents condOps preI bodyI postI 100 m c = afterL postI (after condOps (atK m 100 c)) from rfl]
  simp only [afterL_cons, afterL_nil]
  set X0 := after condOps (atK m 100 c) with hX0
  have p0 : X0 (Proc.devRef .tc main_v80_5) = atK m 100 c (Proc.devRef .tc main_v80_5) := kp _ main_v80_5 condOps_writes (by decide +kernel)
  have b0 : X0 (Proc.devRef .tc main_v44) = atK m 0 c (Proc.devRef .tc main_v44) := (kp _ main_v44 condOps_writes (by decide +kernel)).trans k44
  have t0 : X0 (Proc.devRef .tc main_v62) = atK m 0 c (Proc.devRef .tc main_v62) := (kp _ main_v62 condOps_writes (by decide +kernel)).trans k62
  have c0 : X0 (Proc.devRef .tc main_v63) = atK m 0 c (Proc.devRef .tc main_v63) := (kp _ main_v63 condOps_writes (by decide +kernel)).trans k63
  refine ⟨fun y => ?_, ?_, ?_⟩
  · rw [kp _ main_v87 qD_writes (by decide +kernel), kp _ main_v87 qC_writes (by decide +kernel), kp _ main_v87 qB_writes (by decide +kernel),
      qA_87 X0 _ j _ _ p0 (hp j) b0 y]
    exact hE.box _ _
  · rw [kp _ main_v94 qD_writes (by decide +kernel), kp _ main_v94 qC_writes (by decide +kernel),
      qB_94 (after qA X0) _ j _ _ ((kp _ main_v80_5 qA_writes (by decide +kernel)).trans p0) (hp j)
        ((kp _ main_v63 qA_writes (by decide +kernel)).trans c0)]
    exact hE.cls _
  · have p2 : after qB (after qA X0) (Proc.devRef .tc main_v80_5) = atK m 100 c (Proc.devRef .tc main_v80_5) := by
      rw [kp _ main_v80_5 qB_writes (by decide +kernel), kp _ main_v80_5 qA_writes (by decide +kernel), p0]
    rw [qD_101 (after qC (after qB (after qA X0))) _ j _ _ ((kp _ main_v80_5 qC_writes (by decide +kernel)).trans p2) (hp j)
      ((qC_96 _).trans (by rw [p2]))
      (by rw [kp _ main_v62 qC_writes (by decide +kernel), kp _ main_v62 qB_writes (by decide +kernel), kp _ main_v62 qA_writes (by decide +kernel), t0])]
    exact hE.top _

end Cert.Proof.RefVal
-- ==== Proof.Scores.lean ====
/- The first call alone: what the array it writes ends holding, in terms of its four arguments. -/
module

public import proofs.«01_k».proof.Proof.Gen.ScoresIdeal.Value
public import proofs.«01_k».proof.Proof.PrepVal
public import Idealize.ShloMosaic.Lib.Pipeline.ValueKit.Geometry

@[expose] public section

set_option synthInstance.maxSize 4096

noncomputable section

namespace Cert.Proof.Scores

open Idealize.ShloMosaic Idealize.ShloMosaic.ValueIdx Idealize.ShloMosaic.TcCoe
open Cert.Proof.Core Cert.Proof.Model Cert.Proof.PrepVal
open Cert.ScoresIdeal Cert.ScoresIdeal.Gen

variable (m : (ℓ : Loc nD τ sig) → Buf (Elt Ideal) ℓ) (c : Dev nD)

/-- The four arguments, as the mathematics takes them. -/
def inputs : Inputs where
  lg n k := (m ((c : Thread nD τ).loc main_arg0) : S91x87296.Idx → EReal) (ix2 k n)
  ct n := (m ((c : Thread nD τ).loc main_arg1) : S1x87296.Idx → EReal) (ix2 0 n)
  an n y := (m ((c : Thread nD τ).loc main_arg2) : S4x87296.Idx → EReal) (ix2 y n)
  rg n y := (m ((c : Thread nD τ).loc main_arg3) : S4x87296.Idx → EReal) (ix2 y n)

/-- The location column `x` of block `t` is. -/
abbrev loc (t : Fin cfg0.N) (x : Fin 7936) : Fin N :=
  ⟨7936 * t.val + x.val, by have h : t.val < 11 := t.isLt; have := x.isLt; show _ < 87296; omega⟩

theorem index_eq : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) := by decide +kernel

/-- Where a window's block sits in its array. -/
theorem emb_0 (t : Fin cfg0.N) (k : Fin 91) (x : Fin 7936) :
    ((win0_0.blk t).view.emb (ix2 k x) : S91x87296.Idx) = ix2 k (loc t x) := by
  have h := (index_eq t).1
  funext a; refine Fin.ext ((win0_0.rect_emb_val t _ a).trans ?_)
  match a with
  | ⟨0, _⟩ => show win0_0.index t 0 * 91 + k.val = k.val; rw [h.1]; omega
  | ⟨1, _⟩ => show win0_0.index t 1 * 7936 + x.val = 7936 * t.val + x.val; rw [h.2]; omega

theorem emb_1 (t : Fin cfg0.N) (k : Fin 1) (x : Fin 7936) :
    ((win0_1.blk t).view.emb (ix2 k x) : S1x87296.Idx) = ix2 k (loc t x) := by
  have h := (index_eq t).2.1
  funext a; refine Fin.ext ((win0_1.rect_emb_val t _ a).trans ?_)
  match a with
  | ⟨0, _⟩ => show win0_1.index t 0 * 1 + k.val = k.val; rw [h.1]; omega
  | ⟨1, _⟩ => show win0_1.index t 1 * 7936 + x.val = 7936 * t.val + x.val; rw [h.2]; omega

theorem emb_2 (t : Fin cfg0.N) (k : Fin 4) (x : Fin 7936) :
    ((win0_2.blk t).view.emb (ix2 k x) : S4x87296.Idx) = ix2 k (loc t x) := by
  have h := (index_eq t).2.2.1
  funext a; refine Fin.ext ((win0_2.rect_emb_val t _ a).trans ?_)
  match a with
  | ⟨0, _⟩ => show win0_2.index t 0 * 4 + k.val = k.val; rw [h.1]; omega
  | ⟨1, _⟩ => show win0_2.index t 1 * 7936 + x.val = 7936 * t.val + x.val; rw [h.2]; omega

theorem emb_3 (t : Fin cfg0.N) (k : Fin 4) (x : Fin 7936) :
    ((win0_3.blk t).view.emb (ix2 k x) : S4x87296.Idx) = ix2 k (loc t x) := by
  have h := (index_eq t).2.2.2.1
  funext a; refine Fin.ext ((win0_3.rect_emb_val t _ a).trans ?_)
  match a with
  | ⟨0, _⟩ => show win0_3.index t 0 * 4 + k.val = k.val; rw [h.1]; omega
  | ⟨1, _⟩ => show win0_3.index t 1 * 7936 + x.val = 7936 * t.val + x.val; rw [h.2]; omega

theorem emb_4 (t : Fin cfg0.N) (k : Fin 10) (x : Fin 7936) :
    ((win0_4.blk t).view.emb (ix2 k x) : S10x87296.Idx) = ix2 k (loc t x) := by
  have h := (index_eq t).2.2.2.2
  funext a; refine Fin.ext ((win0_4.rect_emb_val t _ a).trans ?_)
  match a with
  | ⟨0, _⟩ => show win0_4.index t 0 * 10 + k.val = k.val; rw [h.1]; omega
  | ⟨1, _⟩ => show win0_4.index t 1 * 7936 + x.val = 7936 * t.val + x.val; rw [h.2]; omega

theorem blk_0 (t : Fin cfg0.N) (k : Fin 91) (x : Fin 7936) :
    (iblk m c 0 t : S91x7936.Idx → EReal) (ix2 k x) = (inputs m c).lg (loc t x) k := by
  show (m ((c : Thread nD τ).loc main_arg0) : S91x87296.Idx → EReal) ((win0_0.blk t).view.emb (ix2 k x)) = _
  rw [emb_0]; rfl
theorem blk_1 (t : Fin cfg0.N) (x : Fin 7936) :
    (iblk m c 1 t : S1x7936.Idx → EReal) (ix2 0 x) = (inputs m c).ct (loc t x) := by
  show (m ((c : Thread nD τ).loc main_arg1) : S1x87296.Idx → EReal) ((win0_1.blk t).view.emb (ix2 0 x)) = _
  rw [emb_1]; rfl
theorem blk_2 (t : Fin cfg0.N) (k : Fin 4) (x : Fin 7936) :
    (iblk m c 2 t : S4x7936.Idx → EReal) (ix2 k x) = (inputs m c).an (loc t x) k := by
  show (m ((c : Thread nD τ).loc main_arg2) : S4x87296.Idx → EReal) ((win0_2.blk t).view.emb (ix2 k x)) = _
  rw [emb_2]; rfl
theorem blk_3 (t : Fin cfg0.N) (k : Fin 4) (x : Fin 7936) :
    (iblk m c 3 t : S4x7936.Idx → EReal) (ix2 k x) = (inputs m c).rg (loc t x) k := by
  show (m ((c : Thread nD τ).loc main_arg3) : S4x87296.Idx → EReal) ((win0_3.blk t).view.emb (ix2 k x)) = _
  rw [emb_3]; rfl

/-- The payload is the one of the call inside the whole kernel, less its casts of a block to its own shape. -/
theorem pay_same (A : Vec Ideal S91x7936 .f32) (C : Vec Ideal S1x7936 .f32) (an rg : Vec Ideal S4x7936 .f32) :
    k0_pay1 A C an rg = Cert.KernelIdeal.Gen.k0_pay1 A C an rg := by
  have e : Cert.KernelIdeal.Gen.k0_pay1 A C an rg
      = k0_pay1 (shapeCast S91x7936 A Cert.KernelIdeal.Gen.shapeCasts_S91x7936_S91x7936)
        (shapeCast S1x7936 C Cert.KernelIdeal.Gen.shapeCasts_S1x7936_S1x7936)
        (shapeCast S4x7936 an Cert.KernelIdeal.Gen.shapeCasts_S4x7936_S4x7936)
        (shapeCast S4x7936 rg Cert.KernelIdeal.Gen.shapeCasts_S4x7936_S4x7936) := rfl
  rw [e, Idealize.ShloMosaic.shapeCast_self, Idealize.ShloMosaic.shapeCast_self, Idealize.ShloMosaic.shapeCast_self,
    Idealize.ShloMosaic.shapeCast_self]

/-- The block as written is the payload of the blocks as staged. -/
theorem out_eq (A : Vec Ideal S91x7936 .f32) (C : Vec Ideal S1x7936 .f32) (an rg : Vec Ideal S4x7936 .f32) :
    out0_4 A C an rg = Cert.KernelIdeal.Gen.k0_pay1 A C an rg := by
  unfold out0_4
  rw [show View.ld A r0_0 = A from Prep.ld_whole _ A, show View.ld C r0_1 = C from Prep.ld_whole _ C,
    show View.ld an r0_2 = an from Prep.ld_whole _ an, show View.ld rg r0_2 = rg from Prep.ld_whole _ rg]
  rw [pay_same]
  exact View.canon_cons_unit_lit (S := S10x7936) (off := ![0, 0]) inb_S10x7936_S10x7936_0_0 _ [] (by decide)

/-- The packed array's contents. -/
def packed (I : Inputs) : S10x87296.Idx → EReal := fun i => entry I (i 0) (i 1)

theorem result : (dats m 0 c).arrAt 4 cfg0.N = packed (inputs m c) := by
  refine (dats m 0 c).arrAt_eq_of_covers 4 (packed (inputs m c)) (by decide +kernel) (fun t _ y => ?_)
  show (dats m 0 c).after 4 t y = packed (inputs m c) ((win0_4.blk t).view.emb y)
  obtain ⟨p, x, rfl⟩ : ∃ (p : Fin 10) (x : Fin 7936), y = ix2 p x := ⟨_, _, eq_ix2 y⟩
  rw [emb_4, after0_4, out_eq]
  exact pay_entry _ _ _ _ _ (loc t x) x (fun k => blk_0 m c t k x) (blk_1 m c t x) (fun k => blk_2 m c t k x)
    (fun k => blk_3 m c t k x) p

end Cert.Proof.Scores
-- ==== Proof.ScoresRef.lean ====
/- The reference of the first call alone: its run, and the packed array it ends with. -/
module

public import proofs.«01_k».proof.Proof.Gen.ScoresReferenceIdeal
public import proofs.«01_k».proof.Proof.PrepVal
public import proofs.«01_k».proof.Proof.RefArg
public import Idealize.ShloMosaic.Lib.StableHlo.Run
public import Idealize.ShloMosaic.Lib.StableHlo.RunRead
public import Idealize.ShloMosaic.Lib.IdealHost
public import Idealize.ShloMosaic.Lib.PlanTiles.Rows

@[expose] public section

set_option maxRecDepth 4000

noncomputable section

namespace Cert.Proof.ScoresRef

open Cert.ScoresReferenceIdeal Cert.ScoresReferenceIdeal.Gen
open Idealize.ShloMosaic Idealize.ShloMosaic.ValueIdx Idealize.ShloMosaic.TcCoe Idealize.ShloMosaic.Tactic
open Idealize.ShloMosaic.StableHlo Idealize.SL.Sem
open Cert.Proof.Core Cert.Proof.Model Cert.Proof.PrepVal

/-! ## The run -/

section
variable {F : FTy → Type} [FloatOps F]

/-- The scores of every class. -/
abbrev sA : List (HloOp τ sig (Elt F)) :=
  [ StableHlo.unary main_arg0 main_v0 (Host.negf : (⟨S91x87296, .f32⟩ : BufTy).Contents (Elt F) → (⟨S91x87296, .f32⟩ : BufTy).Contents (Elt F)),
    StableHlo.unary main_v0 main_v1 (Host.exp : (⟨S91x87296, .f32⟩ : BufTy).Contents (Elt F) → (⟨S91x87296, .f32⟩ : BufTy).Contents (Elt F)),
    StableHlo.nullary main_cst (constant S_ .f32 0x3F800000#32),
    StableHlo.unary main_cst main_v2 (broadcastInDim S91x87296 ![] bcast_S_S91x87296 : (⟨S_, .f32⟩ : BufTy).Contents (Elt F) → (⟨S91x87296, .f32⟩ : BufTy).Contents (Elt F)),
    StableHlo.binary main_v2 main_v1 main_v3 (addf : (⟨S91x87296, .f32⟩ : BufTy).Contents (Elt F) → (⟨S91x87296, .f32⟩ : BufTy).Contents (Elt F) → (⟨S91x87296, .f32⟩ : BufTy).Contents (Elt F)),
    StableHlo.nullary main_cst_0 (constant S_ .f32 0x3F800000#32),
    StableHlo.unary main_cst_0 main_v4 (broadcastInDim S91x87296 ![] bcast_S_S91x87296 : (⟨S_, .f32⟩ : BufTy).Contents (Elt F) → (⟨S91x87296, .f32⟩ : BufTy).Contents (Elt F)),
    StableHlo.binary main_v4 main_v3 main_v5 (Host.divf : (⟨S91x87296, .f32⟩ : BufTy).Contents (Elt F) → (⟨S91x87296, .f32⟩ : BufTy).Contents (Elt F) → (⟨S91x87296, .f32⟩ : BufTy).Contents (Elt F)),
    StableHlo.unary main_arg1 main_v6 (Host.negf : (⟨S1x87296, .f32⟩ : BufTy).Contents (Elt F) → (⟨S1x87296, .f32⟩ : BufTy).Contents (Elt F)),
    StableHlo.unary main_v6 main_v7 (Host.exp : (⟨S1x87296, .f32⟩ : BufTy).Contents (Elt F) → (⟨S1x87296, .f32⟩ : BufTy).Contents (Elt F)),
    StableHlo.nullary main_cst_1 (constant S_ .f32 0x3F800000#32),
    StableHlo.unary main_cst_1 main_v8 (broadcastInDim S1x87296 ![] bcast_S_S1x87296 : (⟨S_, .f32⟩ : BufTy).Contents (Elt F) → (⟨S1x87296, .f32⟩ : BufTy).Contents (Elt F)),
    StableHlo.binary main_v8 main_v7 main_v9 (addf : (⟨S1x87296, .f32⟩ : BufTy).Contents (Elt F) → (⟨S1x87296, .f32⟩ : BufTy).Contents (Elt F) → (⟨S1x87296, .f32⟩ : BufTy).Contents (Elt F)),
    StableHlo.nullary main_cst_2 (constant S_ .f32 0x3F800000#32),
    StableHlo.unary main_cst_2 main_v10 (broadcastInDim S1x87296 ![] bcast_S_S1x87296 : (⟨S_, .f32⟩ : BufTy).Contents (Elt F) → (⟨S1x87296, .f32⟩ : BufTy).Contents (Elt F)),
    StableHlo.binary main_v10 main_v9 main_v11 (Host.divf : (⟨S1x87296, .f32⟩ : BufTy).Contents (Elt F) → (⟨S1x87296, .f32⟩ : BufTy).Contents (Elt F) → (⟨S1x87296, .f32⟩ : BufTy).Contents (Elt F)),
    StableHlo.unary main_v11 main_v12 (broadcastInDim S91x87296 ![0, 1] bcast_S1x87296_S91x87296_0_1 : (⟨S1x87296, .f32⟩ : BufTy).Contents (Elt F) → (⟨S91x87296, .f32⟩ : BufTy).Contents (Elt F)),
    StableHlo.binary main_v5 main_v12 main_v13 (mulf : (⟨S91x87296, .f32⟩ : BufTy).Contents (Elt F) → (⟨S91x87296, .f32⟩ : BufTy).Contents (Elt F) → (⟨S91x87296, .f32⟩ : BufTy).Contents (Elt F)),
    StableHlo.unary main_v13 main_v14 (Host.sqrt : (⟨S91x87296, .f32⟩ : BufTy).Contents (Elt F) → (⟨S91x87296, .f32⟩ : BufTy).Contents (Elt F)) ]

theorem sA_sub : (sA : List (HloOp τ sig (Elt F))).Forall fun op => op.bufs ⊆ StableHlo.tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub ..⟩

/-- The labels: the call of @argmax. -/
abbrev sB : List (HloOp τ sig (Elt F)) :=
  [ StableHlo.TRef.nullary (.of main_call0_v0 : StableHlo.TRef sig ⟨S91x87296, .i32⟩) (iotaInDim S91x87296 32 0),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v14 : StableHlo.TRef sig ⟨S91x87296, .f32⟩) (.of main_call0_v0 : StableHlo.TRef sig ⟨S91x87296, .i32⟩) (.of main_call0_cst : StableHlo.TRef sig ⟨S_, .f32⟩) (.of main_call0_c : StableHlo.TRef sig ⟨S_, .i32⟩) (.of main_call0_v1_0 : StableHlo.TRef sig ⟨S87296, .f32⟩) (fun x y u v j => (Host.argReduce reducer_argmax_f32_i32 x y u v reducesTo_S91x87296_S87296_d0 h_S_ j).1),
    StableHlo.TRef.quaternary (.of main_v14 : StableHlo.TRef sig ⟨S91x87296, .f32⟩) (.of main_call0_v0 : StableHlo.TRef sig ⟨S91x87296, .i32⟩) (.of main_call0_cst : StableHlo.TRef sig ⟨S_, .f32⟩) (.of main_call0_c : StableHlo.TRef sig ⟨S_, .i32⟩) (.of main_v15 : StableHlo.TRef sig ⟨S87296, .i32⟩) (fun x y u v j => (Host.argReduce reducer_argmax_f32_i32 x y u v reducesTo_S91x87296_S87296_d0 h_S_ j).2) ]

theorem sB_sub : (sB : List (HloOp τ sig (Elt F))).Forall fun op => op.bufs ⊆ StableHlo.tcRefs τ sig :=
  ⟨nullary_bufs_sub .., nullary_bufs_sub .., nullary_bufs_sub .., quaternary_bufs_sub .., quaternary_bufs_sub ..⟩

/-- The largest scores, and the labels as floats. -/
abbrev sC : List (HloOp τ sig (Elt F)) :=
  [ StableHlo.nullary main_cst_3 (constant S_ .f32 0xFF800000#32),
    StableHlo.binary main_v14 main_cst_3 main_v16 ((fun x v => Host.reduce FloatOps.maximumf x v reducesTo_S91x87296_S87296_d0 h_S_) : (⟨S91x87296, .f32⟩ : BufTy).Contents (Elt F) → (⟨S_, .f32⟩ : BufTy).Contents (Elt F) → (⟨S87296, .f32⟩ : BufTy).Contents (Elt F)),
    StableHlo.unary main_v16 main_v17 (broadcastInDim S1x87296 ![1] bcast_S87296_S1x87296_1 : (⟨S87296, .f32⟩ : BufTy).Contents (Elt F) → (⟨S1x87296, .f32⟩ : BufTy).Contents (Elt F)),
    StableHlo.unary main_v15 main_v18 (sitofp .f32 : (⟨S87296, .i32⟩ : BufTy).Contents (Elt F) → (⟨S87296, .f32⟩ : BufTy).Contents (Elt F)),
    StableHlo.unary main_v18 main_v19 (broadcastInDim S1x87296 ![1] bcast_S87296_S1x87296_1 : (⟨S87296, .f32⟩ : BufTy).Contents (Elt F) → (⟨S1x87296, .f32⟩ : BufTy).Contents (Elt F)) ]

theorem sC_sub : (sC : List (HloOp τ sig (Elt F))).Forall fun op => op.bufs ⊆ StableHlo.tcRefs τ sig :=
  ⟨nullary_bufs_sub .., binary_bufs_sub .., unary_bufs_sub .., unary_bufs_sub .., unary_bufs_sub ..⟩

/-- The packed array. -/
abbrev sD : List (HloOp τ sig (Elt F)) :=
  [ StableHlo.nary ![main_arg2, main_arg3, main_v17, main_v19] main_v20 (fun u => (concatenate S10x87296 0 [⟨S4x87296, (u 0 : (⟨S4x87296, .f32⟩ : BufTy).Contents (Elt F))⟩, ⟨S4x87296, (u 1 : (⟨S4x87296, .f32⟩ : BufTy).Contents (Elt F))⟩, ⟨S1x87296, (u 2 : (⟨S1x87296, .f32⟩ : BufTy).Contents (Elt F))⟩, ⟨S1x87296, (u 3 : (⟨S1x87296, .f32⟩ : BufTy).Contents (Elt F))⟩] concatenates_S4x87296_S4x87296_S1x87296_S1x87296_S10x87296_d0 : (⟨S10x87296, .f32⟩ : BufTy).Contents (Elt F))) ]

theorem sD_sub : (sD : List (HloOp τ sig (Elt F))).Forall fun op => op.bufs ⊆ StableHlo.tcRefs τ sig :=
  nary_bufs_sub ..

/-- The whole program. -/
abbrev ops : List (HloOp τ sig (Elt F)) := sA ++ (sB ++ (sC ++ sD))

theorem main_eq (c : Dev nD) : main (F := F) c = seq ops := rfl

theorem ops_sub : (ops : List (HloOp τ sig (Elt F))).Forall fun op => op.bufs ⊆ StableHlo.tcRefs τ sig :=
  List.forall_append.2 ⟨sA_sub, List.forall_append.2 ⟨sB_sub, List.forall_append.2 ⟨sC_sub, sD_sub⟩⟩⟩

theorem scopedRefs : (Finset.univ.filter fun b : Ref sig .tc => b.isScoped) = ∅ := by decide
theorem scopedSems : (Finset.univ.filter fun sm : SemLoc sig => sm.isScoped .tc) = ∅ := by decide

/-- Every buffer ends at the fold of the operations over its launch contents. -/
theorem run (m : (ℓ : Loc nD τ sig) → Buf (Elt F) ℓ) (ρ : Dev nD → PrngReg) :
    θ_run (defs (F := F)) (onTc (τ := τ) (main (F := F))) ⟨m, fun _ => 0, ρ⟩ fun r => ∀ (c : Dev nD) (b : Ref sig .tc),
      r.2.mem ((c.tc : Thread nD τ).loc b) = after sD (after sC (after sB (after sA (launchContents m c)))) (Proc.devRef .tc b) :=
  (θ_run _ _ _).mono (fun _ h c b => (h c b).trans (by rw [ops, after_append, after_append, after_append]))
    (run_seq scopedRefs scopedSems defs main (fun _ => ops) main_eq (fun _ => ops_sub) m ρ)
end

/-! ## The values -/

abbrev Val := Valuation τ sig (Elt Ideal)

theorem wide_apply (v : S1x87296.Idx → EReal) (k : Fin 91) (n : Fin N) :
    broadcastInDim S91x87296 ![0, 1] bcast_S1x87296_S91x87296_0_1 v (ix2 k n) = v (ix2 0 n) :=
  broadcastInDim_apply _ _ v _ (ix2 0 n) (fun a => by match a with | ⟨0, _⟩ => rfl | ⟨1, _⟩ => rfl)

/-- A vector as one row. -/
theorem row_apply (v : S87296.Idx → EReal) (n : Fin N) :
    broadcastInDim S1x87296 ![1] bcast_S87296_S1x87296_1 v (ix2 0 n) = v (ix1 n) :=
  broadcastInDim_apply _ _ v _ (ix1 n) (fun a => by match a with | ⟨0, _⟩ => rfl)

/-- The score of a class at a location. -/
theorem sA_14 (X : Val) (l : S91x87296.Idx → EReal) (hl : X (Proc.devRef .tc main_arg0) = l) (q : S1x87296.Idx → EReal)
    (hq : X (Proc.devRef .tc main_arg1) = q) (k : Fin 91) (n : Fin N) :
    (after sA X (Proc.devRef .tc main_v14) : S91x87296.Idx → EReal) (ix2 k n)
      = Ideal.sqrt (Ideal.logistic (l (ix2 k n)) * Ideal.logistic (q (ix2 0 n))) := by
  after_results
  rw [hl, hq]
  show Ideal.sqrt (Ideal.div (Ideal.ofBits .f32 0x3F800000#32) (Ideal.ofBits .f32 0x3F800000#32 + Ideal.exp (-(l (ix2 k n))))
    * broadcastInDim S91x87296 ![0, 1] bcast_S1x87296_S91x87296_0_1
      (fun i => Ideal.div (Ideal.ofBits .f32 0x3F800000#32) (Ideal.ofBits .f32 0x3F800000#32 + Ideal.exp (-(q i))) : S1x87296.Idx → EReal)
      (ix2 k n)) = _
  rw [wide_apply, Ideal.ofBits_one_f32]; rfl

theorem sA_arg2 (X : Val) : after sA X (Proc.devRef .tc main_arg2) = X (Proc.devRef .tc main_arg2) := by after_results
theorem sA_arg3 (X : Val) : after sA X (Proc.devRef .tc main_arg3) = X (Proc.devRef .tc main_arg3) := by after_results
theorem sB_arg2 (X : Val) : after sB X (Proc.devRef .tc main_arg2) = X (Proc.devRef .tc main_arg2) := by after_results
theorem sB_arg3 (X : Val) : after sB X (Proc.devRef .tc main_arg3) = X (Proc.devRef .tc main_arg3) := by after_results
theorem sB_14 (X : Val) : after sB X (Proc.devRef .tc main_v14) = X (Proc.devRef .tc main_v14) := by after_results

theorem kept_arg0 (X : Val) : after sD (after sC (after sB (after sA X))) (Proc.devRef .tc main_arg0) = X (Proc.devRef .tc main_arg0) := by after_results
theorem kept_arg1 (X : Val) : after sD (after sC (after sB (after sA X))) (Proc.devRef .tc main_arg1) = X (Proc.devRef .tc main_arg1) := by after_results
theorem kept_arg2 (X : Val) : after sD (after sC (after sB (after sA X))) (Proc.devRef .tc main_arg2) = X (Proc.devRef .tc main_arg2) := by after_results
theorem kept_arg3 (X : Val) : after sD (after sC (after sB (after sA X))) (Proc.devRef .tc main_arg3) = X (Proc.devRef .tc main_arg3) := by after_results

theorem drop_col (n : Fin N) (k : Fin 91) : reducesTo_S91x87296_S87296_d0.drop (ix2 k n) = ix1 n := by
  funext a
  match a with
  | ⟨0, _⟩ => exact Fin.ext (Shape.ReducesTo.drop_apply_val_of_eq reducesTo_S91x87296_S87296_d0 (ix2 k n) 0 1)

theorem eq_col (n : Fin N) (i : S91x87296.Idx) (hi : reducesTo_S91x87296_S87296_d0.drop i = ix1 n) : i = ix2 (i 0) n := by
  have h := Shape.ReducesTo.drop_apply_val_of_eq reducesTo_S91x87296_S87296_d0 i 0 1
  rw [hi] at h
  have h1 : i 1 = n := Fin.ext h.symm
  rw [← h1]
  exact eq_ix2 i

/-- The first class of the largest score. -/
theorem sB_15 (X : Val) (q : S91x87296.Idx → EReal) (hq : X (Proc.devRef .tc main_v14) = q) (n : Fin N) :
    (after sB X (Proc.devRef .tc main_v15) : S87296.Idx → BitVec 32) (ix1 n)
      = BitVec.ofNat 32 (best (N := 91) (by decide) fun k => q (ix2 k n)).val := by
  have key : after sB X (Proc.devRef .tc main_v15) = (fun j => (Host.argReduce reducer_argmax_f32_i32 q (iotaInDim S91x87296 32 0)
      (constant (F := Ideal) S_ .f32 0xFF800000#32) (constantI S_ 32 0#32) reducesTo_S91x87296_S87296_d0 h_S_ j).2 : S87296.Idx → BitVec 32) := by
    after_results
    rw [hq]
    rfl
  rw [key]
  obtain ⟨k, hk, he⟩ := RefArg.argReduce_best (n := 91) (by decide) (by decide) q
    (iotaInDim S91x87296 32 0) (constant (F := Ideal) S_ .f32 0xFF800000#32) (constantI S_ 32 0#32) reducesTo_S91x87296_S87296_d0 h_S_ (ix1 n)
    (fun k => ix2 k n) (fun _ => ofBits_negInf) (fun _ => rfl)
    (fun k => drop_col n k) (fun i hi => ⟨i 0, eq_col n i hi⟩) (fun _ => rfl)
  rw [← hk.eq_best (by decide)]
  exact he

/-- A maximum over the classes. -/
theorem reduce_max (q : S91x87296.Idx → EReal) (n : Fin N) :
    Host.reduce (FloatOps.maximumf (F := Ideal) (φ := .f32)) q (constant (F := Ideal) S_ .f32 0xFF800000#32) reducesTo_S91x87296_S87296_d0 h_S_ (ix1 n)
      = (Finset.univ : Finset (Fin 91)).fold max ⊥ fun k => q (ix2 k n) := by
  have hr : S91x87296.Reduces [0] S87296 := by decide
  refine (Host.reduce_eq_fold_single (a := 0) (max : EReal → EReal → EReal) q _ reducesTo_S91x87296_S87296_d0 hr h_S_ (ix1 n)).trans ?_
  show Finset.fold max (Ideal.ofBits .f32 0xFF800000#32) _ _ = _
  rw [ofBits_negInf]
  refine congrArg (fun f => Finset.fold max ⊥ f Finset.univ) (funext fun k => ?_)
  exact congrArg q (funext fun d => by match d with | ⟨0, _⟩ => rfl | ⟨1, _⟩ => rfl)

/-- The four pieces of the packed array. -/
abbrev pieces (a r : S4x87296.Idx → EReal) (q : S91x87296.Idx → EReal) (b : S87296.Idx → BitVec 32) :
    List ((s : Shape) × (s.Idx → EReal)) :=
  [⟨S4x87296, a⟩, ⟨S4x87296, r⟩,
    ⟨S1x87296, broadcastInDim S1x87296 ![1] bcast_S87296_S1x87296_1
      (Host.reduce (FloatOps.maximumf (F := Ideal) (φ := .f32)) q (constant (F := Ideal) S_ .f32 0xFF800000#32) reducesTo_S91x87296_S87296_d0 h_S_)⟩,
    ⟨S1x87296, broadcastInDim S1x87296 ![1] bcast_S87296_S1x87296_1 (sitofp (F := Ideal) .f32 b)⟩]

theorem sC_17 (X : Val) (q : S91x87296.Idx → EReal) (hq : X (Proc.devRef .tc main_v14) = q) :
    after sC X (Proc.devRef .tc main_v17) = (broadcastInDim S1x87296 ![1] bcast_S87296_S1x87296_1
      (Host.reduce (FloatOps.maximumf (F := Ideal) (φ := .f32)) q (constant (F := Ideal) S_ .f32 0xFF800000#32)
        reducesTo_S91x87296_S87296_d0 h_S_) : S1x87296.Idx → EReal) := by
  after_results
  rw [hq]
theorem sC_19 (X : Val) (b : S87296.Idx → BitVec 32) (hb : X (Proc.devRef .tc main_v15) = b) :
    after sC X (Proc.devRef .tc main_v19)
      = (broadcastInDim S1x87296 ![1] bcast_S87296_S1x87296_1 (sitofp (F := Ideal) .f32 b) : S1x87296.Idx → EReal) := by
  after_results
  rw [hb]
theorem sC_arg2 (X : Val) : after sC X (Proc.devRef .tc main_arg2) = X (Proc.devRef .tc main_arg2) := by after_results
theorem sC_arg3 (X : Val) : after sC X (Proc.devRef .tc main_arg3) = X (Proc.devRef .tc main_arg3) := by after_results

/-- The last operation's result. -/
theorem sD_20 (X : Val) (a r : S4x87296.Idx → EReal) (u v : S1x87296.Idx → EReal) (ha : X (Proc.devRef .tc main_arg2) = a)
    (hr : X (Proc.devRef .tc main_arg3) = r) (hu : X (Proc.devRef .tc main_v17) = u) (hv : X (Proc.devRef .tc main_v19) = v) :
    after sD X (Proc.devRef .tc main_v20)
      = (concatenate S10x87296 0 [⟨S4x87296, a⟩, ⟨S4x87296, r⟩, ⟨S1x87296, u⟩, ⟨S1x87296, v⟩]
          concatenates_S4x87296_S4x87296_S1x87296_S1x87296_S10x87296_d0 : S10x87296.Idx → EReal) := by
  subst ha hr hu hv
  after_results
  rfl

theorem sC_20 (X : Val) (a r : S4x87296.Idx → EReal) (ha : X (Proc.devRef .tc main_arg2) = a) (hr : X (Proc.devRef .tc main_arg3) = r)
    (q : S91x87296.Idx → EReal) (hq : X (Proc.devRef .tc main_v14) = q) (b : S87296.Idx → BitVec 32) (hb : X (Proc.devRef .tc main_v15) = b) :
    after sD (after sC X) (Proc.devRef .tc main_v20)
      = (concatenate S10x87296 0 (pieces a r q b) concatenates_S4x87296_S4x87296_S1x87296_S1x87296_S10x87296_d0 : S10x87296.Idx → EReal) :=
  sD_20 (after sC X) _ _ _ _ ((sC_arg2 X).trans ha) ((sC_arg3 X).trans hr) (sC_17 X q hq) (sC_19 X b hb)

theorem off {w : ℕ} (y : Fin w) (p : Fin 10) (n : Fin N) (d : Fin (Shape.mk 2 ![w, 87296]).rank)
    (hd : d.cast (rfl : (Shape.mk 2 ![w, 87296]).rank = S10x87296.rank) ≠ (0 : Fin S10x87296.rank)) :
    ((ix2 y n : (Shape.mk 2 ![w, 87296]).Idx) d).val = ((ix2 p n : S10x87296.Idx) (d.cast rfl)).val :=
  match d, hd with | ⟨0, _⟩, hd => absurd rfl hd | ⟨1, _⟩, _ => rfl

/-- The four arguments, as the mathematics takes them. -/
def inputs (V : Val) : Inputs where
  lg n k := (V (Proc.devRef .tc main_arg0) : S91x87296.Idx → EReal) (ix2 k n)
  ct n := (V (Proc.devRef .tc main_arg1) : S1x87296.Idx → EReal) (ix2 0 n)
  an n y := (V (Proc.devRef .tc main_arg2) : S4x87296.Idx → EReal) (ix2 y n)
  rg n y := (V (Proc.devRef .tc main_arg3) : S4x87296.Idx → EReal) (ix2 y n)

/-- The packed array's entries. -/
theorem packed_entry (V : Val) (p : Fin 10) (n : Fin N) :
    (after sD (after sC (after sB (after sA V))) (Proc.devRef .tc main_v20) : S10x87296.Idx → EReal) (ix2 p n) = entry (inputs V) p n := by
  have hs : (fun k => (after sA V (Proc.devRef .tc main_v14) : S91x87296.Idx → EReal) (ix2 k n)) = prob (inputs V) n :=
    funext fun k => sA_14 V _ rfl _ rfl k n
  have hb := sB_15 (after sA V) _ rfl n
  rw [hs] at hb
  rw [sC_20 (after sB (after sA V)) _ _ ((sB_arg2 _).trans (sA_arg2 V)) ((sB_arg3 _).trans (sA_arg3 V)) _ (sB_14 _) _ rfl]
  unfold entry
  by_cases h4 : p.val < 4
  · rw [dif_pos h4]
    exact concatenate_apply_piece (t := S10x87296) 0 (pieces _ _ _ _) _ (ix2 p n) 0 (by show 0 < 4; omega) S4x87296
      _ rfl rfl 0 rfl (ix2 ⟨p.val, h4⟩ n) (off _ p n) (Nat.zero_add _)
  rw [dif_neg h4]
  by_cases h8 : p.val < 8
  · rw [dif_pos h8]
    exact concatenate_apply_piece (t := S10x87296) 0 (pieces _ _ _ _) _ (ix2 p n) 1 (by show 1 < 4; omega) S4x87296
      _ rfl rfl 4 rfl (ix2 ⟨p.val - 4, by omega⟩ n) (off _ p n) (by show 4 + (p.val - 4) = p.val; omega)
  rw [dif_neg h8]
  by_cases h : p.val = 8
  · rw [if_pos h]
    refine (concatenate_apply_piece (t := S10x87296) 0 (pieces _ _ _ _) _ (ix2 p n) 2 (by show 2 < 4; omega) S1x87296
      _ rfl rfl 8 rfl (ix2 0 n) (off _ p n) (by show 8 + 0 = p.val; omega)).trans ?_
    exact (row_apply _ n).trans ((reduce_max _ n).trans (congrArg (fun f => (Finset.univ : Finset (Fin 91)).fold max ⊥ f) hs))
  · rw [if_neg h]
    refine (concatenate_apply_piece (t := S10x87296) 0 (pieces _ _ _ _) _ (ix2 p n) 3 (by show 3 < 4; omega) S1x87296
      _ rfl rfl 9 rfl (ix2 0 n) (off _ p n) (by show 9 + 0 = p.val; omega)).trans ?_
    refine (row_apply _ n).trans ?_
    exact congrArg (fun z : BitVec 32 => ((z.toInt : ℝ) : EReal)) hb

end Cert.Proof.ScoresRef
-- ==== Proof.lean ====
module

public import proofs.«01_k».proof.Defs
public import proofs.«01_k».proof.Proof.Frames
public import proofs.«01_k».proof.Proof.KernelOut
public import proofs.«01_k».proof.Proof.RefVal
public import proofs.«01_k».proof.Proof.Gen.Scores.Frame
public import proofs.«01_k».proof.Proof.Scores
public import proofs.«01_k».proof.Proof.ScoresRef
public import Idealize.ShloMosaic.Adequacy
public import Idealize.ShloMosaic.Init

@[expose] public section

noncomputable section

namespace Cert.Proof

open Idealize.ShloMosaic Idealize.ShloMosaic.TcCoe Idealize.ShloMosaic.ValueIdx
open Idealize.SL.Sem
open Cert.Proof.Core Cert.Proof.Model

theorem frame_kernel : Cert.quiescent_KernelIdeal (hKernelIdeal := Cert.KernelIdeal.Gen.facts) :=
  fun m g _ => (θ_run _ _ _).mono (fun _ h => ⟨fun c => KRun.args m c (h.1 c), h.2⟩) (KRun.run m g)

theorem frame_reference : Cert.quiescent_ReferenceIdeal (hReferenceIdeal := Cert.ReferenceIdeal.Gen.facts) :=
  fun m g _ => (θ_run _ _ _).mono (fun _ h => ⟨fun c => Ref.args m c (h c), Ref.no_sems _⟩) (Ref.run_fold m g)

section
open Cert.ReferenceIdeal.Gen Cert.Proof.Ref Idealize.ShloMosaic.Rounds Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's buffers at its end. -/
abbrev refEnd := finalContents condOps preI bodyI postI 100 m' c

/-- The reference's results are the kernel's, from equal inputs. -/
theorem equal_results (hI : RefVal.inputs (RefVal.V0 m' c) = KVal.inputs (Cert.KernelIdeal.Gen.V0 m c)) :
    (refEnd m' c (Proc.devRef .tc Cert.ReferenceIdeal.main_v87) : Cert.ReferenceIdeal.S100x4.Idx → EReal)
        = (KRun.W5 m c (Proc.devRef .tc Cert.KernelIdeal.main_v8) : Cert.KernelIdeal.S100x4.Idx → EReal)
    ∧ (refEnd m' c (Proc.devRef .tc Cert.ReferenceIdeal.main_v94) : Cert.ReferenceIdeal.S100.Idx → BitVec 32)
        = (KRun.W5 m c (Proc.devRef .tc Cert.KernelIdeal.main_v13) : Cert.KernelIdeal.S100.Idx → BitVec 32)
    ∧ (refEnd m' c (Proc.devRef .tc Cert.ReferenceIdeal.main_v101) : Cert.ReferenceIdeal.S100.Idx → EReal)
        = (KRun.W5 m c (Proc.devRef .tc Cert.KernelIdeal.main_v10) : Cert.KernelIdeal.S100.Idx → EReal) := by
  refine ⟨funext fun i => ?_, funext fun i => ?_, funext fun i => ?_⟩
  · obtain ⟨j, y, rfl⟩ : ∃ (j : Fin 100) (y : Fin 4), i = ix2 j y := ⟨_, _, eq_ix2 i⟩
    refine ((RefVal.results m' c j).1 y).trans (Eq.trans ?_ ((KVal.results m c j).1 y).symm)
    rw [hI]
  · obtain ⟨j, rfl⟩ : ∃ j : Fin 100, i = ix1 j := ⟨_, eq_ix1 i⟩
    refine (RefVal.results m' c j).2.1.trans (Eq.trans ?_ (KVal.results m c j).2.1.symm)
    rw [hI]
  · obtain ⟨j, rfl⟩ : ∃ j : Fin 100, i = ix1 j := ⟨_, eq_ix1 i⟩
    refine (RefVal.results m' c j).2.2.trans (Eq.trans ?_ (KVal.results m c j).2.2.symm)
    rw [hI]
end

theorem algebraic : Cert.algebraic_KernelIdeal_ReferenceIdeal (hKernelIdeal := Cert.KernelIdeal.Gen.facts)
    (hReferenceIdeal := Cert.ReferenceIdeal.Gen.facts) := by
  intro m g m' g' _ hargs
  have hI : ∀ c, RefVal.inputs (RefVal.V0 m' c) = KVal.inputs (Cert.KernelIdeal.Gen.V0 m c) := fun c => by
    obtain ⟨h0, h1, h2, h3⟩ := hargs c
    exact Inputs.ext (funext fun n => funext fun k => congrFun h0 (ix2 n k)) (funext fun n => congrFun h2 (ix2 n 0))
      (funext fun n => funext fun y => congrFun h3 (ix2 n y)) (funext fun n => funext fun y => congrFun h1 (ix2 n y))
  refine ⟨fun c => KRun.W5 m c (Proc.devRef .tc Cert.KernelIdeal.main_v8), fun c => KRun.W5 m c (Proc.devRef .tc Cert.KernelIdeal.main_v13),
    fun c => KRun.W5 m c (Proc.devRef .tc Cert.KernelIdeal.main_v10), ?_, ?_⟩
  · exact (θ_run _ _ _).mono (fun _ h c => ⟨h.1 c _ (by decide), h.1 c _ (by decide), h.1 c _ (by decide), KRun.args m c (h.1 c)⟩) (KRun.run m g)
  · exact (θ_run _ _ _).mono (fun _ h c => ⟨(h c _ (by decide)).trans (equal_results m m' c (hI c)).1,
      (h c _ (by decide)).trans (equal_results m m' c (hI c)).2.1,
      (h c _ (by decide)).trans (equal_results m m' c (hI c)).2.2, Ref.args m' c (h c)⟩) (Ref.run_fold m' g')

/-! ## The first call alone -/

theorem frame_scores : Cert.quiescent_Scores (hScores := Cert.Scores.Gen.facts) := fun m g _ => Cert.Scores.Gen.frame m g

theorem frame_scoresIdeal : Cert.quiescent_ScoresIdeal (hScoresIdeal := Cert.ScoresIdeal.Gen.facts) :=
  fun m g _ => Cert.ScoresIdeal.Gen.frame m g

section
open Cert.ScoresReferenceIdeal Idealize.ShloMosaic.StableHlo

theorem scoresReference_args (m : (ℓ : Loc nD τ sig) → Buf (Elt Ideal) ℓ) {r : MemSt nD τ sig (Elt Ideal)}
    (h : ∀ (c : Dev nD) (b : Ref sig .tc), r.mem ((c.tc : Thread nD τ).loc b)
      = after ScoresRef.sD (after ScoresRef.sC (after ScoresRef.sB (after ScoresRef.sA (launchContents m c)))) (Proc.devRef .tc b)) (c : Dev nD) :
    r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3) :=
  ⟨(h c main_arg0).trans (ScoresRef.kept_arg0 _), (h c main_arg1).trans (ScoresRef.kept_arg1 _),
    (h c main_arg2).trans (ScoresRef.kept_arg2 _), (h c main_arg3).trans (ScoresRef.kept_arg3 _)⟩
end

theorem frame_scoresReference : Cert.quiescent_ScoresReferenceIdeal (hScoresReferenceIdeal := Cert.ScoresReferenceIdeal.Gen.facts) :=
  fun m g _ => (θ_run _ _ _).mono (fun _ h => ⟨scoresReference_args m h, sem_eq_zero_of_no_sems (by decide) _⟩) (ScoresRef.run m g)

theorem preserves_scores : Cert.preserves_Scores_ScoresIdeal := trivial

theorem algebraic_scores : Cert.algebraic_ScoresIdeal_ScoresReferenceIdeal (hScoresIdeal := Cert.ScoresIdeal.Gen.facts)
    (hScoresReferenceIdeal := Cert.ScoresReferenceIdeal.Gen.facts) := by
  intro m g m' g' _ hargs
  refine ⟨fun c => Scores.packed (Scores.inputs m c), ?_, ?_⟩
  · exact (θ_run _ _ _).mono (fun _ h c => ⟨(h c).1.trans (Scores.result m c), (h c).2⟩) (Cert.ScoresIdeal.Value.run_blocks m g)
  · refine (θ_run _ _ _).mono (fun _ h c => ⟨(h c _).trans (funext fun i => ?_), scoresReference_args m' h c⟩) (ScoresRef.run m' g')
    obtain ⟨p, n, rfl⟩ : ∃ (p : Fin 10) (n : Fin N), i = ix2 p n := ⟨_, _, eq_ix2 i⟩
    obtain ⟨h0, h1, h2, h3⟩ := hargs c
    have hI : ScoresRef.inputs (Idealize.ShloMosaic.StableHlo.launchContents m' c) = Scores.inputs m c :=
      Inputs.ext (funext fun n => funext fun k => congrFun h0 (ix2 k n)) (funext fun n => congrFun h1 (ix2 0 n))
        (funext fun n => funext fun y => congrFun h2 (ix2 y n)) (funext fun n => funext fun y => congrFun h3 (ix2 y n))
    exact (ScoresRef.packed_entry _ p n).trans (congrArg (fun I => PrepVal.entry I p n) hI)

theorem claim : Cert.Claim :=
  ⟨Cert.KernelIdeal.Gen.facts, Cert.ReferenceIdeal.Gen.facts, Cert.Scores.Gen.facts, Cert.ScoresIdeal.Gen.facts,
    Cert.ScoresReferenceIdeal.Gen.facts, frame_kernel, frame_reference, frame_scores, frame_scoresIdeal, frame_scoresReference,
    algebraic, preserves_scores, algebraic_scores⟩

end Cert.Proof

end
